-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024x1024 : Shape := ⟨3, ![64, 1024, 1024]⟩
abbrev S64x16x2x16x2x16x32x2 : Shape := ⟨8, ![64, 16, 2, 16, 2, 16, 32, 2]⟩
abbrev S64x256x256 : Shape := ⟨3, ![64, 256, 256]⟩
abbrev S16x2x16x16x2 : Shape := ⟨5, ![16, 2, 16, 16, 2]⟩
abbrev S16x2x16x2 : Shape := ⟨4, ![16, 2, 16, 2]⟩
abbrev S16x256 : Shape := ⟨2, ![16, 256]⟩
abbrev S_ : Shape := ⟨0, ![]⟩
abbrev S16 : Shape := ⟨1, ![16]⟩
abbrev S1x1x1x16x2x16x16x2 : Shape := ⟨8, ![1, 1, 1, 16, 2, 16, 16, 2]⟩
abbrev S1x1x1x16x2x1x16x2 : Shape := ⟨8, ![1, 1, 1, 16, 2, 1, 16, 2]⟩
abbrev S1x16 : Shape := ⟨2, ![1, 16]⟩
abbrev S1x16x256 : Shape := ⟨3, ![1, 16, 256]⟩

abbrev nBuf : Table → Nat
  | .hbm => 3
  | .local .scVector .vmem => 3
  | _ => 0

abbrev bufTy : (tb : Table) → Fin (nBuf tb) → BufTy
  | .hbm, ⟨0, _⟩ => ⟨S64x1024x1024, .f32⟩
  | .hbm, ⟨1, _⟩ => ⟨S64x16x2x16x2x16x32x2, .f32⟩
  | .hbm, ⟨2, _⟩ => ⟨S64x256x256, .f32⟩
  | .local .scVector .vmem, ⟨0, _⟩ => ⟨S16x2x16x16x2, .f32⟩
  | .local .scVector .vmem, ⟨1, _⟩ => ⟨S16x2x16x2, .f32⟩
  | .local .scVector .vmem, ⟨2, _⟩ => ⟨S16x256, .f32⟩
  | _, _ => ⟨S64x1024x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32 : BitVec 32 := 32#32
  let v5 : BitVec 32 := Scalar.addi c0_i32_1 c32_i32
  let c1_i32_2 : BitVec 32 := 1#32
  ⟨c0_i32_1, v5, c1_i32_2⟩
def k0_off1 (i : grid0.Coords) (k0_t1 : Fin k0_t1_loop.trips) : Fin 8 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c16_i32 : BitVec 32 := 16#32
  let c0_i32_7 : BitVec 32 := 0#32
  let v14 : BitVec 1 := Scalar.cmpi .sgt c16_i32 c0_i32_7
  let v15 : BitVec 32 := Scalar.extui v14
  let c0_i32_8 : BitVec 32 := 0#32
  let v16 : BitVec 1 := Scalar.cmpi .slt c16_i32 c0_i32_8
  let v17 : BitVec 32 := Scalar.extui v16
  let v18 : BitVec 32 := Scalar.subi v15 v17
  let v19 : BitVec 1 := Scalar.cmpi .ne v13 v18
  let v20 : BitVec 32 := Scalar.remsi v7 c16_i32
  let c0_i32_9 : BitVec 32 := 0#32
  let v21 : BitVec 1 := Scalar.cmpi .ne v20 c0_i32_9
  let v22 : BitVec 1 := Scalar.andi v19 v21
  let v8 : BitVec 32 := Scalar.divsi v7 c16_i32
  let c1_i32_10 : BitVec 32 := 1#32
  let v23 : BitVec 32 := Scalar.subi v8 c1_i32_10
  let v24 : BitVec 32 := Scalar.select v22 v23 v8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c0_i32_17 : BitVec 32 := 0#32
  let c0_i32_18 : BitVec 32 := 0#32
  let c0_i32_19 : BitVec 32 := 0#32
  let c0_i32_20 : BitVec 32 := 0#32
  let c0_i32_21 : BitVec 32 := 0#32
  let c0_i32_22 : BitVec 32 := 0#32
  ![v24.toNat, v34.toNat, 0, 0, 0, 0, 0, 0]
def k0_off2 (i : grid0.Coords) (k0_t1 : Fin k0_t1_loop.trips) : Fin 8 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c16_i32 : BitVec 32 := 16#32
  let c0_i32_7 : BitVec 32 := 0#32
  let v14 : BitVec 1 := Scalar.cmpi .sgt c16_i32 c0_i32_7
  let v15 : BitVec 32 := Scalar.extui v14
  let c0_i32_8 : BitVec 32 := 0#32
  let v16 : BitVec 1 := Scalar.cmpi .slt c16_i32 c0_i32_8
  let v17 : BitVec 32 := Scalar.extui v16
  let v18 : BitVec 32 := Scalar.subi v15 v17
  let v19 : BitVec 1 := Scalar.cmpi .ne v13 v18
  let v20 : BitVec 32 := Scalar.remsi v7 c16_i32
  let c0_i32_9 : BitVec 32 := 0#32
  let v21 : BitVec 1 := Scalar.cmpi .ne v20 c0_i32_9
  let v22 : BitVec 1 := Scalar.andi v19 v21
  let v8 : BitVec 32 := Scalar.divsi v7 c16_i32
  let c1_i32_10 : BitVec 32 := 1#32
  let v23 : BitVec 32 := Scalar.subi v8 c1_i32_10
  let v24 : BitVec 32 := Scalar.select v22 v23 v8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_28 : BitVec 32 := 1#32
  let c0_i32_29 : BitVec 32 := 0#32
  let c0_i32_30 : BitVec 32 := 0#32
  let c16_i32_31 : BitVec 32 := 16#32
  let c0_i32_32 : BitVec 32 := 0#32
  ![v24.toNat, v34.toNat, 1, 0, 0, v34.toNat, 16, 0]

def k0_chk1 (v2 : IVec S16 32) (v3 : IVec S16 32) (v51 : IVec S16 32) (v52 : IVec S16 32) : Prop :=
  (∀ a x, ((![v51, v3, v52, v2, v3] : Fin 5 → IVec S16 32) a x).toNat < S16x2x16x16x2.size a)
theorem k0_idx1_inb : ∀ (v2 : IVec S16 32) (v3 : IVec S16 32) (v51 : IVec S16 32) (v52 : IVec S16 32) (k0_hw1 : k0_chk1 v2 v3 v51 v52), ∀ a x, ((![v51, v3, v52, v2, v3] : Fin 5 → IVec S16 32) a x).toNat < S16x2x16x16x2.size a := fun v2 v3 v51 v52 k0_hw1 => k0_hw1

def k0_chk2 (v2 : IVec S16 32) (v3 : IVec S16 32) (v51 : IVec S16 32) (v56 : IVec S16 32) : Prop :=
  (∀ a x, ((![v51, v3, v56, v2, v3] : Fin 5 → IVec S16 32) a x).toNat < S16x2x16x16x2.size a)
theorem k0_idx2_inb : ∀ (v2 : IVec S16 32) (v3 : IVec S16 32) (v51 : IVec S16 32) (v56 : IVec S16 32) (k0_hw2 : k0_chk2 v2 v3 v51 v56), ∀ a x, ((![v51, v3, v56, v2, v3] : Fin 5 → IVec S16 32) a x).toNat < S16x2x16x16x2.size a := fun v2 v3 v51 v56 k0_hw2 => k0_hw2

def k0_chk3 (v2 : IVec S16 32) (v3 : IVec S16 32) (v51 : IVec S16 32) (v60 : IVec S16 32) : Prop :=
  (∀ a x, ((![v51, v3, v60, v2, v3] : Fin 5 → IVec S16 32) a x).toNat < S16x2x16x16x2.size a)
theorem k0_idx3_inb : ∀ (v2 : IVec S16 32) (v3 : IVec S16 32) (v51 : IVec S16 32) (v60 : IVec S16 32) (k0_hw3 : k0_chk3 v2 v3 v51 v60), ∀ a x, ((![v51, v3, v60, v2, v3] : Fin 5 → IVec S16 32) a x).toNat < S16x2x16x16x2.size a := fun v2 v3 v51 v60 k0_hw3 => k0_hw3

def k0_chk4 (v2 : IVec S16 32) (v3 : IVec S16 32) (v51 : IVec S16 32) (v64 : IVec S16 32) : Prop :=
  (∀ a x, ((![v51, v3, v64, v2, v3] : Fin 5 → IVec S16 32) a x).toNat < S16x2x16x16x2.size a)
theorem k0_idx4_inb : ∀ (v2 : IVec S16 32) (v3 : IVec S16 32) (v51 : IVec S16 32) (v64 : IVec S16 32) (k0_hw4 : k0_chk4 v2 v3 v51 v64), ∀ a x, ((![v51, v3, v64, v2, v3] : Fin 5 → IVec S16 32) a x).toNat < S16x2x16x16x2.size a := fun v2 v3 v51 v64 k0_hw4 => k0_hw4

def k0_chk5 (v2 : IVec S16 32) (v3 : IVec S16 32) (v51 : IVec S16 32) (v68 : IVec S16 32) : Prop :=
  (∀ a x, ((![v51, v3, v68, v2, v3] : Fin 5 → IVec S16 32) a x).toNat < S16x2x16x16x2.size a)
theorem k0_idx5_inb : ∀ (v2 : IVec S16 32) (v3 : IVec S16 32) (v51 : IVec S16 32) (v68 : IVec S16 32) (k0_hw5 : k0_chk5 v2 v3 v51 v68), ∀ a x, ((![v51, v3, v68, v2, v3] : Fin 5 → IVec S16 32) a x).toNat < S16x2x16x16x2.size a := fun v2 v3 v51 v68 k0_hw5 => k0_hw5

def k0_chk6 (v2 : IVec S16 32) (v3 : IVec S16 32) (v51 : IVec S16 32) (v72 : IVec S16 32) : Prop :=
  (∀ a x, ((![v51, v3, v72, v2, v3] : Fin 5 → IVec S16 32) a x).toNat < S16x2x16x16x2.size a)
theorem k0_idx6_inb : ∀ (v2 : IVec S16 32) (v3 : IVec S16 32) (v51 : IVec S16 32) (v72 : IVec S16 32) (k0_hw6 : k0_chk6 v2 v3 v51 v72), ∀ a x, ((![v51, v3, v72, v2, v3] : Fin 5 → IVec S16 32) a x).toNat < S16x2x16x16x2.size a := fun v2 v3 v51 v72 k0_hw6 => k0_hw6

def k0_chk7 (v2 : IVec S16 32) (v3 : IVec S16 32) (v51 : IVec S16 32) (v76 : IVec S16 32) : Prop :=
  (∀ a x, ((![v51, v3, v76, v2, v3] : Fin 5 → IVec S16 32) a x).toNat < S16x2x16x16x2.size a)
theorem k0_idx7_inb : ∀ (v2 : IVec S16 32) (v3 : IVec S16 32) (v51 : IVec S16 32) (v76 : IVec S16 32) (k0_hw7 : k0_chk7 v2 v3 v51 v76), ∀ a x, ((![v51, v3, v76, v2, v3] : Fin 5 → IVec S16 32) a x).toNat < S16x2x16x16x2.size a := fun v2 v3 v51 v76 k0_hw7 => k0_hw7

def k0_chk8 (v2 : IVec S16 32) (v3 : IVec S16 32) (v51 : IVec S16 32) (v80 : IVec S16 32) : Prop :=
  (∀ a x, ((![v51, v3, v80, v2, v3] : Fin 5 → IVec S16 32) a x).toNat < S16x2x16x16x2.size a)
theorem k0_idx8_inb : ∀ (v2 : IVec S16 32) (v3 : IVec S16 32) (v51 : IVec S16 32) (v80 : IVec S16 32) (k0_hw8 : k0_chk8 v2 v3 v51 v80), ∀ a x, ((![v51, v3, v80, v2, v3] : Fin 5 → IVec S16 32) a x).toNat < S16x2x16x16x2.size a := fun v2 v3 v51 v80 k0_hw8 => k0_hw8

def k0_chk9 (v2 : IVec S16 32) (v3 : IVec S16 32) (v51 : IVec S16 32) (v84 : IVec S16 32) : Prop :=
  (∀ a x, ((![v51, v3, v84, v2, v3] : Fin 5 → IVec S16 32) a x).toNat < S16x2x16x16x2.size a)
theorem k0_idx9_inb : ∀ (v2 : IVec S16 32) (v3 : IVec S16 32) (v51 : IVec S16 32) (v84 : IVec S16 32) (k0_hw9 : k0_chk9 v2 v3 v51 v84), ∀ a x, ((![v51, v3, v84, v2, v3] : Fin 5 → IVec S16 32) a x).toNat < S16x2x16x16x2.size a := fun v2 v3 v51 v84 k0_hw9 => k0_hw9

def k0_chk10 (v2 : IVec S16 32) (v3 : IVec S16 32) (v51 : IVec S16 32) (v88 : IVec S16 32) : Prop :=
  (∀ a x, ((![v51, v3, v88, v2, v3] : Fin 5 → IVec S16 32) a x).toNat < S16x2x16x16x2.size a)
theorem k0_idx10_inb : ∀ (v2 : IVec S16 32) (v3 : IVec S16 32) (v51 : IVec S16 32) (v88 : IVec S16 32) (k0_hw10 : k0_chk10 v2 v3 v51 v88), ∀ a x, ((![v51, v3, v88, v2, v3] : Fin 5 → IVec S16 32) a x).toNat < S16x2x16x16x2.size a := fun v2 v3 v51 v88 k0_hw10 => k0_hw10

def k0_chk11 (v2 : IVec S16 32) (v3 : IVec S16 32) (v51 : IVec S16 32) (v92 : IVec S16 32) : Prop :=
  (∀ a x, ((![v51, v3, v92, v2, v3] : Fin 5 → IVec S16 32) a x).toNat < S16x2x16x16x2.size a)
theorem k0_idx11_inb : ∀ (v2 : IVec S16 32) (v3 : IVec S16 32) (v51 : IVec S16 32) (v92 : IVec S16 32) (k0_hw11 : k0_chk11 v2 v3 v51 v92), ∀ a x, ((![v51, v3, v92, v2, v3] : Fin 5 → IVec S16 32) a x).toNat < S16x2x16x16x2.size a := fun v2 v3 v51 v92 k0_hw11 => k0_hw11

def k0_chk12 (v2 : IVec S16 32) (v3 : IVec S16 32) (v51 : IVec S16 32) (v96 : IVec S16 32) : Prop :=
  (∀ a x, ((![v51, v3, v96, v2, v3] : Fin 5 → IVec S16 32) a x).toNat < S16x2x16x16x2.size a)
theorem k0_idx12_inb : ∀ (v2 : IVec S16 32) (v3 : IVec S16 32) (v51 : IVec S16 32) (v96 : IVec S16 32) (k0_hw12 : k0_chk12 v2 v3 v51 v96), ∀ a x, ((![v51, v3, v96, v2, v3] : Fin 5 → IVec S16 32) a x).toNat < S16x2x16x16x2.size a := fun v2 v3 v51 v96 k0_hw12 => k0_hw12

def k0_chk13 (v2 : IVec S16 32) (v3 : IVec S16 32) (v51 : IVec S16 32) (v100 : IVec S16 32) : Prop :=
  (∀ a x, ((![v51, v3, v100, v2, v3] : Fin 5 → IVec S16 32) a x).toNat < S16x2x16x16x2.size a)
theorem k0_idx13_inb : ∀ (v2 : IVec S16 32) (v3 : IVec S16 32) (v51 : IVec S16 32) (v100 : IVec S16 32) (k0_hw13 : k0_chk13 v2 v3 v51 v100), ∀ a x, ((![v51, v3, v100, v2, v3] : Fin 5 → IVec S16 32) a x).toNat < S16x2x16x16x2.size a := fun v2 v3 v51 v100 k0_hw13 => k0_hw13

def k0_chk14 (v2 : IVec S16 32) (v3 : IVec S16 32) (v51 : IVec S16 32) (v104 : IVec S16 32) : Prop :=
  (∀ a x, ((![v51, v3, v104, v2, v3] : Fin 5 → IVec S16 32) a x).toNat < S16x2x16x16x2.size a)
theorem k0_idx14_inb : ∀ (v2 : IVec S16 32) (v3 : IVec S16 32) (v51 : IVec S16 32) (v104 : IVec S16 32) (k0_hw14 : k0_chk14 v2 v3 v51 v104), ∀ a x, ((![v51, v3, v104, v2, v3] : Fin 5 → IVec S16 32) a x).toNat < S16x2x16x16x2.size a := fun v2 v3 v51 v104 k0_hw14 => k0_hw14

def k0_chk15 (v2 : IVec S16 32) (v3 : IVec S16 32) (v51 : IVec S16 32) (v108 : IVec S16 32) : Prop :=
  (∀ a x, ((![v51, v3, v108, v2, v3] : Fin 5 → IVec S16 32) a x).toNat < S16x2x16x16x2.size a)
theorem k0_idx15_inb : ∀ (v2 : IVec S16 32) (v3 : IVec S16 32) (v51 : IVec S16 32) (v108 : IVec S16 32) (k0_hw15 : k0_chk15 v2 v3 v51 v108), ∀ a x, ((![v51, v3, v108, v2, v3] : Fin 5 → IVec S16 32) a x).toNat < S16x2x16x16x2.size a := fun v2 v3 v51 v108 k0_hw15 => k0_hw15

def k0_chk16 (v2 : IVec S16 32) (v3 : IVec S16 32) (v51 : IVec S16 32) (v112 : IVec S16 32) : Prop :=
  (∀ a x, ((![v51, v3, v112, v2, v3] : Fin 5 → IVec S16 32) a x).toNat < S16x2x16x16x2.size a)
theorem k0_idx16_inb : ∀ (v2 : IVec S16 32) (v3 : IVec S16 32) (v51 : IVec S16 32) (v112 : IVec S16 32) (k0_hw16 : k0_chk16 v2 v3 v51 v112), ∀ a x, ((![v51, v3, v112, v2, v3] : Fin 5 → IVec S16 32) a x).toNat < S16x2x16x16x2.size a := fun v2 v3 v51 v112 k0_hw16 => k0_hw16

def k0_chk18 (v51 : IVec S16 32) (v120 : IVec S16 32) : Prop :=
  (∀ a x, ((![v51, v120] : Fin 2 → IVec S16 32) a x).toNat < S16x256.size a)
theorem k0_idx18_inb : ∀ (v51 : IVec S16 32) (v120 : IVec S16 32) (k0_hw18 : k0_chk18 v51 v120), ∀ a x, ((![v51, v120] : Fin 2 → IVec S16 32) a x).toNat < S16x256.size a := fun v51 v120 k0_hw18 => k0_hw18

def k0_chk17 (v2 : IVec S16 32) (v3 : IVec S16 32) (v4 : IVec S16 32) (v51 : IVec S16 32) : Prop :=
  (∀ a x, ((![v51, v4, v2, v51, v4] : Fin 5 → IVec S16 32) a x).toNat < S16x2x16x16x2.size a) ∧
  (∀ a x, ((![v51, v3, v2, v3] : Fin 4 → IVec S16 32) a x).toNat < S16x2x16x2.size a) ∧
  (∀ a x, ((![v51, v4, v51, v4] : Fin 4 → IVec S16 32) a x).toNat < S16x2x16x2.size a)
theorem k0_idx17_inb : ∀ (v2 : IVec S16 32) (v3 : IVec S16 32) (v4 : IVec S16 32) (v51 : IVec S16 32) (k0_hw17 : k0_chk17 v2 v3 v4 v51), ∀ a x, ((![v51, v4, v2, v51, v4] : Fin 5 → IVec S16 32) a x).toNat < S16x2x16x16x2.size a := fun v2 v3 v4 v51 k0_hw17 => k0_hw17.1
theorem k0_idx19_inb : ∀ (v2 : IVec S16 32) (v3 : IVec S16 32) (v4 : IVec S16 32) (v51 : IVec S16 32) (k0_hw17 : k0_chk17 v2 v3 v4 v51), ∀ a x, ((![v51, v3, v2, v3] : Fin 4 → IVec S16 32) a x).toNat < S16x2x16x2.size a := fun v2 v3 v4 v51 k0_hw17 => k0_hw17.2.1
theorem k0_idx20_inb : ∀ (v2 : IVec S16 32) (v3 : IVec S16 32) (v4 : IVec S16 32) (v51 : IVec S16 32) (k0_hw17 : k0_chk17 v2 v3 v4 v51), ∀ a x, ((![v51, v4, v51, v4] : Fin 4 → IVec S16 32) a x).toNat < S16x2x16x2.size a := fun v2 v3 v4 v51 k0_hw17 => k0_hw17.2.2
def k0_off3 (i : grid0.Coords) (k0_t1 : Fin k0_t1_loop.trips) : Fin 2 → Nat :=
  let c0_i32_81 : BitVec 32 := 0#32
  let v129 : Index := Scalar.indexCast c0_i32_81
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_80 : BitVec 32 := 16#32
  let v128 : BitVec 32 := Scalar.muli v34 c16_i32_80
  let v130 : Index := Scalar.indexCast v128
  ![0, v130.toNat]

def k0_chk19 (v2 : IVec S16 32) (v3 : IVec S16 32) (v137 : IVec S16 32) (v138 : IVec S16 32) : Prop :=
  (∀ a x, ((![v137, v3, v138, v2, v3] : Fin 5 → IVec S16 32) a x).toNat < S16x2x16x16x2.size a)
theorem k0_idx21_inb : ∀ (v2 : IVec S16 32) (v3 : IVec S16 32) (v137 : IVec S16 32) (v138 : IVec S16 32) (k0_hw19 : k0_chk19 v2 v3 v137 v138), ∀ a x, ((![v137, v3, v138, v2, v3] : Fin 5 → IVec S16 32) a x).toNat < S16x2x16x16x2.size a := fun v2 v3 v137 v138 k0_hw19 => k0_hw19

def k0_chk20 (v2 : IVec S16 32) (v3 : IVec S16 32) (v137 : IVec S16 32) (v142 : IVec S16 32) : Prop :=
  (∀ a x, ((![v137, v3, v142, v2, v3] : Fin 5 → IVec S16 32) a x).toNat < S16x2x16x16x2.size a)
theorem k0_idx22_inb : ∀ (v2 : IVec S16 32) (v3 : IVec S16 32) (v137 : IVec S16 32) (v142 : IVec S16 32) (k0_hw20 : k0_chk20 v2 v3 v137 v142), ∀ a x, ((![v137, v3, v142, v2, v3] : Fin 5 → IVec S16 32) a x).toNat < S16x2x16x16x2.size a := fun v2 v3 v137 v142 k0_hw20 => k0_hw20

def k0_chk21 (v2 : IVec S16 32) (v3 : IVec S16 32) (v137 : IVec S16 32) (v146 : IVec S16 32) : Prop :=
  (∀ a x, ((![v137, v3, v146, v2, v3] : Fin 5 → IVec S16 32) a x).toNat < S16x2x16x16x2.size a)
theorem k0_idx23_inb : ∀ (v2 : IVec S16 32) (v3 : IVec S16 32) (v137 : IVec S16 32) (v146 : IVec S16 32) (k0_hw21 : k0_chk21 v2 v3 v137 v146), ∀ a x, ((![v137, v3, v146, v2, v3] : Fin 5 → IVec S16 32) a x).toNat < S16x2x16x16x2.size a := fun v2 v3 v137 v146 k0_hw21 => k0_hw21

def k0_chk22 (v2 : IVec S16 32) (v3 : IVec S16 32) (v137 : IVec S16 32) (v150 : IVec S16 32) : Prop :=
  (∀ a x, ((![v137, v3, v150, v2, v3] : Fin 5 → IVec S16 32) a x).toNat < S16x2x16x16x2.size a)
theorem k0_idx24_inb : ∀ (v2 : IVec S16 32) (v3 : IVec S16 32) (v137 : IVec S16 32) (v150 : IVec S16 32) (k0_hw22 : k0_chk22 v2 v3 v137 v150), ∀ a x, ((![v137, v3, v150, v2, v3] : Fin 5 → IVec S16 32) a x).toNat < S16x2x16x16x2.size a := fun v2 v3 v137 v150 k0_hw22 => k0_hw22

def k0_chk23 (v2 : IVec S16 32) (v3 : IVec S16 32) (v137 : IVec S16 32) (v154 : IVec S16 32) : Prop :=
  (∀ a x, ((![v137, v3, v154, v2, v3] : Fin 5 → IVec S16 32) a x).toNat < S16x2x16x16x2.size a)
theorem k0_idx25_inb : ∀ (v2 : IVec S16 32) (v3 : IVec S16 32) (v137 : IVec S16 32) (v154 : IVec S16 32) (k0_hw23 : k0_chk23 v2 v3 v137 v154), ∀ a x, ((![v137, v3, v154, v2, v3] : Fin 5 → IVec S16 32) a x).toNat < S16x2x16x16x2.size a := fun v2 v3 v137 v154 k0_hw23 => k0_hw23

def k0_chk24 (v2 : IVec S16 32) (v3 : IVec S16 32) (v137 : IVec S16 32) (v158 : IVec S16 32) : Prop :=
  (∀ a x, ((![v137, v3, v158, v2, v3] : Fin 5 → IVec S16 32) a x).toNat < S16x2x16x16x2.size a)
theorem k0_idx26_inb : ∀ (v2 : IVec S16 32) (v3 : IVec S16 32) (v137 : IVec S16 32) (v158 : IVec S16 32) (k0_hw24 : k0_chk24 v2 v3 v137 v158), ∀ a x, ((![v137, v3, v158, v2, v3] : Fin 5 → IVec S16 32) a x).toNat < S16x2x16x16x2.size a := fun v2 v3 v137 v158 k0_hw24 => k0_hw24

def k0_chk25 (v2 : IVec S16 32) (v3 : IVec S16 32) (v137 : IVec S16 32) (v162 : IVec S16 32) : Prop :=
  (∀ a x, ((![v137, v3, v162, v2, v3] : Fin 5 → IVec S16 32) a x).toNat < S16x2x16x16x2.size a)
theorem k0_idx27_inb : ∀ (v2 : IVec S16 32) (v3 : IVec S16 32) (v137 : IVec S16 32) (v162 : IVec S16 32) (k0_hw25 : k0_chk25 v2 v3 v137 v162), ∀ a x, ((![v137, v3, v162, v2, v3] : Fin 5 → IVec S16 32) a x).toNat < S16x2x16x16x2.size a := fun v2 v3 v137 v162 k0_hw25 => k0_hw25

def k0_chk26 (v2 : IVec S16 32) (v3 : IVec S16 32) (v137 : IVec S16 32) (v166 : IVec S16 32) : Prop :=
  (∀ a x, ((![v137, v3, v166, v2, v3] : Fin 5 → IVec S16 32) a x).toNat < S16x2x16x16x2.size a)
theorem k0_idx28_inb : ∀ (v2 : IVec S16 32) (v3 : IVec S16 32) (v137 : IVec S16 32) (v166 : IVec S16 32) (k0_hw26 : k0_chk26 v2 v3 v137 v166), ∀ a x, ((![v137, v3, v166, v2, v3] : Fin 5 → IVec S16 32) a x).toNat < S16x2x16x16x2.size a := fun v2 v3 v137 v166 k0_hw26 => k0_hw26

def k0_chk27 (v2 : IVec S16 32) (v3 : IVec S16 32) (v137 : IVec S16 32) (v170 : IVec S16 32) : Prop :=
  (∀ a x, ((![v137, v3, v170, v2, v3] : Fin 5 → IVec S16 32) a x).toNat < S16x2x16x16x2.size a)
theorem k0_idx29_inb : ∀ (v2 : IVec S16 32) (v3 : IVec S16 32) (v137 : IVec S16 32) (v170 : IVec S16 32) (k0_hw27 : k0_chk27 v2 v3 v137 v170), ∀ a x, ((![v137, v3, v170, v2, v3] : Fin 5 → IVec S16 32) a x).toNat < S16x2x16x16x2.size a := fun v2 v3 v137 v170 k0_hw27 => k0_hw27

def k0_chk28 (v2 : IVec S16 32) (v3 : IVec S16 32) (v137 : IVec S16 32) (v174 : IVec S16 32) : Prop :=
  (∀ a x, ((![v137, v3, v174, v2, v3] : Fin 5 → IVec S16 32) a x).toNat < S16x2x16x16x2.size a)
theorem k0_idx30_inb : ∀ (v2 : IVec S16 32) (v3 : IVec S16 32) (v137 : IVec S16 32) (v174 : IVec S16 32) (k0_hw28 : k0_chk28 v2 v3 v137 v174), ∀ a x, ((![v137, v3, v174, v2, v3] : Fin 5 → IVec S16 32) a x).toNat < S16x2x16x16x2.size a := fun v2 v3 v137 v174 k0_hw28 => k0_hw28

def k0_chk29 (v2 : IVec S16 32) (v3 : IVec S16 32) (v137 : IVec S16 32) (v178 : IVec S16 32) : Prop :=
  (∀ a x, ((![v137, v3, v178, v2, v3] : Fin 5 → IVec S16 32) a x).toNat < S16x2x16x16x2.size a)
theorem k0_idx31_inb : ∀ (v2 : IVec S16 32) (v3 : IVec S16 32) (v137 : IVec S16 32) (v178 : IVec S16 32) (k0_hw29 : k0_chk29 v2 v3 v137 v178), ∀ a x, ((![v137, v3, v178, v2, v3] : Fin 5 → IVec S16 32) a x).toNat < S16x2x16x16x2.size a := fun v2 v3 v137 v178 k0_hw29 => k0_hw29

def k0_chk30 (v2 : IVec S16 32) (v3 : IVec S16 32) (v137 : IVec S16 32) (v182 : IVec S16 32) : Prop :=
  (∀ a x, ((![v137, v3, v182, v2, v3] : Fin 5 → IVec S16 32) a x).toNat < S16x2x16x16x2.size a)
theorem k0_idx32_inb : ∀ (v2 : IVec S16 32) (v3 : IVec S16 32) (v137 : IVec S16 32) (v182 : IVec S16 32) (k0_hw30 : k0_chk30 v2 v3 v137 v182), ∀ a x, ((![v137, v3, v182, v2, v3] : Fin 5 → IVec S16 32) a x).toNat < S16x2x16x16x2.size a := fun v2 v3 v137 v182 k0_hw30 => k0_hw30

def k0_chk31 (v2 : IVec S16 32) (v3 : IVec S16 32) (v137 : IVec S16 32) (v186 : IVec S16 32) : Prop :=
  (∀ a x, ((![v137, v3, v186, v2, v3] : Fin 5 → IVec S16 32) a x).toNat < S16x2x16x16x2.size a)
theorem k0_idx33_inb : ∀ (v2 : IVec S16 32) (v3 : IVec S16 32) (v137 : IVec S16 32) (v186 : IVec S16 32) (k0_hw31 : k0_chk31 v2 v3 v137 v186), ∀ a x, ((![v137, v3, v186, v2, v3] : Fin 5 → IVec S16 32) a x).toNat < S16x2x16x16x2.size a := fun v2 v3 v137 v186 k0_hw31 => k0_hw31

def k0_chk32 (v2 : IVec S16 32) (v3 : IVec S16 32) (v137 : IVec S16 32) (v190 : IVec S16 32) : Prop :=
  (∀ a x, ((![v137, v3, v190, v2, v3] : Fin 5 → IVec S16 32) a x).toNat < S16x2x16x16x2.size a)
theorem k0_idx34_inb : ∀ (v2 : IVec S16 32) (v3 : IVec S16 32) (v137 : IVec S16 32) (v190 : IVec S16 32) (k0_hw32 : k0_chk32 v2 v3 v137 v190), ∀ a x, ((![v137, v3, v190, v2, v3] : Fin 5 → IVec S16 32) a x).toNat < S16x2x16x16x2.size a := fun v2 v3 v137 v190 k0_hw32 => k0_hw32

def k0_chk33 (v2 : IVec S16 32) (v3 : IVec S16 32) (v137 : IVec S16 32) (v194 : IVec S16 32) : Prop :=
  (∀ a x, ((![v137, v3, v194, v2, v3] : Fin 5 → IVec S16 32) a x).toNat < S16x2x16x16x2.size a)
theorem k0_idx35_inb : ∀ (v2 : IVec S16 32) (v3 : IVec S16 32) (v137 : IVec S16 32) (v194 : IVec S16 32) (k0_hw33 : k0_chk33 v2 v3 v137 v194), ∀ a x, ((![v137, v3, v194, v2, v3] : Fin 5 → IVec S16 32) a x).toNat < S16x2x16x16x2.size a := fun v2 v3 v137 v194 k0_hw33 => k0_hw33

def k0_chk34 (v2 : IVec S16 32) (v3 : IVec S16 32) (v137 : IVec S16 32) (v198 : IVec S16 32) : Prop :=
  (∀ a x, ((![v137, v3, v198, v2, v3] : Fin 5 → IVec S16 32) a x).toNat < S16x2x16x16x2.size a)
theorem k0_idx36_inb : ∀ (v2 : IVec S16 32) (v3 : IVec S16 32) (v137 : IVec S16 32) (v198 : IVec S16 32) (k0_hw34 : k0_chk34 v2 v3 v137 v198), ∀ a x, ((![v137, v3, v198, v2, v3] : Fin 5 → IVec S16 32) a x).toNat < S16x2x16x16x2.size a := fun v2 v3 v137 v198 k0_hw34 => k0_hw34

def k0_chk36 (v137 : IVec S16 32) (v206 : IVec S16 32) : Prop :=
  (∀ a x, ((![v137, v206] : Fin 2 → IVec S16 32) a x).toNat < S16x256.size a)
theorem k0_idx38_inb : ∀ (v137 : IVec S16 32) (v206 : IVec S16 32) (k0_hw36 : k0_chk36 v137 v206), ∀ a x, ((![v137, v206] : Fin 2 → IVec S16 32) a x).toNat < S16x256.size a := fun v137 v206 k0_hw36 => k0_hw36

def k0_chk35 (v2 : IVec S16 32) (v3 : IVec S16 32) (v4 : IVec S16 32) (v137 : IVec S16 32) : Prop :=
  (∀ a x, ((![v137, v4, v2, v137, v4] : Fin 5 → IVec S16 32) a x).toNat < S16x2x16x16x2.size a) ∧
  (∀ a x, ((![v137, v3, v2, v3] : Fin 4 → IVec S16 32) a x).toNat < S16x2x16x2.size a) ∧
  (∀ a x, ((![v137, v4, v137, v4] : Fin 4 → IVec S16 32) a x).toNat < S16x2x16x2.size a)
theorem k0_idx37_inb : ∀ (v2 : IVec S16 32) (v3 : IVec S16 32) (v4 : IVec S16 32) (v137 : IVec S16 32) (k0_hw35 : k0_chk35 v2 v3 v4 v137), ∀ a x, ((![v137, v4, v2, v137, v4] : Fin 5 → IVec S16 32) a x).toNat < S16x2x16x16x2.size a := fun v2 v3 v4 v137 k0_hw35 => k0_hw35.1
theorem k0_idx39_inb : ∀ (v2 : IVec S16 32) (v3 : IVec S16 32) (v4 : IVec S16 32) (v137 : IVec S16 32) (k0_hw35 : k0_chk35 v2 v3 v4 v137), ∀ a x, ((![v137, v3, v2, v3] : Fin 4 → IVec S16 32) a x).toNat < S16x2x16x2.size a := fun v2 v3 v4 v137 k0_hw35 => k0_hw35.2.1
theorem k0_idx40_inb : ∀ (v2 : IVec S16 32) (v3 : IVec S16 32) (v4 : IVec S16 32) (v137 : IVec S16 32) (k0_hw35 : k0_chk35 v2 v3 v4 v137), ∀ a x, ((![v137, v4, v137, v4] : Fin 4 → IVec S16 32) a x).toNat < S16x2x16x2.size a := fun v2 v3 v4 v137 k0_hw35 => k0_hw35.2.2
def k0_off4 (i : grid0.Coords) (k0_t1 : Fin k0_t1_loop.trips) : Fin 2 → Nat :=
  let c1_i32_138 : BitVec 32 := 1#32
  let v215 : Index := Scalar.indexCast c1_i32_138
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_137 : BitVec 32 := 16#32
  let v214 : BitVec 32 := Scalar.muli v34 c16_i32_137
  let v216 : Index := Scalar.indexCast v214
  ![1, v216.toNat]

def k0_chk37 (v2 : IVec S16 32) (v3 : IVec S16 32) (v223 : IVec S16 32) (v224 : IVec S16 32) : Prop :=
  (∀ a x, ((![v223, v3, v224, v2, v3] : Fin 5 → IVec S16 32) a x).toNat < S16x2x16x16x2.size a)
theorem k0_idx41_inb : ∀ (v2 : IVec S16 32) (v3 : IVec S16 32) (v223 : IVec S16 32) (v224 : IVec S16 32) (k0_hw37 : k0_chk37 v2 v3 v223 v224), ∀ a x, ((![v223, v3, v224, v2, v3] : Fin 5 → IVec S16 32) a x).toNat < S16x2x16x16x2.size a := fun v2 v3 v223 v224 k0_hw37 => k0_hw37

def k0_chk38 (v2 : IVec S16 32) (v3 : IVec S16 32) (v223 : IVec S16 32) (v228 : IVec S16 32) : Prop :=
  (∀ a x, ((![v223, v3, v228, v2, v3] : Fin 5 → IVec S16 32) a x).toNat < S16x2x16x16x2.size a)
theorem k0_idx42_inb : ∀ (v2 : IVec S16 32) (v3 : IVec S16 32) (v223 : IVec S16 32) (v228 : IVec S16 32) (k0_hw38 : k0_chk38 v2 v3 v223 v228), ∀ a x, ((![v223, v3, v228, v2, v3] : Fin 5 → IVec S16 32) a x).toNat < S16x2x16x16x2.size a := fun v2 v3 v223 v228 k0_hw38 => k0_hw38

def k0_chk39 (v2 : IVec S16 32) (v3 : IVec S16 32) (v223 : IVec S16 32) (v232 : IVec S16 32) : Prop :=
  (∀ a x, ((![v223, v3, v232, v2, v3] : Fin 5 → IVec S16 32) a x).toNat < S16x2x16x16x2.size a)
theorem k0_idx43_inb : ∀ (v2 : IVec S16 32) (v3 : IVec S16 32) (v223 : IVec S16 32) (v232 : IVec S16 32) (k0_hw39 : k0_chk39 v2 v3 v223 v232), ∀ a x, ((![v223, v3, v232, v2, v3] : Fin 5 → IVec S16 32) a x).toNat < S16x2x16x16x2.size a := fun v2 v3 v223 v232 k0_hw39 => k0_hw39

def k0_chk40 (v2 : IVec S16 32) (v3 : IVec S16 32) (v223 : IVec S16 32) (v236 : IVec S16 32) : Prop :=
  (∀ a x, ((![v223, v3, v236, v2, v3] : Fin 5 → IVec S16 32) a x).toNat < S16x2x16x16x2.size a)
theorem k0_idx44_inb : ∀ (v2 : IVec S16 32) (v3 : IVec S16 32) (v223 : IVec S16 32) (v236 : IVec S16 32) (k0_hw40 : k0_chk40 v2 v3 v223 v236), ∀ a x, ((![v223, v3, v236, v2, v3] : Fin 5 → IVec S16 32) a x).toNat < S16x2x16x16x2.size a := fun v2 v3 v223 v236 k0_hw40 => k0_hw40

def k0_chk41 (v2 : IVec S16 32) (v3 : IVec S16 32) (v223 : IVec S16 32) (v240 : IVec S16 32) : Prop :=
  (∀ a x, ((![v223, v3, v240, v2, v3] : Fin 5 → IVec S16 32) a x).toNat < S16x2x16x16x2.size a)
theorem k0_idx45_inb : ∀ (v2 : IVec S16 32) (v3 : IVec S16 32) (v223 : IVec S16 32) (v240 : IVec S16 32) (k0_hw41 : k0_chk41 v2 v3 v223 v240), ∀ a x, ((![v223, v3, v240, v2, v3] : Fin 5 → IVec S16 32) a x).toNat < S16x2x16x16x2.size a := fun v2 v3 v223 v240 k0_hw41 => k0_hw41

def k0_chk42 (v2 : IVec S16 32) (v3 : IVec S16 32) (v223 : IVec S16 32) (v244 : IVec S16 32) : Prop :=
  (∀ a x, ((![v223, v3, v244, v2, v3] : Fin 5 → IVec S16 32) a x).toNat < S16x2x16x16x2.size a)
theorem k0_idx46_inb : ∀ (v2 : IVec S16 32) (v3 : IVec S16 32) (v223 : IVec S16 32) (v244 : IVec S16 32) (k0_hw42 : k0_chk42 v2 v3 v223 v244), ∀ a x, ((![v223, v3, v244, v2, v3] : Fin 5 → IVec S16 32) a x).toNat < S16x2x16x16x2.size a := fun v2 v3 v223 v244 k0_hw42 => k0_hw42

def k0_chk43 (v2 : IVec S16 32) (v3 : IVec S16 32) (v223 : IVec S16 32) (v248 : IVec S16 32) : Prop :=
  (∀ a x, ((![v223, v3, v248, v2, v3] : Fin 5 → IVec S16 32) a x).toNat < S16x2x16x16x2.size a)
theorem k0_idx47_inb : ∀ (v2 : IVec S16 32) (v3 : IVec S16 32) (v223 : IVec S16 32) (v248 : IVec S16 32) (k0_hw43 : k0_chk43 v2 v3 v223 v248), ∀ a x, ((![v223, v3, v248, v2, v3] : Fin 5 → IVec S16 32) a x).toNat < S16x2x16x16x2.size a := fun v2 v3 v223 v248 k0_hw43 => k0_hw43

def k0_chk44 (v2 : IVec S16 32) (v3 : IVec S16 32) (v223 : IVec S16 32) (v252 : IVec S16 32) : Prop :=
  (∀ a x, ((![v223, v3, v252, v2, v3] : Fin 5 → IVec S16 32) a x).toNat < S16x2x16x16x2.size a)
theorem k0_idx48_inb : ∀ (v2 : IVec S16 32) (v3 : IVec S16 32) (v223 : IVec S16 32) (v252 : IVec S16 32) (k0_hw44 : k0_chk44 v2 v3 v223 v252), ∀ a x, ((![v223, v3, v252, v2, v3] : Fin 5 → IVec S16 32) a x).toNat < S16x2x16x16x2.size a := fun v2 v3 v223 v252 k0_hw44 => k0_hw44

def k0_chk45 (v2 : IVec S16 32) (v3 : IVec S16 32) (v223 : IVec S16 32) (v256 : IVec S16 32) : Prop :=
  (∀ a x, ((![v223, v3, v256, v2, v3] : Fin 5 → IVec S16 32) a x).toNat < S16x2x16x16x2.size a)
theorem k0_idx49_inb : ∀ (v2 : IVec S16 32) (v3 : IVec S16 32) (v223 : IVec S16 32) (v256 : IVec S16 32) (k0_hw45 : k0_chk45 v2 v3 v223 v256), ∀ a x, ((![v223, v3, v256, v2, v3] : Fin 5 → IVec S16 32) a x).toNat < S16x2x16x16x2.size a := fun v2 v3 v223 v256 k0_hw45 => k0_hw45

def k0_chk46 (v2 : IVec S16 32) (v3 : IVec S16 32) (v223 : IVec S16 32) (v260 : IVec S16 32) : Prop :=
  (∀ a x, ((![v223, v3, v260, v2, v3] : Fin 5 → IVec S16 32) a x).toNat < S16x2x16x16x2.size a)
theorem k0_idx50_inb : ∀ (v2 : IVec S16 32) (v3 : IVec S16 32) (v223 : IVec S16 32) (v260 : IVec S16 32) (k0_hw46 : k0_chk46 v2 v3 v223 v260), ∀ a x, ((![v223, v3, v260, v2, v3] : Fin 5 → IVec S16 32) a x).toNat < S16x2x16x16x2.size a := fun v2 v3 v223 v260 k0_hw46 => k0_hw46

def k0_chk47 (v2 : IVec S16 32) (v3 : IVec S16 32) (v223 : IVec S16 32) (v264 : IVec S16 32) : Prop :=
  (∀ a x, ((![v223, v3, v264, v2, v3] : Fin 5 → IVec S16 32) a x).toNat < S16x2x16x16x2.size a)
theorem k0_idx51_inb : ∀ (v2 : IVec S16 32) (v3 : IVec S16 32) (v223 : IVec S16 32) (v264 : IVec S16 32) (k0_hw47 : k0_chk47 v2 v3 v223 v264), ∀ a x, ((![v223, v3, v264, v2, v3] : Fin 5 → IVec S16 32) a x).toNat < S16x2x16x16x2.size a := fun v2 v3 v223 v264 k0_hw47 => k0_hw47

def k0_chk48 (v2 : IVec S16 32) (v3 : IVec S16 32) (v223 : IVec S16 32) (v268 : IVec S16 32) : Prop :=
  (∀ a x, ((![v223, v3, v268, v2, v3] : Fin 5 → IVec S16 32) a x).toNat < S16x2x16x16x2.size a)
theorem k0_idx52_inb : ∀ (v2 : IVec S16 32) (v3 : IVec S16 32) (v223 : IVec S16 32) (v268 : IVec S16 32) (k0_hw48 : k0_chk48 v2 v3 v223 v268), ∀ a x, ((![v223, v3, v268, v2, v3] : Fin 5 → IVec S16 32) a x).toNat < S16x2x16x16x2.size a := fun v2 v3 v223 v268 k0_hw48 => k0_hw48

def k0_chk49 (v2 : IVec S16 32) (v3 : IVec S16 32) (v223 : IVec S16 32) (v272 : IVec S16 32) : Prop :=
  (∀ a x, ((![v223, v3, v272, v2, v3] : Fin 5 → IVec S16 32) a x).toNat < S16x2x16x16x2.size a)
theorem k0_idx53_inb : ∀ (v2 : IVec S16 32) (v3 : IVec S16 32) (v223 : IVec S16 32) (v272 : IVec S16 32) (k0_hw49 : k0_chk49 v2 v3 v223 v272), ∀ a x, ((![v223, v3, v272, v2, v3] : Fin 5 → IVec S16 32) a x).toNat < S16x2x16x16x2.size a := fun v2 v3 v223 v272 k0_hw49 => k0_hw49

def k0_chk50 (v2 : IVec S16 32) (v3 : IVec S16 32) (v223 : IVec S16 32) (v276 : IVec S16 32) : Prop :=
  (∀ a x, ((![v223, v3, v276, v2, v3] : Fin 5 → IVec S16 32) a x).toNat < S16x2x16x16x2.size a)
theorem k0_idx54_inb : ∀ (v2 : IVec S16 32) (v3 : IVec S16 32) (v223 : IVec S16 32) (v276 : IVec S16 32) (k0_hw50 : k0_chk50 v2 v3 v223 v276), ∀ a x, ((![v223, v3, v276, v2, v3] : Fin 5 → IVec S16 32) a x).toNat < S16x2x16x16x2.size a := fun v2 v3 v223 v276 k0_hw50 => k0_hw50

def k0_chk51 (v2 : IVec S16 32) (v3 : IVec S16 32) (v223 : IVec S16 32) (v280 : IVec S16 32) : Prop :=
  (∀ a x, ((![v223, v3, v280, v2, v3] : Fin 5 → IVec S16 32) a x).toNat < S16x2x16x16x2.size a)
theorem k0_idx55_inb : ∀ (v2 : IVec S16 32) (v3 : IVec S16 32) (v223 : IVec S16 32) (v280 : IVec S16 32) (k0_hw51 : k0_chk51 v2 v3 v223 v280), ∀ a x, ((![v223, v3, v280, v2, v3] : Fin 5 → IVec S16 32) a x).toNat < S16x2x16x16x2.size a := fun v2 v3 v223 v280 k0_hw51 => k0_hw51

def k0_chk52 (v2 : IVec S16 32) (v3 : IVec S16 32) (v223 : IVec S16 32) (v284 : IVec S16 32) : Prop :=
  (∀ a x, ((![v223, v3, v284, v2, v3] : Fin 5 → IVec S16 32) a x).toNat < S16x2x16x16x2.size a)
theorem k0_idx56_inb : ∀ (v2 : IVec S16 32) (v3 : IVec S16 32) (v223 : IVec S16 32) (v284 : IVec S16 32) (k0_hw52 : k0_chk52 v2 v3 v223 v284), ∀ a x, ((![v223, v3, v284, v2, v3] : Fin 5 → IVec S16 32) a x).toNat < S16x2x16x16x2.size a := fun v2 v3 v223 v284 k0_hw52 => k0_hw52

def k0_chk54 (v223 : IVec S16 32) (v292 : IVec S16 32) : Prop :=
  (∀ a x, ((![v223, v292] : Fin 2 → IVec S16 32) a x).toNat < S16x256.size a)
theorem k0_idx58_inb : ∀ (v223 : IVec S16 32) (v292 : IVec S16 32) (k0_hw54 : k0_chk54 v223 v292), ∀ a x, ((![v223, v292] : Fin 2 → IVec S16 32) a x).toNat < S16x256.size a := fun v223 v292 k0_hw54 => k0_hw54

def k0_chk53 (v2 : IVec S16 32) (v3 : IVec S16 32) (v4 : IVec S16 32) (v223 : IVec S16 32) : Prop :=
  (∀ a x, ((![v223, v4, v2, v223, v4] : Fin 5 → IVec S16 32) a x).toNat < S16x2x16x16x2.size a) ∧
  (∀ a x, ((![v223, v3, v2, v3] : Fin 4 → IVec S16 32) a x).toNat < S16x2x16x2.size a) ∧
  (∀ a x, ((![v223, v4, v223, v4] : Fin 4 → IVec S16 32) a x).toNat < S16x2x16x2.size a)
theorem k0_idx57_inb : ∀ (v2 : IVec S16 32) (v3 : IVec S16 32) (v4 : IVec S16 32) (v223 : IVec S16 32) (k0_hw53 : k0_chk53 v2 v3 v4 v223), ∀ a x, ((![v223, v4, v2, v223, v4] : Fin 5 → IVec S16 32) a x).toNat < S16x2x16x16x2.size a := fun v2 v3 v4 v223 k0_hw53 => k0_hw53.1
theorem k0_idx59_inb : ∀ (v2 : IVec S16 32) (v3 : IVec S16 32) (v4 : IVec S16 32) (v223 : IVec S16 32) (k0_hw53 : k0_chk53 v2 v3 v4 v223), ∀ a x, ((![v223, v3, v2, v3] : Fin 4 → IVec S16 32) a x).toNat < S16x2x16x2.size a := fun v2 v3 v4 v223 k0_hw53 => k0_hw53.2.1
theorem k0_idx60_inb : ∀ (v2 : IVec S16 32) (v3 : IVec S16 32) (v4 : IVec S16 32) (v223 : IVec S16 32) (k0_hw53 : k0_chk53 v2 v3 v4 v223), ∀ a x, ((![v223, v4, v223, v4] : Fin 4 → IVec S16 32) a x).toNat < S16x2x16x2.size a := fun v2 v3 v4 v223 k0_hw53 => k0_hw53.2.2
def k0_off5 (i : grid0.Coords) (k0_t1 : Fin k0_t1_loop.trips) : Fin 2 → Nat :=
  let c2_i32_195 : BitVec 32 := 2#32
  let v301 : Index := Scalar.indexCast c2_i32_195
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_194 : BitVec 32 := 16#32
  let v300 : BitVec 32 := Scalar.muli v34 c16_i32_194
  let v302 : Index := Scalar.indexCast v300
  ![2, v302.toNat]

def k0_chk55 (v2 : IVec S16 32) (v3 : IVec S16 32) (v309 : IVec S16 32) (v310 : IVec S16 32) : Prop :=
  (∀ a x, ((![v309, v3, v310, v2, v3] : Fin 5 → IVec S16 32) a x).toNat < S16x2x16x16x2.size a)
theorem k0_idx61_inb : ∀ (v2 : IVec S16 32) (v3 : IVec S16 32) (v309 : IVec S16 32) (v310 : IVec S16 32) (k0_hw55 : k0_chk55 v2 v3 v309 v310), ∀ a x, ((![v309, v3, v310, v2, v3] : Fin 5 → IVec S16 32) a x).toNat < S16x2x16x16x2.size a := fun v2 v3 v309 v310 k0_hw55 => k0_hw55

def k0_chk56 (v2 : IVec S16 32) (v3 : IVec S16 32) (v309 : IVec S16 32) (v314 : IVec S16 32) : Prop :=
  (∀ a x, ((![v309, v3, v314, v2, v3] : Fin 5 → IVec S16 32) a x).toNat < S16x2x16x16x2.size a)
theorem k0_idx62_inb : ∀ (v2 : IVec S16 32) (v3 : IVec S16 32) (v309 : IVec S16 32) (v314 : IVec S16 32) (k0_hw56 : k0_chk56 v2 v3 v309 v314), ∀ a x, ((![v309, v3, v314, v2, v3] : Fin 5 → IVec S16 32) a x).toNat < S16x2x16x16x2.size a := fun v2 v3 v309 v314 k0_hw56 => k0_hw56

def k0_chk57 (v2 : IVec S16 32) (v3 : IVec S16 32) (v309 : IVec S16 32) (v318 : IVec S16 32) : Prop :=
  (∀ a x, ((![v309, v3, v318, v2, v3] : Fin 5 → IVec S16 32) a x).toNat < S16x2x16x16x2.size a)
theorem k0_idx63_inb : ∀ (v2 : IVec S16 32) (v3 : IVec S16 32) (v309 : IVec S16 32) (v318 : IVec S16 32) (k0_hw57 : k0_chk57 v2 v3 v309 v318), ∀ a x, ((![v309, v3, v318, v2, v3] : Fin 5 → IVec S16 32) a x).toNat < S16x2x16x16x2.size a := fun v2 v3 v309 v318 k0_hw57 => k0_hw57

def k0_chk58 (v2 : IVec S16 32) (v3 : IVec S16 32) (v309 : IVec S16 32) (v322 : IVec S16 32) : Prop :=
  (∀ a x, ((![v309, v3, v322, v2, v3] : Fin 5 → IVec S16 32) a x).toNat < S16x2x16x16x2.size a)
theorem k0_idx64_inb : ∀ (v2 : IVec S16 32) (v3 : IVec S16 32) (v309 : IVec S16 32) (v322 : IVec S16 32) (k0_hw58 : k0_chk58 v2 v3 v309 v322), ∀ a x, ((![v309, v3, v322, v2, v3] : Fin 5 → IVec S16 32) a x).toNat < S16x2x16x16x2.size a := fun v2 v3 v309 v322 k0_hw58 => k0_hw58

def k0_chk59 (v2 : IVec S16 32) (v3 : IVec S16 32) (v309 : IVec S16 32) (v326 : IVec S16 32) : Prop :=
  (∀ a x, ((![v309, v3, v326, v2, v3] : Fin 5 → IVec S16 32) a x).toNat < S16x2x16x16x2.size a)
theorem k0_idx65_inb : ∀ (v2 : IVec S16 32) (v3 : IVec S16 32) (v309 : IVec S16 32) (v326 : IVec S16 32) (k0_hw59 : k0_chk59 v2 v3 v309 v326), ∀ a x, ((![v309, v3, v326, v2, v3] : Fin 5 → IVec S16 32) a x).toNat < S16x2x16x16x2.size a := fun v2 v3 v309 v326 k0_hw59 => k0_hw59

def k0_chk60 (v2 : IVec S16 32) (v3 : IVec S16 32) (v309 : IVec S16 32) (v330 : IVec S16 32) : Prop :=
  (∀ a x, ((![v309, v3, v330, v2, v3] : Fin 5 → IVec S16 32) a x).toNat < S16x2x16x16x2.size a)
theorem k0_idx66_inb : ∀ (v2 : IVec S16 32) (v3 : IVec S16 32) (v309 : IVec S16 32) (v330 : IVec S16 32) (k0_hw60 : k0_chk60 v2 v3 v309 v330), ∀ a x, ((![v309, v3, v330, v2, v3] : Fin 5 → IVec S16 32) a x).toNat < S16x2x16x16x2.size a := fun v2 v3 v309 v330 k0_hw60 => k0_hw60

def k0_chk61 (v2 : IVec S16 32) (v3 : IVec S16 32) (v309 : IVec S16 32) (v334 : IVec S16 32) : Prop :=
  (∀ a x, ((![v309, v3, v334, v2, v3] : Fin 5 → IVec S16 32) a x).toNat < S16x2x16x16x2.size a)
theorem k0_idx67_inb : ∀ (v2 : IVec S16 32) (v3 : IVec S16 32) (v309 : IVec S16 32) (v334 : IVec S16 32) (k0_hw61 : k0_chk61 v2 v3 v309 v334), ∀ a x, ((![v309, v3, v334, v2, v3] : Fin 5 → IVec S16 32) a x).toNat < S16x2x16x16x2.size a := fun v2 v3 v309 v334 k0_hw61 => k0_hw61

def k0_chk62 (v2 : IVec S16 32) (v3 : IVec S16 32) (v309 : IVec S16 32) (v338 : IVec S16 32) : Prop :=
  (∀ a x, ((![v309, v3, v338, v2, v3] : Fin 5 → IVec S16 32) a x).toNat < S16x2x16x16x2.size a)
theorem k0_idx68_inb : ∀ (v2 : IVec S16 32) (v3 : IVec S16 32) (v309 : IVec S16 32) (v338 : IVec S16 32) (k0_hw62 : k0_chk62 v2 v3 v309 v338), ∀ a x, ((![v309, v3, v338, v2, v3] : Fin 5 → IVec S16 32) a x).toNat < S16x2x16x16x2.size a := fun v2 v3 v309 v338 k0_hw62 => k0_hw62

def k0_chk63 (v2 : IVec S16 32) (v3 : IVec S16 32) (v309 : IVec S16 32) (v342 : IVec S16 32) : Prop :=
  (∀ a x, ((![v309, v3, v342, v2, v3] : Fin 5 → IVec S16 32) a x).toNat < S16x2x16x16x2.size a)
theorem k0_idx69_inb : ∀ (v2 : IVec S16 32) (v3 : IVec S16 32) (v309 : IVec S16 32) (v342 : IVec S16 32) (k0_hw63 : k0_chk63 v2 v3 v309 v342), ∀ a x, ((![v309, v3, v342, v2, v3] : Fin 5 → IVec S16 32) a x).toNat < S16x2x16x16x2.size a := fun v2 v3 v309 v342 k0_hw63 => k0_hw63

def k0_chk64 (v2 : IVec S16 32) (v3 : IVec S16 32) (v309 : IVec S16 32) (v346 : IVec S16 32) : Prop :=
  (∀ a x, ((![v309, v3, v346, v2, v3] : Fin 5 → IVec S16 32) a x).toNat < S16x2x16x16x2.size a)
theorem k0_idx70_inb : ∀ (v2 : IVec S16 32) (v3 : IVec S16 32) (v309 : IVec S16 32) (v346 : IVec S16 32) (k0_hw64 : k0_chk64 v2 v3 v309 v346), ∀ a x, ((![v309, v3, v346, v2, v3] : Fin 5 → IVec S16 32) a x).toNat < S16x2x16x16x2.size a := fun v2 v3 v309 v346 k0_hw64 => k0_hw64

def k0_chk65 (v2 : IVec S16 32) (v3 : IVec S16 32) (v309 : IVec S16 32) (v350 : IVec S16 32) : Prop :=
  (∀ a x, ((![v309, v3, v350, v2, v3] : Fin 5 → IVec S16 32) a x).toNat < S16x2x16x16x2.size a)
theorem k0_idx71_inb : ∀ (v2 : IVec S16 32) (v3 : IVec S16 32) (v309 : IVec S16 32) (v350 : IVec S16 32) (k0_hw65 : k0_chk65 v2 v3 v309 v350), ∀ a x, ((![v309, v3, v350, v2, v3] : Fin 5 → IVec S16 32) a x).toNat < S16x2x16x16x2.size a := fun v2 v3 v309 v350 k0_hw65 => k0_hw65

def k0_chk66 (v2 : IVec S16 32) (v3 : IVec S16 32) (v309 : IVec S16 32) (v354 : IVec S16 32) : Prop :=
  (∀ a x, ((![v309, v3, v354, v2, v3] : Fin 5 → IVec S16 32) a x).toNat < S16x2x16x16x2.size a)
theorem k0_idx72_inb : ∀ (v2 : IVec S16 32) (v3 : IVec S16 32) (v309 : IVec S16 32) (v354 : IVec S16 32) (k0_hw66 : k0_chk66 v2 v3 v309 v354), ∀ a x, ((![v309, v3, v354, v2, v3] : Fin 5 → IVec S16 32) a x).toNat < S16x2x16x16x2.size a := fun v2 v3 v309 v354 k0_hw66 => k0_hw66

def k0_chk67 (v2 : IVec S16 32) (v3 : IVec S16 32) (v309 : IVec S16 32) (v358 : IVec S16 32) : Prop :=
  (∀ a x, ((![v309, v3, v358, v2, v3] : Fin 5 → IVec S16 32) a x).toNat < S16x2x16x16x2.size a)
theorem k0_idx73_inb : ∀ (v2 : IVec S16 32) (v3 : IVec S16 32) (v309 : IVec S16 32) (v358 : IVec S16 32) (k0_hw67 : k0_chk67 v2 v3 v309 v358), ∀ a x, ((![v309, v3, v358, v2, v3] : Fin 5 → IVec S16 32) a x).toNat < S16x2x16x16x2.size a := fun v2 v3 v309 v358 k0_hw67 => k0_hw67

def k0_chk68 (v2 : IVec S16 32) (v3 : IVec S16 32) (v309 : IVec S16 32) (v362 : IVec S16 32) : Prop :=
  (∀ a x, ((![v309, v3, v362, v2, v3] : Fin 5 → IVec S16 32) a x).toNat < S16x2x16x16x2.size a)
theorem k0_idx74_inb : ∀ (v2 : IVec S16 32) (v3 : IVec S16 32) (v309 : IVec S16 32) (v362 : IVec S16 32) (k0_hw68 : k0_chk68 v2 v3 v309 v362), ∀ a x, ((![v309, v3, v362, v2, v3] : Fin 5 → IVec S16 32) a x).toNat < S16x2x16x16x2.size a := fun v2 v3 v309 v362 k0_hw68 => k0_hw68

def k0_chk69 (v2 : IVec S16 32) (v3 : IVec S16 32) (v309 : IVec S16 32) (v366 : IVec S16 32) : Prop :=
  (∀ a x, ((![v309, v3, v366, v2, v3] : Fin 5 → IVec S16 32) a x).toNat < S16x2x16x16x2.size a)
theorem k0_idx75_inb : ∀ (v2 : IVec S16 32) (v3 : IVec S16 32) (v309 : IVec S16 32) (v366 : IVec S16 32) (k0_hw69 : k0_chk69 v2 v3 v309 v366), ∀ a x, ((![v309, v3, v366, v2, v3] : Fin 5 → IVec S16 32) a x).toNat < S16x2x16x16x2.size a := fun v2 v3 v309 v366 k0_hw69 => k0_hw69

def k0_chk70 (v2 : IVec S16 32) (v3 : IVec S16 32) (v309 : IVec S16 32) (v370 : IVec S16 32) : Prop :=
  (∀ a x, ((![v309, v3, v370, v2, v3] : Fin 5 → IVec S16 32) a x).toNat < S16x2x16x16x2.size a)
theorem k0_idx76_inb : ∀ (v2 : IVec S16 32) (v3 : IVec S16 32) (v309 : IVec S16 32) (v370 : IVec S16 32) (k0_hw70 : k0_chk70 v2 v3 v309 v370), ∀ a x, ((![v309, v3, v370, v2, v3] : Fin 5 → IVec S16 32) a x).toNat < S16x2x16x16x2.size a := fun v2 v3 v309 v370 k0_hw70 => k0_hw70

def k0_chk72 (v309 : IVec S16 32) (v378 : IVec S16 32) : Prop :=
  (∀ a x, ((![v309, v378] : Fin 2 → IVec S16 32) a x).toNat < S16x256.size a)
theorem k0_idx78_inb : ∀ (v309 : IVec S16 32) (v378 : IVec S16 32) (k0_hw72 : k0_chk72 v309 v378), ∀ a x, ((![v309, v378] : Fin 2 → IVec S16 32) a x).toNat < S16x256.size a := fun v309 v378 k0_hw72 => k0_hw72

def k0_chk71 (v2 : IVec S16 32) (v3 : IVec S16 32) (v4 : IVec S16 32) (v309 : IVec S16 32) : Prop :=
  (∀ a x, ((![v309, v4, v2, v309, v4] : Fin 5 → IVec S16 32) a x).toNat < S16x2x16x16x2.size a) ∧
  (∀ a x, ((![v309, v3, v2, v3] : Fin 4 → IVec S16 32) a x).toNat < S16x2x16x2.size a) ∧
  (∀ a x, ((![v309, v4, v309, v4] : Fin 4 → IVec S16 32) a x).toNat < S16x2x16x2.size a)
theorem k0_idx77_inb : ∀ (v2 : IVec S16 32) (v3 : IVec S16 32) (v4 : IVec S16 32) (v309 : IVec S16 32) (k0_hw71 : k0_chk71 v2 v3 v4 v309), ∀ a x, ((![v309, v4, v2, v309, v4] : Fin 5 → IVec S16 32) a x).toNat < S16x2x16x16x2.size a := fun v2 v3 v4 v309 k0_hw71 => k0_hw71.1
theorem k0_idx79_inb : ∀ (v2 : IVec S16 32) (v3 : IVec S16 32) (v4 : IVec S16 32) (v309 : IVec S16 32) (k0_hw71 : k0_chk71 v2 v3 v4 v309), ∀ a x, ((![v309, v3, v2, v3] : Fin 4 → IVec S16 32) a x).toNat < S16x2x16x2.size a := fun v2 v3 v4 v309 k0_hw71 => k0_hw71.2.1
theorem k0_idx80_inb : ∀ (v2 : IVec S16 32) (v3 : IVec S16 32) (v4 : IVec S16 32) (v309 : IVec S16 32) (k0_hw71 : k0_chk71 v2 v3 v4 v309), ∀ a x, ((![v309, v4, v309, v4] : Fin 4 → IVec S16 32) a x).toNat < S16x2x16x2.size a := fun v2 v3 v4 v309 k0_hw71 => k0_hw71.2.2
def k0_off6 (i : grid0.Coords) (k0_t1 : Fin k0_t1_loop.trips) : Fin 2 → Nat :=
  let c3_i32_252 : BitVec 32 := 3#32
  let v387 : Index := Scalar.indexCast c3_i32_252
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_251 : BitVec 32 := 16#32
  let v386 : BitVec 32 := Scalar.muli v34 c16_i32_251
  let v388 : Index := Scalar.indexCast v386
  ![3, v388.toNat]

def k0_chk73 (v2 : IVec S16 32) (v3 : IVec S16 32) (v395 : IVec S16 32) (v396 : IVec S16 32) : Prop :=
  (∀ a x, ((![v395, v3, v396, v2, v3] : Fin 5 → IVec S16 32) a x).toNat < S16x2x16x16x2.size a)
theorem k0_idx81_inb : ∀ (v2 : IVec S16 32) (v3 : IVec S16 32) (v395 : IVec S16 32) (v396 : IVec S16 32) (k0_hw73 : k0_chk73 v2 v3 v395 v396), ∀ a x, ((![v395, v3, v396, v2, v3] : Fin 5 → IVec S16 32) a x).toNat < S16x2x16x16x2.size a := fun v2 v3 v395 v396 k0_hw73 => k0_hw73

def k0_chk74 (v2 : IVec S16 32) (v3 : IVec S16 32) (v395 : IVec S16 32) (v400 : IVec S16 32) : Prop :=
  (∀ a x, ((![v395, v3, v400, v2, v3] : Fin 5 → IVec S16 32) a x).toNat < S16x2x16x16x2.size a)
theorem k0_idx82_inb : ∀ (v2 : IVec S16 32) (v3 : IVec S16 32) (v395 : IVec S16 32) (v400 : IVec S16 32) (k0_hw74 : k0_chk74 v2 v3 v395 v400), ∀ a x, ((![v395, v3, v400, v2, v3] : Fin 5 → IVec S16 32) a x).toNat < S16x2x16x16x2.size a := fun v2 v3 v395 v400 k0_hw74 => k0_hw74

def k0_chk75 (v2 : IVec S16 32) (v3 : IVec S16 32) (v395 : IVec S16 32) (v404 : IVec S16 32) : Prop :=
  (∀ a x, ((![v395, v3, v404, v2, v3] : Fin 5 → IVec S16 32) a x).toNat < S16x2x16x16x2.size a)
theorem k0_idx83_inb : ∀ (v2 : IVec S16 32) (v3 : IVec S16 32) (v395 : IVec S16 32) (v404 : IVec S16 32) (k0_hw75 : k0_chk75 v2 v3 v395 v404), ∀ a x, ((![v395, v3, v404, v2, v3] : Fin 5 → IVec S16 32) a x).toNat < S16x2x16x16x2.size a := fun v2 v3 v395 v404 k0_hw75 => k0_hw75

def k0_chk76 (v2 : IVec S16 32) (v3 : IVec S16 32) (v395 : IVec S16 32) (v408 : IVec S16 32) : Prop :=
  (∀ a x, ((![v395, v3, v408, v2, v3] : Fin 5 → IVec S16 32) a x).toNat < S16x2x16x16x2.size a)
theorem k0_idx84_inb : ∀ (v2 : IVec S16 32) (v3 : IVec S16 32) (v395 : IVec S16 32) (v408 : IVec S16 32) (k0_hw76 : k0_chk76 v2 v3 v395 v408), ∀ a x, ((![v395, v3, v408, v2, v3] : Fin 5 → IVec S16 32) a x).toNat < S16x2x16x16x2.size a := fun v2 v3 v395 v408 k0_hw76 => k0_hw76

def k0_chk77 (v2 : IVec S16 32) (v3 : IVec S16 32) (v395 : IVec S16 32) (v412 : IVec S16 32) : Prop :=
  (∀ a x, ((![v395, v3, v412, v2, v3] : Fin 5 → IVec S16 32) a x).toNat < S16x2x16x16x2.size a)
theorem k0_idx85_inb : ∀ (v2 : IVec S16 32) (v3 : IVec S16 32) (v395 : IVec S16 32) (v412 : IVec S16 32) (k0_hw77 : k0_chk77 v2 v3 v395 v412), ∀ a x, ((![v395, v3, v412, v2, v3] : Fin 5 → IVec S16 32) a x).toNat < S16x2x16x16x2.size a := fun v2 v3 v395 v412 k0_hw77 => k0_hw77

def k0_chk78 (v2 : IVec S16 32) (v3 : IVec S16 32) (v395 : IVec S16 32) (v416 : IVec S16 32) : Prop :=
  (∀ a x, ((![v395, v3, v416, v2, v3] : Fin 5 → IVec S16 32) a x).toNat < S16x2x16x16x2.size a)
theorem k0_idx86_inb : ∀ (v2 : IVec S16 32) (v3 : IVec S16 32) (v395 : IVec S16 32) (v416 : IVec S16 32) (k0_hw78 : k0_chk78 v2 v3 v395 v416), ∀ a x, ((![v395, v3, v416, v2, v3] : Fin 5 → IVec S16 32) a x).toNat < S16x2x16x16x2.size a := fun v2 v3 v395 v416 k0_hw78 => k0_hw78

def k0_chk79 (v2 : IVec S16 32) (v3 : IVec S16 32) (v395 : IVec S16 32) (v420 : IVec S16 32) : Prop :=
  (∀ a x, ((![v395, v3, v420, v2, v3] : Fin 5 → IVec S16 32) a x).toNat < S16x2x16x16x2.size a)
theorem k0_idx87_inb : ∀ (v2 : IVec S16 32) (v3 : IVec S16 32) (v395 : IVec S16 32) (v420 : IVec S16 32) (k0_hw79 : k0_chk79 v2 v3 v395 v420), ∀ a x, ((![v395, v3, v420, v2, v3] : Fin 5 → IVec S16 32) a x).toNat < S16x2x16x16x2.size a := fun v2 v3 v395 v420 k0_hw79 => k0_hw79

def k0_chk80 (v2 : IVec S16 32) (v3 : IVec S16 32) (v395 : IVec S16 32) (v424 : IVec S16 32) : Prop :=
  (∀ a x, ((![v395, v3, v424, v2, v3] : Fin 5 → IVec S16 32) a x).toNat < S16x2x16x16x2.size a)
theorem k0_idx88_inb : ∀ (v2 : IVec S16 32) (v3 : IVec S16 32) (v395 : IVec S16 32) (v424 : IVec S16 32) (k0_hw80 : k0_chk80 v2 v3 v395 v424), ∀ a x, ((![v395, v3, v424, v2, v3] : Fin 5 → IVec S16 32) a x).toNat < S16x2x16x16x2.size a := fun v2 v3 v395 v424 k0_hw80 => k0_hw80

def k0_chk81 (v2 : IVec S16 32) (v3 : IVec S16 32) (v395 : IVec S16 32) (v428 : IVec S16 32) : Prop :=
  (∀ a x, ((![v395, v3, v428, v2, v3] : Fin 5 → IVec S16 32) a x).toNat < S16x2x16x16x2.size a)
theorem k0_idx89_inb : ∀ (v2 : IVec S16 32) (v3 : IVec S16 32) (v395 : IVec S16 32) (v428 : IVec S16 32) (k0_hw81 : k0_chk81 v2 v3 v395 v428), ∀ a x, ((![v395, v3, v428, v2, v3] : Fin 5 → IVec S16 32) a x).toNat < S16x2x16x16x2.size a := fun v2 v3 v395 v428 k0_hw81 => k0_hw81

def k0_chk82 (v2 : IVec S16 32) (v3 : IVec S16 32) (v395 : IVec S16 32) (v432 : IVec S16 32) : Prop :=
  (∀ a x, ((![v395, v3, v432, v2, v3] : Fin 5 → IVec S16 32) a x).toNat < S16x2x16x16x2.size a)
theorem k0_idx90_inb : ∀ (v2 : IVec S16 32) (v3 : IVec S16 32) (v395 : IVec S16 32) (v432 : IVec S16 32) (k0_hw82 : k0_chk82 v2 v3 v395 v432), ∀ a x, ((![v395, v3, v432, v2, v3] : Fin 5 → IVec S16 32) a x).toNat < S16x2x16x16x2.size a := fun v2 v3 v395 v432 k0_hw82 => k0_hw82

def k0_chk83 (v2 : IVec S16 32) (v3 : IVec S16 32) (v395 : IVec S16 32) (v436 : IVec S16 32) : Prop :=
  (∀ a x, ((![v395, v3, v436, v2, v3] : Fin 5 → IVec S16 32) a x).toNat < S16x2x16x16x2.size a)
theorem k0_idx91_inb : ∀ (v2 : IVec S16 32) (v3 : IVec S16 32) (v395 : IVec S16 32) (v436 : IVec S16 32) (k0_hw83 : k0_chk83 v2 v3 v395 v436), ∀ a x, ((![v395, v3, v436, v2, v3] : Fin 5 → IVec S16 32) a x).toNat < S16x2x16x16x2.size a := fun v2 v3 v395 v436 k0_hw83 => k0_hw83

def k0_chk84 (v2 : IVec S16 32) (v3 : IVec S16 32) (v395 : IVec S16 32) (v440 : IVec S16 32) : Prop :=
  (∀ a x, ((![v395, v3, v440, v2, v3] : Fin 5 → IVec S16 32) a x).toNat < S16x2x16x16x2.size a)
theorem k0_idx92_inb : ∀ (v2 : IVec S16 32) (v3 : IVec S16 32) (v395 : IVec S16 32) (v440 : IVec S16 32) (k0_hw84 : k0_chk84 v2 v3 v395 v440), ∀ a x, ((![v395, v3, v440, v2, v3] : Fin 5 → IVec S16 32) a x).toNat < S16x2x16x16x2.size a := fun v2 v3 v395 v440 k0_hw84 => k0_hw84

def k0_chk85 (v2 : IVec S16 32) (v3 : IVec S16 32) (v395 : IVec S16 32) (v444 : IVec S16 32) : Prop :=
  (∀ a x, ((![v395, v3, v444, v2, v3] : Fin 5 → IVec S16 32) a x).toNat < S16x2x16x16x2.size a)
theorem k0_idx93_inb : ∀ (v2 : IVec S16 32) (v3 : IVec S16 32) (v395 : IVec S16 32) (v444 : IVec S16 32) (k0_hw85 : k0_chk85 v2 v3 v395 v444), ∀ a x, ((![v395, v3, v444, v2, v3] : Fin 5 → IVec S16 32) a x).toNat < S16x2x16x16x2.size a := fun v2 v3 v395 v444 k0_hw85 => k0_hw85

def k0_chk86 (v2 : IVec S16 32) (v3 : IVec S16 32) (v395 : IVec S16 32) (v448 : IVec S16 32) : Prop :=
  (∀ a x, ((![v395, v3, v448, v2, v3] : Fin 5 → IVec S16 32) a x).toNat < S16x2x16x16x2.size a)
theorem k0_idx94_inb : ∀ (v2 : IVec S16 32) (v3 : IVec S16 32) (v395 : IVec S16 32) (v448 : IVec S16 32) (k0_hw86 : k0_chk86 v2 v3 v395 v448), ∀ a x, ((![v395, v3, v448, v2, v3] : Fin 5 → IVec S16 32) a x).toNat < S16x2x16x16x2.size a := fun v2 v3 v395 v448 k0_hw86 => k0_hw86

def k0_chk87 (v2 : IVec S16 32) (v3 : IVec S16 32) (v395 : IVec S16 32) (v452 : IVec S16 32) : Prop :=
  (∀ a x, ((![v395, v3, v452, v2, v3] : Fin 5 → IVec S16 32) a x).toNat < S16x2x16x16x2.size a)
theorem k0_idx95_inb : ∀ (v2 : IVec S16 32) (v3 : IVec S16 32) (v395 : IVec S16 32) (v452 : IVec S16 32) (k0_hw87 : k0_chk87 v2 v3 v395 v452), ∀ a x, ((![v395, v3, v452, v2, v3] : Fin 5 → IVec S16 32) a x).toNat < S16x2x16x16x2.size a := fun v2 v3 v395 v452 k0_hw87 => k0_hw87

def k0_chk88 (v2 : IVec S16 32) (v3 : IVec S16 32) (v395 : IVec S16 32) (v456 : IVec S16 32) : Prop :=
  (∀ a x, ((![v395, v3, v456, v2, v3] : Fin 5 → IVec S16 32) a x).toNat < S16x2x16x16x2.size a)
theorem k0_idx96_inb : ∀ (v2 : IVec S16 32) (v3 : IVec S16 32) (v395 : IVec S16 32) (v456 : IVec S16 32) (k0_hw88 : k0_chk88 v2 v3 v395 v456), ∀ a x, ((![v395, v3, v456, v2, v3] : Fin 5 → IVec S16 32) a x).toNat < S16x2x16x16x2.size a := fun v2 v3 v395 v456 k0_hw88 => k0_hw88

def k0_chk90 (v395 : IVec S16 32) (v464 : IVec S16 32) : Prop :=
  (∀ a x, ((![v395, v464] : Fin 2 → IVec S16 32) a x).toNat < S16x256.size a)
theorem k0_idx98_inb : ∀ (v395 : IVec S16 32) (v464 : IVec S16 32) (k0_hw90 : k0_chk90 v395 v464), ∀ a x, ((![v395, v464] : Fin 2 → IVec S16 32) a x).toNat < S16x256.size a := fun v395 v464 k0_hw90 => k0_hw90

def k0_chk89 (v2 : IVec S16 32) (v3 : IVec S16 32) (v4 : IVec S16 32) (v395 : IVec S16 32) : Prop :=
  (∀ a x, ((![v395, v4, v2, v395, v4] : Fin 5 → IVec S16 32) a x).toNat < S16x2x16x16x2.size a) ∧
  (∀ a x, ((![v395, v3, v2, v3] : Fin 4 → IVec S16 32) a x).toNat < S16x2x16x2.size a) ∧
  (∀ a x, ((![v395, v4, v395, v4] : Fin 4 → IVec S16 32) a x).toNat < S16x2x16x2.size a)
theorem k0_idx97_inb : ∀ (v2 : IVec S16 32) (v3 : IVec S16 32) (v4 : IVec S16 32) (v395 : IVec S16 32) (k0_hw89 : k0_chk89 v2 v3 v4 v395), ∀ a x, ((![v395, v4, v2, v395, v4] : Fin 5 → IVec S16 32) a x).toNat < S16x2x16x16x2.size a := fun v2 v3 v4 v395 k0_hw89 => k0_hw89.1
theorem k0_idx99_inb : ∀ (v2 : IVec S16 32) (v3 : IVec S16 32) (v4 : IVec S16 32) (v395 : IVec S16 32) (k0_hw89 : k0_chk89 v2 v3 v4 v395), ∀ a x, ((![v395, v3, v2, v3] : Fin 4 → IVec S16 32) a x).toNat < S16x2x16x2.size a := fun v2 v3 v4 v395 k0_hw89 => k0_hw89.2.1
theorem k0_idx100_inb : ∀ (v2 : IVec S16 32) (v3 : IVec S16 32) (v4 : IVec S16 32) (v395 : IVec S16 32) (k0_hw89 : k0_chk89 v2 v3 v4 v395), ∀ a x, ((![v395, v4, v395, v4] : Fin 4 → IVec S16 32) a x).toNat < S16x2x16x2.size a := fun v2 v3 v4 v395 k0_hw89 => k0_hw89.2.2
def k0_off7 (i : grid0.Coords) (k0_t1 : Fin k0_t1_loop.trips) : Fin 2 → Nat :=
  let c4_i32_309 : BitVec 32 := 4#32
  let v473 : Index := Scalar.indexCast c4_i32_309
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_308 : BitVec 32 := 16#32
  let v472 : BitVec 32 := Scalar.muli v34 c16_i32_308
  let v474 : Index := Scalar.indexCast v472
  ![4, v474.toNat]

def k0_chk91 (v2 : IVec S16 32) (v3 : IVec S16 32) (v481 : IVec S16 32) (v482 : IVec S16 32) : Prop :=
  (∀ a x, ((![v481, v3, v482, v2, v3] : Fin 5 → IVec S16 32) a x).toNat < S16x2x16x16x2.size a)
theorem k0_idx101_inb : ∀ (v2 : IVec S16 32) (v3 : IVec S16 32) (v481 : IVec S16 32) (v482 : IVec S16 32) (k0_hw91 : k0_chk91 v2 v3 v481 v482), ∀ a x, ((![v481, v3, v482, v2, v3] : Fin 5 → IVec S16 32) a x).toNat < S16x2x16x16x2.size a := fun v2 v3 v481 v482 k0_hw91 => k0_hw91

def k0_chk92 (v2 : IVec S16 32) (v3 : IVec S16 32) (v481 : IVec S16 32) (v486 : IVec S16 32) : Prop :=
  (∀ a x, ((![v481, v3, v486, v2, v3] : Fin 5 → IVec S16 32) a x).toNat < S16x2x16x16x2.size a)
theorem k0_idx102_inb : ∀ (v2 : IVec S16 32) (v3 : IVec S16 32) (v481 : IVec S16 32) (v486 : IVec S16 32) (k0_hw92 : k0_chk92 v2 v3 v481 v486), ∀ a x, ((![v481, v3, v486, v2, v3] : Fin 5 → IVec S16 32) a x).toNat < S16x2x16x16x2.size a := fun v2 v3 v481 v486 k0_hw92 => k0_hw92

def k0_chk93 (v2 : IVec S16 32) (v3 : IVec S16 32) (v481 : IVec S16 32) (v490 : IVec S16 32) : Prop :=
  (∀ a x, ((![v481, v3, v490, v2, v3] : Fin 5 → IVec S16 32) a x).toNat < S16x2x16x16x2.size a)
theorem k0_idx103_inb : ∀ (v2 : IVec S16 32) (v3 : IVec S16 32) (v481 : IVec S16 32) (v490 : IVec S16 32) (k0_hw93 : k0_chk93 v2 v3 v481 v490), ∀ a x, ((![v481, v3, v490, v2, v3] : Fin 5 → IVec S16 32) a x).toNat < S16x2x16x16x2.size a := fun v2 v3 v481 v490 k0_hw93 => k0_hw93

def k0_chk94 (v2 : IVec S16 32) (v3 : IVec S16 32) (v481 : IVec S16 32) (v494 : IVec S16 32) : Prop :=
  (∀ a x, ((![v481, v3, v494, v2, v3] : Fin 5 → IVec S16 32) a x).toNat < S16x2x16x16x2.size a)
theorem k0_idx104_inb : ∀ (v2 : IVec S16 32) (v3 : IVec S16 32) (v481 : IVec S16 32) (v494 : IVec S16 32) (k0_hw94 : k0_chk94 v2 v3 v481 v494), ∀ a x, ((![v481, v3, v494, v2, v3] : Fin 5 → IVec S16 32) a x).toNat < S16x2x16x16x2.size a := fun v2 v3 v481 v494 k0_hw94 => k0_hw94

def k0_chk95 (v2 : IVec S16 32) (v3 : IVec S16 32) (v481 : IVec S16 32) (v498 : IVec S16 32) : Prop :=
  (∀ a x, ((![v481, v3, v498, v2, v3] : Fin 5 → IVec S16 32) a x).toNat < S16x2x16x16x2.size a)
theorem k0_idx105_inb : ∀ (v2 : IVec S16 32) (v3 : IVec S16 32) (v481 : IVec S16 32) (v498 : IVec S16 32) (k0_hw95 : k0_chk95 v2 v3 v481 v498), ∀ a x, ((![v481, v3, v498, v2, v3] : Fin 5 → IVec S16 32) a x).toNat < S16x2x16x16x2.size a := fun v2 v3 v481 v498 k0_hw95 => k0_hw95

def k0_chk96 (v2 : IVec S16 32) (v3 : IVec S16 32) (v481 : IVec S16 32) (v502 : IVec S16 32) : Prop :=
  (∀ a x, ((![v481, v3, v502, v2, v3] : Fin 5 → IVec S16 32) a x).toNat < S16x2x16x16x2.size a)
theorem k0_idx106_inb : ∀ (v2 : IVec S16 32) (v3 : IVec S16 32) (v481 : IVec S16 32) (v502 : IVec S16 32) (k0_hw96 : k0_chk96 v2 v3 v481 v502), ∀ a x, ((![v481, v3, v502, v2, v3] : Fin 5 → IVec S16 32) a x).toNat < S16x2x16x16x2.size a := fun v2 v3 v481 v502 k0_hw96 => k0_hw96

def k0_chk97 (v2 : IVec S16 32) (v3 : IVec S16 32) (v481 : IVec S16 32) (v506 : IVec S16 32) : Prop :=
  (∀ a x, ((![v481, v3, v506, v2, v3] : Fin 5 → IVec S16 32) a x).toNat < S16x2x16x16x2.size a)
theorem k0_idx107_inb : ∀ (v2 : IVec S16 32) (v3 : IVec S16 32) (v481 : IVec S16 32) (v506 : IVec S16 32) (k0_hw97 : k0_chk97 v2 v3 v481 v506), ∀ a x, ((![v481, v3, v506, v2, v3] : Fin 5 → IVec S16 32) a x).toNat < S16x2x16x16x2.size a := fun v2 v3 v481 v506 k0_hw97 => k0_hw97

def k0_chk98 (v2 : IVec S16 32) (v3 : IVec S16 32) (v481 : IVec S16 32) (v510 : IVec S16 32) : Prop :=
  (∀ a x, ((![v481, v3, v510, v2, v3] : Fin 5 → IVec S16 32) a x).toNat < S16x2x16x16x2.size a)
theorem k0_idx108_inb : ∀ (v2 : IVec S16 32) (v3 : IVec S16 32) (v481 : IVec S16 32) (v510 : IVec S16 32) (k0_hw98 : k0_chk98 v2 v3 v481 v510), ∀ a x, ((![v481, v3, v510, v2, v3] : Fin 5 → IVec S16 32) a x).toNat < S16x2x16x16x2.size a := fun v2 v3 v481 v510 k0_hw98 => k0_hw98

def k0_chk99 (v2 : IVec S16 32) (v3 : IVec S16 32) (v481 : IVec S16 32) (v514 : IVec S16 32) : Prop :=
  (∀ a x, ((![v481, v3, v514, v2, v3] : Fin 5 → IVec S16 32) a x).toNat < S16x2x16x16x2.size a)
theorem k0_idx109_inb : ∀ (v2 : IVec S16 32) (v3 : IVec S16 32) (v481 : IVec S16 32) (v514 : IVec S16 32) (k0_hw99 : k0_chk99 v2 v3 v481 v514), ∀ a x, ((![v481, v3, v514, v2, v3] : Fin 5 → IVec S16 32) a x).toNat < S16x2x16x16x2.size a := fun v2 v3 v481 v514 k0_hw99 => k0_hw99

def k0_chk100 (v2 : IVec S16 32) (v3 : IVec S16 32) (v481 : IVec S16 32) (v518 : IVec S16 32) : Prop :=
  (∀ a x, ((![v481, v3, v518, v2, v3] : Fin 5 → IVec S16 32) a x).toNat < S16x2x16x16x2.size a)
theorem k0_idx110_inb : ∀ (v2 : IVec S16 32) (v3 : IVec S16 32) (v481 : IVec S16 32) (v518 : IVec S16 32) (k0_hw100 : k0_chk100 v2 v3 v481 v518), ∀ a x, ((![v481, v3, v518, v2, v3] : Fin 5 → IVec S16 32) a x).toNat < S16x2x16x16x2.size a := fun v2 v3 v481 v518 k0_hw100 => k0_hw100

def k0_chk101 (v2 : IVec S16 32) (v3 : IVec S16 32) (v481 : IVec S16 32) (v522 : IVec S16 32) : Prop :=
  (∀ a x, ((![v481, v3, v522, v2, v3] : Fin 5 → IVec S16 32) a x).toNat < S16x2x16x16x2.size a)
theorem k0_idx111_inb : ∀ (v2 : IVec S16 32) (v3 : IVec S16 32) (v481 : IVec S16 32) (v522 : IVec S16 32) (k0_hw101 : k0_chk101 v2 v3 v481 v522), ∀ a x, ((![v481, v3, v522, v2, v3] : Fin 5 → IVec S16 32) a x).toNat < S16x2x16x16x2.size a := fun v2 v3 v481 v522 k0_hw101 => k0_hw101

def k0_chk102 (v2 : IVec S16 32) (v3 : IVec S16 32) (v481 : IVec S16 32) (v526 : IVec S16 32) : Prop :=
  (∀ a x, ((![v481, v3, v526, v2, v3] : Fin 5 → IVec S16 32) a x).toNat < S16x2x16x16x2.size a)
theorem k0_idx112_inb : ∀ (v2 : IVec S16 32) (v3 : IVec S16 32) (v481 : IVec S16 32) (v526 : IVec S16 32) (k0_hw102 : k0_chk102 v2 v3 v481 v526), ∀ a x, ((![v481, v3, v526, v2, v3] : Fin 5 → IVec S16 32) a x).toNat < S16x2x16x16x2.size a := fun v2 v3 v481 v526 k0_hw102 => k0_hw102

def k0_chk103 (v2 : IVec S16 32) (v3 : IVec S16 32) (v481 : IVec S16 32) (v530 : IVec S16 32) : Prop :=
  (∀ a x, ((![v481, v3, v530, v2, v3] : Fin 5 → IVec S16 32) a x).toNat < S16x2x16x16x2.size a)
theorem k0_idx113_inb : ∀ (v2 : IVec S16 32) (v3 : IVec S16 32) (v481 : IVec S16 32) (v530 : IVec S16 32) (k0_hw103 : k0_chk103 v2 v3 v481 v530), ∀ a x, ((![v481, v3, v530, v2, v3] : Fin 5 → IVec S16 32) a x).toNat < S16x2x16x16x2.size a := fun v2 v3 v481 v530 k0_hw103 => k0_hw103

def k0_chk104 (v2 : IVec S16 32) (v3 : IVec S16 32) (v481 : IVec S16 32) (v534 : IVec S16 32) : Prop :=
  (∀ a x, ((![v481, v3, v534, v2, v3] : Fin 5 → IVec S16 32) a x).toNat < S16x2x16x16x2.size a)
theorem k0_idx114_inb : ∀ (v2 : IVec S16 32) (v3 : IVec S16 32) (v481 : IVec S16 32) (v534 : IVec S16 32) (k0_hw104 : k0_chk104 v2 v3 v481 v534), ∀ a x, ((![v481, v3, v534, v2, v3] : Fin 5 → IVec S16 32) a x).toNat < S16x2x16x16x2.size a := fun v2 v3 v481 v534 k0_hw104 => k0_hw104

def k0_chk105 (v2 : IVec S16 32) (v3 : IVec S16 32) (v481 : IVec S16 32) (v538 : IVec S16 32) : Prop :=
  (∀ a x, ((![v481, v3, v538, v2, v3] : Fin 5 → IVec S16 32) a x).toNat < S16x2x16x16x2.size a)
theorem k0_idx115_inb : ∀ (v2 : IVec S16 32) (v3 : IVec S16 32) (v481 : IVec S16 32) (v538 : IVec S16 32) (k0_hw105 : k0_chk105 v2 v3 v481 v538), ∀ a x, ((![v481, v3, v538, v2, v3] : Fin 5 → IVec S16 32) a x).toNat < S16x2x16x16x2.size a := fun v2 v3 v481 v538 k0_hw105 => k0_hw105

def k0_chk106 (v2 : IVec S16 32) (v3 : IVec S16 32) (v481 : IVec S16 32) (v542 : IVec S16 32) : Prop :=
  (∀ a x, ((![v481, v3, v542, v2, v3] : Fin 5 → IVec S16 32) a x).toNat < S16x2x16x16x2.size a)
theorem k0_idx116_inb : ∀ (v2 : IVec S16 32) (v3 : IVec S16 32) (v481 : IVec S16 32) (v542 : IVec S16 32) (k0_hw106 : k0_chk106 v2 v3 v481 v542), ∀ a x, ((![v481, v3, v542, v2, v3] : Fin 5 → IVec S16 32) a x).toNat < S16x2x16x16x2.size a := fun v2 v3 v481 v542 k0_hw106 => k0_hw106

def k0_chk108 (v481 : IVec S16 32) (v550 : IVec S16 32) : Prop :=
  (∀ a x, ((![v481, v550] : Fin 2 → IVec S16 32) a x).toNat < S16x256.size a)
theorem k0_idx118_inb : ∀ (v481 : IVec S16 32) (v550 : IVec S16 32) (k0_hw108 : k0_chk108 v481 v550), ∀ a x, ((![v481, v550] : Fin 2 → IVec S16 32) a x).toNat < S16x256.size a := fun v481 v550 k0_hw108 => k0_hw108

def k0_chk107 (v2 : IVec S16 32) (v3 : IVec S16 32) (v4 : IVec S16 32) (v481 : IVec S16 32) : Prop :=
  (∀ a x, ((![v481, v4, v2, v481, v4] : Fin 5 → IVec S16 32) a x).toNat < S16x2x16x16x2.size a) ∧
  (∀ a x, ((![v481, v3, v2, v3] : Fin 4 → IVec S16 32) a x).toNat < S16x2x16x2.size a) ∧
  (∀ a x, ((![v481, v4, v481, v4] : Fin 4 → IVec S16 32) a x).toNat < S16x2x16x2.size a)
theorem k0_idx117_inb : ∀ (v2 : IVec S16 32) (v3 : IVec S16 32) (v4 : IVec S16 32) (v481 : IVec S16 32) (k0_hw107 : k0_chk107 v2 v3 v4 v481), ∀ a x, ((![v481, v4, v2, v481, v4] : Fin 5 → IVec S16 32) a x).toNat < S16x2x16x16x2.size a := fun v2 v3 v4 v481 k0_hw107 => k0_hw107.1
theorem k0_idx119_inb : ∀ (v2 : IVec S16 32) (v3 : IVec S16 32) (v4 : IVec S16 32) (v481 : IVec S16 32) (k0_hw107 : k0_chk107 v2 v3 v4 v481), ∀ a x, ((![v481, v3, v2, v3] : Fin 4 → IVec S16 32) a x).toNat < S16x2x16x2.size a := fun v2 v3 v4 v481 k0_hw107 => k0_hw107.2.1
theorem k0_idx120_inb : ∀ (v2 : IVec S16 32) (v3 : IVec S16 32) (v4 : IVec S16 32) (v481 : IVec S16 32) (k0_hw107 : k0_chk107 v2 v3 v4 v481), ∀ a x, ((![v481, v4, v481, v4] : Fin 4 → IVec S16 32) a x).toNat < S16x2x16x2.size a := fun v2 v3 v4 v481 k0_hw107 => k0_hw107.2.2
def k0_off8 (i : grid0.Coords) (k0_t1 : Fin k0_t1_loop.trips) : Fin 2 → Nat :=
  let c5_i32_366 : BitVec 32 := 5#32
  let v559 : Index := Scalar.indexCast c5_i32_366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_365 : BitVec 32 := 16#32
  let v558 : BitVec 32 := Scalar.muli v34 c16_i32_365
  let v560 : Index := Scalar.indexCast v558
  ![5, v560.toNat]

def k0_chk109 (v2 : IVec S16 32) (v3 : IVec S16 32) (v567 : IVec S16 32) (v568 : IVec S16 32) : Prop :=
  (∀ a x, ((![v567, v3, v568, v2, v3] : Fin 5 → IVec S16 32) a x).toNat < S16x2x16x16x2.size a)
theorem k0_idx121_inb : ∀ (v2 : IVec S16 32) (v3 : IVec S16 32) (v567 : IVec S16 32) (v568 : IVec S16 32) (k0_hw109 : k0_chk109 v2 v3 v567 v568), ∀ a x, ((![v567, v3, v568, v2, v3] : Fin 5 → IVec S16 32) a x).toNat < S16x2x16x16x2.size a := fun v2 v3 v567 v568 k0_hw109 => k0_hw109

def k0_chk110 (v2 : IVec S16 32) (v3 : IVec S16 32) (v567 : IVec S16 32) (v572 : IVec S16 32) : Prop :=
  (∀ a x, ((![v567, v3, v572, v2, v3] : Fin 5 → IVec S16 32) a x).toNat < S16x2x16x16x2.size a)
theorem k0_idx122_inb : ∀ (v2 : IVec S16 32) (v3 : IVec S16 32) (v567 : IVec S16 32) (v572 : IVec S16 32) (k0_hw110 : k0_chk110 v2 v3 v567 v572), ∀ a x, ((![v567, v3, v572, v2, v3] : Fin 5 → IVec S16 32) a x).toNat < S16x2x16x16x2.size a := fun v2 v3 v567 v572 k0_hw110 => k0_hw110

def k0_chk111 (v2 : IVec S16 32) (v3 : IVec S16 32) (v567 : IVec S16 32) (v576 : IVec S16 32) : Prop :=
  (∀ a x, ((![v567, v3, v576, v2, v3] : Fin 5 → IVec S16 32) a x).toNat < S16x2x16x16x2.size a)
theorem k0_idx123_inb : ∀ (v2 : IVec S16 32) (v3 : IVec S16 32) (v567 : IVec S16 32) (v576 : IVec S16 32) (k0_hw111 : k0_chk111 v2 v3 v567 v576), ∀ a x, ((![v567, v3, v576, v2, v3] : Fin 5 → IVec S16 32) a x).toNat < S16x2x16x16x2.size a := fun v2 v3 v567 v576 k0_hw111 => k0_hw111

def k0_chk112 (v2 : IVec S16 32) (v3 : IVec S16 32) (v567 : IVec S16 32) (v580 : IVec S16 32) : Prop :=
  (∀ a x, ((![v567, v3, v580, v2, v3] : Fin 5 → IVec S16 32) a x).toNat < S16x2x16x16x2.size a)
theorem k0_idx124_inb : ∀ (v2 : IVec S16 32) (v3 : IVec S16 32) (v567 : IVec S16 32) (v580 : IVec S16 32) (k0_hw112 : k0_chk112 v2 v3 v567 v580), ∀ a x, ((![v567, v3, v580, v2, v3] : Fin 5 → IVec S16 32) a x).toNat < S16x2x16x16x2.size a := fun v2 v3 v567 v580 k0_hw112 => k0_hw112

def k0_chk113 (v2 : IVec S16 32) (v3 : IVec S16 32) (v567 : IVec S16 32) (v584 : IVec S16 32) : Prop :=
  (∀ a x, ((![v567, v3, v584, v2, v3] : Fin 5 → IVec S16 32) a x).toNat < S16x2x16x16x2.size a)
theorem k0_idx125_inb : ∀ (v2 : IVec S16 32) (v3 : IVec S16 32) (v567 : IVec S16 32) (v584 : IVec S16 32) (k0_hw113 : k0_chk113 v2 v3 v567 v584), ∀ a x, ((![v567, v3, v584, v2, v3] : Fin 5 → IVec S16 32) a x).toNat < S16x2x16x16x2.size a := fun v2 v3 v567 v584 k0_hw113 => k0_hw113

def k0_chk114 (v2 : IVec S16 32) (v3 : IVec S16 32) (v567 : IVec S16 32) (v588 : IVec S16 32) : Prop :=
  (∀ a x, ((![v567, v3, v588, v2, v3] : Fin 5 → IVec S16 32) a x).toNat < S16x2x16x16x2.size a)
theorem k0_idx126_inb : ∀ (v2 : IVec S16 32) (v3 : IVec S16 32) (v567 : IVec S16 32) (v588 : IVec S16 32) (k0_hw114 : k0_chk114 v2 v3 v567 v588), ∀ a x, ((![v567, v3, v588, v2, v3] : Fin 5 → IVec S16 32) a x).toNat < S16x2x16x16x2.size a := fun v2 v3 v567 v588 k0_hw114 => k0_hw114

def k0_chk115 (v2 : IVec S16 32) (v3 : IVec S16 32) (v567 : IVec S16 32) (v592 : IVec S16 32) : Prop :=
  (∀ a x, ((![v567, v3, v592, v2, v3] : Fin 5 → IVec S16 32) a x).toNat < S16x2x16x16x2.size a)
theorem k0_idx127_inb : ∀ (v2 : IVec S16 32) (v3 : IVec S16 32) (v567 : IVec S16 32) (v592 : IVec S16 32) (k0_hw115 : k0_chk115 v2 v3 v567 v592), ∀ a x, ((![v567, v3, v592, v2, v3] : Fin 5 → IVec S16 32) a x).toNat < S16x2x16x16x2.size a := fun v2 v3 v567 v592 k0_hw115 => k0_hw115

def k0_chk116 (v2 : IVec S16 32) (v3 : IVec S16 32) (v567 : IVec S16 32) (v596 : IVec S16 32) : Prop :=
  (∀ a x, ((![v567, v3, v596, v2, v3] : Fin 5 → IVec S16 32) a x).toNat < S16x2x16x16x2.size a)
theorem k0_idx128_inb : ∀ (v2 : IVec S16 32) (v3 : IVec S16 32) (v567 : IVec S16 32) (v596 : IVec S16 32) (k0_hw116 : k0_chk116 v2 v3 v567 v596), ∀ a x, ((![v567, v3, v596, v2, v3] : Fin 5 → IVec S16 32) a x).toNat < S16x2x16x16x2.size a := fun v2 v3 v567 v596 k0_hw116 => k0_hw116

def k0_chk117 (v2 : IVec S16 32) (v3 : IVec S16 32) (v567 : IVec S16 32) (v600 : IVec S16 32) : Prop :=
  (∀ a x, ((![v567, v3, v600, v2, v3] : Fin 5 → IVec S16 32) a x).toNat < S16x2x16x16x2.size a)
theorem k0_idx129_inb : ∀ (v2 : IVec S16 32) (v3 : IVec S16 32) (v567 : IVec S16 32) (v600 : IVec S16 32) (k0_hw117 : k0_chk117 v2 v3 v567 v600), ∀ a x, ((![v567, v3, v600, v2, v3] : Fin 5 → IVec S16 32) a x).toNat < S16x2x16x16x2.size a := fun v2 v3 v567 v600 k0_hw117 => k0_hw117

def k0_chk118 (v2 : IVec S16 32) (v3 : IVec S16 32) (v567 : IVec S16 32) (v604 : IVec S16 32) : Prop :=
  (∀ a x, ((![v567, v3, v604, v2, v3] : Fin 5 → IVec S16 32) a x).toNat < S16x2x16x16x2.size a)
theorem k0_idx130_inb : ∀ (v2 : IVec S16 32) (v3 : IVec S16 32) (v567 : IVec S16 32) (v604 : IVec S16 32) (k0_hw118 : k0_chk118 v2 v3 v567 v604), ∀ a x, ((![v567, v3, v604, v2, v3] : Fin 5 → IVec S16 32) a x).toNat < S16x2x16x16x2.size a := fun v2 v3 v567 v604 k0_hw118 => k0_hw118

def k0_chk119 (v2 : IVec S16 32) (v3 : IVec S16 32) (v567 : IVec S16 32) (v608 : IVec S16 32) : Prop :=
  (∀ a x, ((![v567, v3, v608, v2, v3] : Fin 5 → IVec S16 32) a x).toNat < S16x2x16x16x2.size a)
theorem k0_idx131_inb : ∀ (v2 : IVec S16 32) (v3 : IVec S16 32) (v567 : IVec S16 32) (v608 : IVec S16 32) (k0_hw119 : k0_chk119 v2 v3 v567 v608), ∀ a x, ((![v567, v3, v608, v2, v3] : Fin 5 → IVec S16 32) a x).toNat < S16x2x16x16x2.size a := fun v2 v3 v567 v608 k0_hw119 => k0_hw119

def k0_chk120 (v2 : IVec S16 32) (v3 : IVec S16 32) (v567 : IVec S16 32) (v612 : IVec S16 32) : Prop :=
  (∀ a x, ((![v567, v3, v612, v2, v3] : Fin 5 → IVec S16 32) a x).toNat < S16x2x16x16x2.size a)
theorem k0_idx132_inb : ∀ (v2 : IVec S16 32) (v3 : IVec S16 32) (v567 : IVec S16 32) (v612 : IVec S16 32) (k0_hw120 : k0_chk120 v2 v3 v567 v612), ∀ a x, ((![v567, v3, v612, v2, v3] : Fin 5 → IVec S16 32) a x).toNat < S16x2x16x16x2.size a := fun v2 v3 v567 v612 k0_hw120 => k0_hw120

def k0_chk121 (v2 : IVec S16 32) (v3 : IVec S16 32) (v567 : IVec S16 32) (v616 : IVec S16 32) : Prop :=
  (∀ a x, ((![v567, v3, v616, v2, v3] : Fin 5 → IVec S16 32) a x).toNat < S16x2x16x16x2.size a)
theorem k0_idx133_inb : ∀ (v2 : IVec S16 32) (v3 : IVec S16 32) (v567 : IVec S16 32) (v616 : IVec S16 32) (k0_hw121 : k0_chk121 v2 v3 v567 v616), ∀ a x, ((![v567, v3, v616, v2, v3] : Fin 5 → IVec S16 32) a x).toNat < S16x2x16x16x2.size a := fun v2 v3 v567 v616 k0_hw121 => k0_hw121

def k0_chk122 (v2 : IVec S16 32) (v3 : IVec S16 32) (v567 : IVec S16 32) (v620 : IVec S16 32) : Prop :=
  (∀ a x, ((![v567, v3, v620, v2, v3] : Fin 5 → IVec S16 32) a x).toNat < S16x2x16x16x2.size a)
theorem k0_idx134_inb : ∀ (v2 : IVec S16 32) (v3 : IVec S16 32) (v567 : IVec S16 32) (v620 : IVec S16 32) (k0_hw122 : k0_chk122 v2 v3 v567 v620), ∀ a x, ((![v567, v3, v620, v2, v3] : Fin 5 → IVec S16 32) a x).toNat < S16x2x16x16x2.size a := fun v2 v3 v567 v620 k0_hw122 => k0_hw122

def k0_chk123 (v2 : IVec S16 32) (v3 : IVec S16 32) (v567 : IVec S16 32) (v624 : IVec S16 32) : Prop :=
  (∀ a x, ((![v567, v3, v624, v2, v3] : Fin 5 → IVec S16 32) a x).toNat < S16x2x16x16x2.size a)
theorem k0_idx135_inb : ∀ (v2 : IVec S16 32) (v3 : IVec S16 32) (v567 : IVec S16 32) (v624 : IVec S16 32) (k0_hw123 : k0_chk123 v2 v3 v567 v624), ∀ a x, ((![v567, v3, v624, v2, v3] : Fin 5 → IVec S16 32) a x).toNat < S16x2x16x16x2.size a := fun v2 v3 v567 v624 k0_hw123 => k0_hw123

def k0_chk124 (v2 : IVec S16 32) (v3 : IVec S16 32) (v567 : IVec S16 32) (v628 : IVec S16 32) : Prop :=
  (∀ a x, ((![v567, v3, v628, v2, v3] : Fin 5 → IVec S16 32) a x).toNat < S16x2x16x16x2.size a)
theorem k0_idx136_inb : ∀ (v2 : IVec S16 32) (v3 : IVec S16 32) (v567 : IVec S16 32) (v628 : IVec S16 32) (k0_hw124 : k0_chk124 v2 v3 v567 v628), ∀ a x, ((![v567, v3, v628, v2, v3] : Fin 5 → IVec S16 32) a x).toNat < S16x2x16x16x2.size a := fun v2 v3 v567 v628 k0_hw124 => k0_hw124

def k0_chk126 (v567 : IVec S16 32) (v636 : IVec S16 32) : Prop :=
  (∀ a x, ((![v567, v636] : Fin 2 → IVec S16 32) a x).toNat < S16x256.size a)
theorem k0_idx138_inb : ∀ (v567 : IVec S16 32) (v636 : IVec S16 32) (k0_hw126 : k0_chk126 v567 v636), ∀ a x, ((![v567, v636] : Fin 2 → IVec S16 32) a x).toNat < S16x256.size a := fun v567 v636 k0_hw126 => k0_hw126

def k0_chk125 (v2 : IVec S16 32) (v3 : IVec S16 32) (v4 : IVec S16 32) (v567 : IVec S16 32) : Prop :=
  (∀ a x, ((![v567, v4, v2, v567, v4] : Fin 5 → IVec S16 32) a x).toNat < S16x2x16x16x2.size a) ∧
  (∀ a x, ((![v567, v3, v2, v3] : Fin 4 → IVec S16 32) a x).toNat < S16x2x16x2.size a) ∧
  (∀ a x, ((![v567, v4, v567, v4] : Fin 4 → IVec S16 32) a x).toNat < S16x2x16x2.size a)
theorem k0_idx137_inb : ∀ (v2 : IVec S16 32) (v3 : IVec S16 32) (v4 : IVec S16 32) (v567 : IVec S16 32) (k0_hw125 : k0_chk125 v2 v3 v4 v567), ∀ a x, ((![v567, v4, v2, v567, v4] : Fin 5 → IVec S16 32) a x).toNat < S16x2x16x16x2.size a := fun v2 v3 v4 v567 k0_hw125 => k0_hw125.1
theorem k0_idx139_inb : ∀ (v2 : IVec S16 32) (v3 : IVec S16 32) (v4 : IVec S16 32) (v567 : IVec S16 32) (k0_hw125 : k0_chk125 v2 v3 v4 v567), ∀ a x, ((![v567, v3, v2, v3] : Fin 4 → IVec S16 32) a x).toNat < S16x2x16x2.size a := fun v2 v3 v4 v567 k0_hw125 => k0_hw125.2.1
theorem k0_idx140_inb : ∀ (v2 : IVec S16 32) (v3 : IVec S16 32) (v4 : IVec S16 32) (v567 : IVec S16 32) (k0_hw125 : k0_chk125 v2 v3 v4 v567), ∀ a x, ((![v567, v4, v567, v4] : Fin 4 → IVec S16 32) a x).toNat < S16x2x16x2.size a := fun v2 v3 v4 v567 k0_hw125 => k0_hw125.2.2
def k0_off9 (i : grid0.Coords) (k0_t1 : Fin k0_t1_loop.trips) : Fin 2 → Nat :=
  let c6_i32_423 : BitVec 32 := 6#32
  let v645 : Index := Scalar.indexCast c6_i32_423
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_422 : BitVec 32 := 16#32
  let v644 : BitVec 32 := Scalar.muli v34 c16_i32_422
  let v646 : Index := Scalar.indexCast v644
  ![6, v646.toNat]

def k0_chk127 (v2 : IVec S16 32) (v3 : IVec S16 32) (v653 : IVec S16 32) (v654 : IVec S16 32) : Prop :=
  (∀ a x, ((![v653, v3, v654, v2, v3] : Fin 5 → IVec S16 32) a x).toNat < S16x2x16x16x2.size a)
theorem k0_idx141_inb : ∀ (v2 : IVec S16 32) (v3 : IVec S16 32) (v653 : IVec S16 32) (v654 : IVec S16 32) (k0_hw127 : k0_chk127 v2 v3 v653 v654), ∀ a x, ((![v653, v3, v654, v2, v3] : Fin 5 → IVec S16 32) a x).toNat < S16x2x16x16x2.size a := fun v2 v3 v653 v654 k0_hw127 => k0_hw127

def k0_chk128 (v2 : IVec S16 32) (v3 : IVec S16 32) (v653 : IVec S16 32) (v658 : IVec S16 32) : Prop :=
  (∀ a x, ((![v653, v3, v658, v2, v3] : Fin 5 → IVec S16 32) a x).toNat < S16x2x16x16x2.size a)
theorem k0_idx142_inb : ∀ (v2 : IVec S16 32) (v3 : IVec S16 32) (v653 : IVec S16 32) (v658 : IVec S16 32) (k0_hw128 : k0_chk128 v2 v3 v653 v658), ∀ a x, ((![v653, v3, v658, v2, v3] : Fin 5 → IVec S16 32) a x).toNat < S16x2x16x16x2.size a := fun v2 v3 v653 v658 k0_hw128 => k0_hw128

def k0_chk129 (v2 : IVec S16 32) (v3 : IVec S16 32) (v653 : IVec S16 32) (v662 : IVec S16 32) : Prop :=
  (∀ a x, ((![v653, v3, v662, v2, v3] : Fin 5 → IVec S16 32) a x).toNat < S16x2x16x16x2.size a)
theorem k0_idx143_inb : ∀ (v2 : IVec S16 32) (v3 : IVec S16 32) (v653 : IVec S16 32) (v662 : IVec S16 32) (k0_hw129 : k0_chk129 v2 v3 v653 v662), ∀ a x, ((![v653, v3, v662, v2, v3] : Fin 5 → IVec S16 32) a x).toNat < S16x2x16x16x2.size a := fun v2 v3 v653 v662 k0_hw129 => k0_hw129

def k0_chk130 (v2 : IVec S16 32) (v3 : IVec S16 32) (v653 : IVec S16 32) (v666 : IVec S16 32) : Prop :=
  (∀ a x, ((![v653, v3, v666, v2, v3] : Fin 5 → IVec S16 32) a x).toNat < S16x2x16x16x2.size a)
theorem k0_idx144_inb : ∀ (v2 : IVec S16 32) (v3 : IVec S16 32) (v653 : IVec S16 32) (v666 : IVec S16 32) (k0_hw130 : k0_chk130 v2 v3 v653 v666), ∀ a x, ((![v653, v3, v666, v2, v3] : Fin 5 → IVec S16 32) a x).toNat < S16x2x16x16x2.size a := fun v2 v3 v653 v666 k0_hw130 => k0_hw130

def k0_chk131 (v2 : IVec S16 32) (v3 : IVec S16 32) (v653 : IVec S16 32) (v670 : IVec S16 32) : Prop :=
  (∀ a x, ((![v653, v3, v670, v2, v3] : Fin 5 → IVec S16 32) a x).toNat < S16x2x16x16x2.size a)
theorem k0_idx145_inb : ∀ (v2 : IVec S16 32) (v3 : IVec S16 32) (v653 : IVec S16 32) (v670 : IVec S16 32) (k0_hw131 : k0_chk131 v2 v3 v653 v670), ∀ a x, ((![v653, v3, v670, v2, v3] : Fin 5 → IVec S16 32) a x).toNat < S16x2x16x16x2.size a := fun v2 v3 v653 v670 k0_hw131 => k0_hw131

def k0_chk132 (v2 : IVec S16 32) (v3 : IVec S16 32) (v653 : IVec S16 32) (v674 : IVec S16 32) : Prop :=
  (∀ a x, ((![v653, v3, v674, v2, v3] : Fin 5 → IVec S16 32) a x).toNat < S16x2x16x16x2.size a)
theorem k0_idx146_inb : ∀ (v2 : IVec S16 32) (v3 : IVec S16 32) (v653 : IVec S16 32) (v674 : IVec S16 32) (k0_hw132 : k0_chk132 v2 v3 v653 v674), ∀ a x, ((![v653, v3, v674, v2, v3] : Fin 5 → IVec S16 32) a x).toNat < S16x2x16x16x2.size a := fun v2 v3 v653 v674 k0_hw132 => k0_hw132

def k0_chk133 (v2 : IVec S16 32) (v3 : IVec S16 32) (v653 : IVec S16 32) (v678 : IVec S16 32) : Prop :=
  (∀ a x, ((![v653, v3, v678, v2, v3] : Fin 5 → IVec S16 32) a x).toNat < S16x2x16x16x2.size a)
theorem k0_idx147_inb : ∀ (v2 : IVec S16 32) (v3 : IVec S16 32) (v653 : IVec S16 32) (v678 : IVec S16 32) (k0_hw133 : k0_chk133 v2 v3 v653 v678), ∀ a x, ((![v653, v3, v678, v2, v3] : Fin 5 → IVec S16 32) a x).toNat < S16x2x16x16x2.size a := fun v2 v3 v653 v678 k0_hw133 => k0_hw133

def k0_chk134 (v2 : IVec S16 32) (v3 : IVec S16 32) (v653 : IVec S16 32) (v682 : IVec S16 32) : Prop :=
  (∀ a x, ((![v653, v3, v682, v2, v3] : Fin 5 → IVec S16 32) a x).toNat < S16x2x16x16x2.size a)
theorem k0_idx148_inb : ∀ (v2 : IVec S16 32) (v3 : IVec S16 32) (v653 : IVec S16 32) (v682 : IVec S16 32) (k0_hw134 : k0_chk134 v2 v3 v653 v682), ∀ a x, ((![v653, v3, v682, v2, v3] : Fin 5 → IVec S16 32) a x).toNat < S16x2x16x16x2.size a := fun v2 v3 v653 v682 k0_hw134 => k0_hw134

def k0_chk135 (v2 : IVec S16 32) (v3 : IVec S16 32) (v653 : IVec S16 32) (v686 : IVec S16 32) : Prop :=
  (∀ a x, ((![v653, v3, v686, v2, v3] : Fin 5 → IVec S16 32) a x).toNat < S16x2x16x16x2.size a)
theorem k0_idx149_inb : ∀ (v2 : IVec S16 32) (v3 : IVec S16 32) (v653 : IVec S16 32) (v686 : IVec S16 32) (k0_hw135 : k0_chk135 v2 v3 v653 v686), ∀ a x, ((![v653, v3, v686, v2, v3] : Fin 5 → IVec S16 32) a x).toNat < S16x2x16x16x2.size a := fun v2 v3 v653 v686 k0_hw135 => k0_hw135

def k0_chk136 (v2 : IVec S16 32) (v3 : IVec S16 32) (v653 : IVec S16 32) (v690 : IVec S16 32) : Prop :=
  (∀ a x, ((![v653, v3, v690, v2, v3] : Fin 5 → IVec S16 32) a x).toNat < S16x2x16x16x2.size a)
theorem k0_idx150_inb : ∀ (v2 : IVec S16 32) (v3 : IVec S16 32) (v653 : IVec S16 32) (v690 : IVec S16 32) (k0_hw136 : k0_chk136 v2 v3 v653 v690), ∀ a x, ((![v653, v3, v690, v2, v3] : Fin 5 → IVec S16 32) a x).toNat < S16x2x16x16x2.size a := fun v2 v3 v653 v690 k0_hw136 => k0_hw136

def k0_chk137 (v2 : IVec S16 32) (v3 : IVec S16 32) (v653 : IVec S16 32) (v694 : IVec S16 32) : Prop :=
  (∀ a x, ((![v653, v3, v694, v2, v3] : Fin 5 → IVec S16 32) a x).toNat < S16x2x16x16x2.size a)
theorem k0_idx151_inb : ∀ (v2 : IVec S16 32) (v3 : IVec S16 32) (v653 : IVec S16 32) (v694 : IVec S16 32) (k0_hw137 : k0_chk137 v2 v3 v653 v694), ∀ a x, ((![v653, v3, v694, v2, v3] : Fin 5 → IVec S16 32) a x).toNat < S16x2x16x16x2.size a := fun v2 v3 v653 v694 k0_hw137 => k0_hw137

def k0_chk138 (v2 : IVec S16 32) (v3 : IVec S16 32) (v653 : IVec S16 32) (v698 : IVec S16 32) : Prop :=
  (∀ a x, ((![v653, v3, v698, v2, v3] : Fin 5 → IVec S16 32) a x).toNat < S16x2x16x16x2.size a)
theorem k0_idx152_inb : ∀ (v2 : IVec S16 32) (v3 : IVec S16 32) (v653 : IVec S16 32) (v698 : IVec S16 32) (k0_hw138 : k0_chk138 v2 v3 v653 v698), ∀ a x, ((![v653, v3, v698, v2, v3] : Fin 5 → IVec S16 32) a x).toNat < S16x2x16x16x2.size a := fun v2 v3 v653 v698 k0_hw138 => k0_hw138

def k0_chk139 (v2 : IVec S16 32) (v3 : IVec S16 32) (v653 : IVec S16 32) (v702 : IVec S16 32) : Prop :=
  (∀ a x, ((![v653, v3, v702, v2, v3] : Fin 5 → IVec S16 32) a x).toNat < S16x2x16x16x2.size a)
theorem k0_idx153_inb : ∀ (v2 : IVec S16 32) (v3 : IVec S16 32) (v653 : IVec S16 32) (v702 : IVec S16 32) (k0_hw139 : k0_chk139 v2 v3 v653 v702), ∀ a x, ((![v653, v3, v702, v2, v3] : Fin 5 → IVec S16 32) a x).toNat < S16x2x16x16x2.size a := fun v2 v3 v653 v702 k0_hw139 => k0_hw139

def k0_chk140 (v2 : IVec S16 32) (v3 : IVec S16 32) (v653 : IVec S16 32) (v706 : IVec S16 32) : Prop :=
  (∀ a x, ((![v653, v3, v706, v2, v3] : Fin 5 → IVec S16 32) a x).toNat < S16x2x16x16x2.size a)
theorem k0_idx154_inb : ∀ (v2 : IVec S16 32) (v3 : IVec S16 32) (v653 : IVec S16 32) (v706 : IVec S16 32) (k0_hw140 : k0_chk140 v2 v3 v653 v706), ∀ a x, ((![v653, v3, v706, v2, v3] : Fin 5 → IVec S16 32) a x).toNat < S16x2x16x16x2.size a := fun v2 v3 v653 v706 k0_hw140 => k0_hw140

def k0_chk141 (v2 : IVec S16 32) (v3 : IVec S16 32) (v653 : IVec S16 32) (v710 : IVec S16 32) : Prop :=
  (∀ a x, ((![v653, v3, v710, v2, v3] : Fin 5 → IVec S16 32) a x).toNat < S16x2x16x16x2.size a)
theorem k0_idx155_inb : ∀ (v2 : IVec S16 32) (v3 : IVec S16 32) (v653 : IVec S16 32) (v710 : IVec S16 32) (k0_hw141 : k0_chk141 v2 v3 v653 v710), ∀ a x, ((![v653, v3, v710, v2, v3] : Fin 5 → IVec S16 32) a x).toNat < S16x2x16x16x2.size a := fun v2 v3 v653 v710 k0_hw141 => k0_hw141

def k0_chk142 (v2 : IVec S16 32) (v3 : IVec S16 32) (v653 : IVec S16 32) (v714 : IVec S16 32) : Prop :=
  (∀ a x, ((![v653, v3, v714, v2, v3] : Fin 5 → IVec S16 32) a x).toNat < S16x2x16x16x2.size a)
theorem k0_idx156_inb : ∀ (v2 : IVec S16 32) (v3 : IVec S16 32) (v653 : IVec S16 32) (v714 : IVec S16 32) (k0_hw142 : k0_chk142 v2 v3 v653 v714), ∀ a x, ((![v653, v3, v714, v2, v3] : Fin 5 → IVec S16 32) a x).toNat < S16x2x16x16x2.size a := fun v2 v3 v653 v714 k0_hw142 => k0_hw142

def k0_chk144 (v653 : IVec S16 32) (v722 : IVec S16 32) : Prop :=
  (∀ a x, ((![v653, v722] : Fin 2 → IVec S16 32) a x).toNat < S16x256.size a)
theorem k0_idx158_inb : ∀ (v653 : IVec S16 32) (v722 : IVec S16 32) (k0_hw144 : k0_chk144 v653 v722), ∀ a x, ((![v653, v722] : Fin 2 → IVec S16 32) a x).toNat < S16x256.size a := fun v653 v722 k0_hw144 => k0_hw144

def k0_chk143 (v2 : IVec S16 32) (v3 : IVec S16 32) (v4 : IVec S16 32) (v653 : IVec S16 32) : Prop :=
  (∀ a x, ((![v653, v4, v2, v653, v4] : Fin 5 → IVec S16 32) a x).toNat < S16x2x16x16x2.size a) ∧
  (∀ a x, ((![v653, v3, v2, v3] : Fin 4 → IVec S16 32) a x).toNat < S16x2x16x2.size a) ∧
  (∀ a x, ((![v653, v4, v653, v4] : Fin 4 → IVec S16 32) a x).toNat < S16x2x16x2.size a)
theorem k0_idx157_inb : ∀ (v2 : IVec S16 32) (v3 : IVec S16 32) (v4 : IVec S16 32) (v653 : IVec S16 32) (k0_hw143 : k0_chk143 v2 v3 v4 v653), ∀ a x, ((![v653, v4, v2, v653, v4] : Fin 5 → IVec S16 32) a x).toNat < S16x2x16x16x2.size a := fun v2 v3 v4 v653 k0_hw143 => k0_hw143.1
theorem k0_idx159_inb : ∀ (v2 : IVec S16 32) (v3 : IVec S16 32) (v4 : IVec S16 32) (v653 : IVec S16 32) (k0_hw143 : k0_chk143 v2 v3 v4 v653), ∀ a x, ((![v653, v3, v2, v3] : Fin 4 → IVec S16 32) a x).toNat < S16x2x16x2.size a := fun v2 v3 v4 v653 k0_hw143 => k0_hw143.2.1
theorem k0_idx160_inb : ∀ (v2 : IVec S16 32) (v3 : IVec S16 32) (v4 : IVec S16 32) (v653 : IVec S16 32) (k0_hw143 : k0_chk143 v2 v3 v4 v653), ∀ a x, ((![v653, v4, v653, v4] : Fin 4 → IVec S16 32) a x).toNat < S16x2x16x2.size a := fun v2 v3 v4 v653 k0_hw143 => k0_hw143.2.2
def k0_off10 (i : grid0.Coords) (k0_t1 : Fin k0_t1_loop.trips) : Fin 2 → Nat :=
  let c7_i32_480 : BitVec 32 := 7#32
  let v731 : Index := Scalar.indexCast c7_i32_480
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_479 : BitVec 32 := 16#32
  let v730 : BitVec 32 := Scalar.muli v34 c16_i32_479
  let v732 : Index := Scalar.indexCast v730
  ![7, v732.toNat]

def k0_chk145 (v2 : IVec S16 32) (v3 : IVec S16 32) (v739 : IVec S16 32) (v740 : IVec S16 32) : Prop :=
  (∀ a x, ((![v739, v3, v740, v2, v3] : Fin 5 → IVec S16 32) a x).toNat < S16x2x16x16x2.size a)
theorem k0_idx161_inb : ∀ (v2 : IVec S16 32) (v3 : IVec S16 32) (v739 : IVec S16 32) (v740 : IVec S16 32) (k0_hw145 : k0_chk145 v2 v3 v739 v740), ∀ a x, ((![v739, v3, v740, v2, v3] : Fin 5 → IVec S16 32) a x).toNat < S16x2x16x16x2.size a := fun v2 v3 v739 v740 k0_hw145 => k0_hw145

def k0_chk146 (v2 : IVec S16 32) (v3 : IVec S16 32) (v739 : IVec S16 32) (v744 : IVec S16 32) : Prop :=
  (∀ a x, ((![v739, v3, v744, v2, v3] : Fin 5 → IVec S16 32) a x).toNat < S16x2x16x16x2.size a)
theorem k0_idx162_inb : ∀ (v2 : IVec S16 32) (v3 : IVec S16 32) (v739 : IVec S16 32) (v744 : IVec S16 32) (k0_hw146 : k0_chk146 v2 v3 v739 v744), ∀ a x, ((![v739, v3, v744, v2, v3] : Fin 5 → IVec S16 32) a x).toNat < S16x2x16x16x2.size a := fun v2 v3 v739 v744 k0_hw146 => k0_hw146

def k0_chk147 (v2 : IVec S16 32) (v3 : IVec S16 32) (v739 : IVec S16 32) (v748 : IVec S16 32) : Prop :=
  (∀ a x, ((![v739, v3, v748, v2, v3] : Fin 5 → IVec S16 32) a x).toNat < S16x2x16x16x2.size a)
theorem k0_idx163_inb : ∀ (v2 : IVec S16 32) (v3 : IVec S16 32) (v739 : IVec S16 32) (v748 : IVec S16 32) (k0_hw147 : k0_chk147 v2 v3 v739 v748), ∀ a x, ((![v739, v3, v748, v2, v3] : Fin 5 → IVec S16 32) a x).toNat < S16x2x16x16x2.size a := fun v2 v3 v739 v748 k0_hw147 => k0_hw147

def k0_chk148 (v2 : IVec S16 32) (v3 : IVec S16 32) (v739 : IVec S16 32) (v752 : IVec S16 32) : Prop :=
  (∀ a x, ((![v739, v3, v752, v2, v3] : Fin 5 → IVec S16 32) a x).toNat < S16x2x16x16x2.size a)
theorem k0_idx164_inb : ∀ (v2 : IVec S16 32) (v3 : IVec S16 32) (v739 : IVec S16 32) (v752 : IVec S16 32) (k0_hw148 : k0_chk148 v2 v3 v739 v752), ∀ a x, ((![v739, v3, v752, v2, v3] : Fin 5 → IVec S16 32) a x).toNat < S16x2x16x16x2.size a := fun v2 v3 v739 v752 k0_hw148 => k0_hw148

def k0_chk149 (v2 : IVec S16 32) (v3 : IVec S16 32) (v739 : IVec S16 32) (v756 : IVec S16 32) : Prop :=
  (∀ a x, ((![v739, v3, v756, v2, v3] : Fin 5 → IVec S16 32) a x).toNat < S16x2x16x16x2.size a)
theorem k0_idx165_inb : ∀ (v2 : IVec S16 32) (v3 : IVec S16 32) (v739 : IVec S16 32) (v756 : IVec S16 32) (k0_hw149 : k0_chk149 v2 v3 v739 v756), ∀ a x, ((![v739, v3, v756, v2, v3] : Fin 5 → IVec S16 32) a x).toNat < S16x2x16x16x2.size a := fun v2 v3 v739 v756 k0_hw149 => k0_hw149

def k0_chk150 (v2 : IVec S16 32) (v3 : IVec S16 32) (v739 : IVec S16 32) (v760 : IVec S16 32) : Prop :=
  (∀ a x, ((![v739, v3, v760, v2, v3] : Fin 5 → IVec S16 32) a x).toNat < S16x2x16x16x2.size a)
theorem k0_idx166_inb : ∀ (v2 : IVec S16 32) (v3 : IVec S16 32) (v739 : IVec S16 32) (v760 : IVec S16 32) (k0_hw150 : k0_chk150 v2 v3 v739 v760), ∀ a x, ((![v739, v3, v760, v2, v3] : Fin 5 → IVec S16 32) a x).toNat < S16x2x16x16x2.size a := fun v2 v3 v739 v760 k0_hw150 => k0_hw150

def k0_chk151 (v2 : IVec S16 32) (v3 : IVec S16 32) (v739 : IVec S16 32) (v764 : IVec S16 32) : Prop :=
  (∀ a x, ((![v739, v3, v764, v2, v3] : Fin 5 → IVec S16 32) a x).toNat < S16x2x16x16x2.size a)
theorem k0_idx167_inb : ∀ (v2 : IVec S16 32) (v3 : IVec S16 32) (v739 : IVec S16 32) (v764 : IVec S16 32) (k0_hw151 : k0_chk151 v2 v3 v739 v764), ∀ a x, ((![v739, v3, v764, v2, v3] : Fin 5 → IVec S16 32) a x).toNat < S16x2x16x16x2.size a := fun v2 v3 v739 v764 k0_hw151 => k0_hw151

def k0_chk152 (v2 : IVec S16 32) (v3 : IVec S16 32) (v739 : IVec S16 32) (v768 : IVec S16 32) : Prop :=
  (∀ a x, ((![v739, v3, v768, v2, v3] : Fin 5 → IVec S16 32) a x).toNat < S16x2x16x16x2.size a)
theorem k0_idx168_inb : ∀ (v2 : IVec S16 32) (v3 : IVec S16 32) (v739 : IVec S16 32) (v768 : IVec S16 32) (k0_hw152 : k0_chk152 v2 v3 v739 v768), ∀ a x, ((![v739, v3, v768, v2, v3] : Fin 5 → IVec S16 32) a x).toNat < S16x2x16x16x2.size a := fun v2 v3 v739 v768 k0_hw152 => k0_hw152

def k0_chk153 (v2 : IVec S16 32) (v3 : IVec S16 32) (v739 : IVec S16 32) (v772 : IVec S16 32) : Prop :=
  (∀ a x, ((![v739, v3, v772, v2, v3] : Fin 5 → IVec S16 32) a x).toNat < S16x2x16x16x2.size a)
theorem k0_idx169_inb : ∀ (v2 : IVec S16 32) (v3 : IVec S16 32) (v739 : IVec S16 32) (v772 : IVec S16 32) (k0_hw153 : k0_chk153 v2 v3 v739 v772), ∀ a x, ((![v739, v3, v772, v2, v3] : Fin 5 → IVec S16 32) a x).toNat < S16x2x16x16x2.size a := fun v2 v3 v739 v772 k0_hw153 => k0_hw153

def k0_chk154 (v2 : IVec S16 32) (v3 : IVec S16 32) (v739 : IVec S16 32) (v776 : IVec S16 32) : Prop :=
  (∀ a x, ((![v739, v3, v776, v2, v3] : Fin 5 → IVec S16 32) a x).toNat < S16x2x16x16x2.size a)
theorem k0_idx170_inb : ∀ (v2 : IVec S16 32) (v3 : IVec S16 32) (v739 : IVec S16 32) (v776 : IVec S16 32) (k0_hw154 : k0_chk154 v2 v3 v739 v776), ∀ a x, ((![v739, v3, v776, v2, v3] : Fin 5 → IVec S16 32) a x).toNat < S16x2x16x16x2.size a := fun v2 v3 v739 v776 k0_hw154 => k0_hw154

def k0_chk155 (v2 : IVec S16 32) (v3 : IVec S16 32) (v739 : IVec S16 32) (v780 : IVec S16 32) : Prop :=
  (∀ a x, ((![v739, v3, v780, v2, v3] : Fin 5 → IVec S16 32) a x).toNat < S16x2x16x16x2.size a)
theorem k0_idx171_inb : ∀ (v2 : IVec S16 32) (v3 : IVec S16 32) (v739 : IVec S16 32) (v780 : IVec S16 32) (k0_hw155 : k0_chk155 v2 v3 v739 v780), ∀ a x, ((![v739, v3, v780, v2, v3] : Fin 5 → IVec S16 32) a x).toNat < S16x2x16x16x2.size a := fun v2 v3 v739 v780 k0_hw155 => k0_hw155

def k0_chk156 (v2 : IVec S16 32) (v3 : IVec S16 32) (v739 : IVec S16 32) (v784 : IVec S16 32) : Prop :=
  (∀ a x, ((![v739, v3, v784, v2, v3] : Fin 5 → IVec S16 32) a x).toNat < S16x2x16x16x2.size a)
theorem k0_idx172_inb : ∀ (v2 : IVec S16 32) (v3 : IVec S16 32) (v739 : IVec S16 32) (v784 : IVec S16 32) (k0_hw156 : k0_chk156 v2 v3 v739 v784), ∀ a x, ((![v739, v3, v784, v2, v3] : Fin 5 → IVec S16 32) a x).toNat < S16x2x16x16x2.size a := fun v2 v3 v739 v784 k0_hw156 => k0_hw156

def k0_chk157 (v2 : IVec S16 32) (v3 : IVec S16 32) (v739 : IVec S16 32) (v788 : IVec S16 32) : Prop :=
  (∀ a x, ((![v739, v3, v788, v2, v3] : Fin 5 → IVec S16 32) a x).toNat < S16x2x16x16x2.size a)
theorem k0_idx173_inb : ∀ (v2 : IVec S16 32) (v3 : IVec S16 32) (v739 : IVec S16 32) (v788 : IVec S16 32) (k0_hw157 : k0_chk157 v2 v3 v739 v788), ∀ a x, ((![v739, v3, v788, v2, v3] : Fin 5 → IVec S16 32) a x).toNat < S16x2x16x16x2.size a := fun v2 v3 v739 v788 k0_hw157 => k0_hw157

def k0_chk158 (v2 : IVec S16 32) (v3 : IVec S16 32) (v739 : IVec S16 32) (v792 : IVec S16 32) : Prop :=
  (∀ a x, ((![v739, v3, v792, v2, v3] : Fin 5 → IVec S16 32) a x).toNat < S16x2x16x16x2.size a)
theorem k0_idx174_inb : ∀ (v2 : IVec S16 32) (v3 : IVec S16 32) (v739 : IVec S16 32) (v792 : IVec S16 32) (k0_hw158 : k0_chk158 v2 v3 v739 v792), ∀ a x, ((![v739, v3, v792, v2, v3] : Fin 5 → IVec S16 32) a x).toNat < S16x2x16x16x2.size a := fun v2 v3 v739 v792 k0_hw158 => k0_hw158

def k0_chk159 (v2 : IVec S16 32) (v3 : IVec S16 32) (v739 : IVec S16 32) (v796 : IVec S16 32) : Prop :=
  (∀ a x, ((![v739, v3, v796, v2, v3] : Fin 5 → IVec S16 32) a x).toNat < S16x2x16x16x2.size a)
theorem k0_idx175_inb : ∀ (v2 : IVec S16 32) (v3 : IVec S16 32) (v739 : IVec S16 32) (v796 : IVec S16 32) (k0_hw159 : k0_chk159 v2 v3 v739 v796), ∀ a x, ((![v739, v3, v796, v2, v3] : Fin 5 → IVec S16 32) a x).toNat < S16x2x16x16x2.size a := fun v2 v3 v739 v796 k0_hw159 => k0_hw159

def k0_chk160 (v2 : IVec S16 32) (v3 : IVec S16 32) (v739 : IVec S16 32) (v800 : IVec S16 32) : Prop :=
  (∀ a x, ((![v739, v3, v800, v2, v3] : Fin 5 → IVec S16 32) a x).toNat < S16x2x16x16x2.size a)
theorem k0_idx176_inb : ∀ (v2 : IVec S16 32) (v3 : IVec S16 32) (v739 : IVec S16 32) (v800 : IVec S16 32) (k0_hw160 : k0_chk160 v2 v3 v739 v800), ∀ a x, ((![v739, v3, v800, v2, v3] : Fin 5 → IVec S16 32) a x).toNat < S16x2x16x16x2.size a := fun v2 v3 v739 v800 k0_hw160 => k0_hw160

def k0_chk162 (v739 : IVec S16 32) (v808 : IVec S16 32) : Prop :=
  (∀ a x, ((![v739, v808] : Fin 2 → IVec S16 32) a x).toNat < S16x256.size a)
theorem k0_idx178_inb : ∀ (v739 : IVec S16 32) (v808 : IVec S16 32) (k0_hw162 : k0_chk162 v739 v808), ∀ a x, ((![v739, v808] : Fin 2 → IVec S16 32) a x).toNat < S16x256.size a := fun v739 v808 k0_hw162 => k0_hw162

def k0_chk161 (v2 : IVec S16 32) (v3 : IVec S16 32) (v4 : IVec S16 32) (v739 : IVec S16 32) : Prop :=
  (∀ a x, ((![v739, v4, v2, v739, v4] : Fin 5 → IVec S16 32) a x).toNat < S16x2x16x16x2.size a) ∧
  (∀ a x, ((![v739, v3, v2, v3] : Fin 4 → IVec S16 32) a x).toNat < S16x2x16x2.size a) ∧
  (∀ a x, ((![v739, v4, v739, v4] : Fin 4 → IVec S16 32) a x).toNat < S16x2x16x2.size a)
theorem k0_idx177_inb : ∀ (v2 : IVec S16 32) (v3 : IVec S16 32) (v4 : IVec S16 32) (v739 : IVec S16 32) (k0_hw161 : k0_chk161 v2 v3 v4 v739), ∀ a x, ((![v739, v4, v2, v739, v4] : Fin 5 → IVec S16 32) a x).toNat < S16x2x16x16x2.size a := fun v2 v3 v4 v739 k0_hw161 => k0_hw161.1
theorem k0_idx179_inb : ∀ (v2 : IVec S16 32) (v3 : IVec S16 32) (v4 : IVec S16 32) (v739 : IVec S16 32) (k0_hw161 : k0_chk161 v2 v3 v4 v739), ∀ a x, ((![v739, v3, v2, v3] : Fin 4 → IVec S16 32) a x).toNat < S16x2x16x2.size a := fun v2 v3 v4 v739 k0_hw161 => k0_hw161.2.1
theorem k0_idx180_inb : ∀ (v2 : IVec S16 32) (v3 : IVec S16 32) (v4 : IVec S16 32) (v739 : IVec S16 32) (k0_hw161 : k0_chk161 v2 v3 v4 v739), ∀ a x, ((![v739, v4, v739, v4] : Fin 4 → IVec S16 32) a x).toNat < S16x2x16x2.size a := fun v2 v3 v4 v739 k0_hw161 => k0_hw161.2.2
def k0_off11 (i : grid0.Coords) (k0_t1 : Fin k0_t1_loop.trips) : Fin 2 → Nat :=
  let c8_i32_537 : BitVec 32 := 8#32
  let v817 : Index := Scalar.indexCast c8_i32_537
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_536 : BitVec 32 := 16#32
  let v816 : BitVec 32 := Scalar.muli v34 c16_i32_536
  let v818 : Index := Scalar.indexCast v816
  ![8, v818.toNat]

def k0_chk163 (v2 : IVec S16 32) (v3 : IVec S16 32) (v825 : IVec S16 32) (v826 : IVec S16 32) : Prop :=
  (∀ a x, ((![v825, v3, v826, v2, v3] : Fin 5 → IVec S16 32) a x).toNat < S16x2x16x16x2.size a)
theorem k0_idx181_inb : ∀ (v2 : IVec S16 32) (v3 : IVec S16 32) (v825 : IVec S16 32) (v826 : IVec S16 32) (k0_hw163 : k0_chk163 v2 v3 v825 v826), ∀ a x, ((![v825, v3, v826, v2, v3] : Fin 5 → IVec S16 32) a x).toNat < S16x2x16x16x2.size a := fun v2 v3 v825 v826 k0_hw163 => k0_hw163

def k0_chk164 (v2 : IVec S16 32) (v3 : IVec S16 32) (v825 : IVec S16 32) (v830 : IVec S16 32) : Prop :=
  (∀ a x, ((![v825, v3, v830, v2, v3] : Fin 5 → IVec S16 32) a x).toNat < S16x2x16x16x2.size a)
theorem k0_idx182_inb : ∀ (v2 : IVec S16 32) (v3 : IVec S16 32) (v825 : IVec S16 32) (v830 : IVec S16 32) (k0_hw164 : k0_chk164 v2 v3 v825 v830), ∀ a x, ((![v825, v3, v830, v2, v3] : Fin 5 → IVec S16 32) a x).toNat < S16x2x16x16x2.size a := fun v2 v3 v825 v830 k0_hw164 => k0_hw164

def k0_chk165 (v2 : IVec S16 32) (v3 : IVec S16 32) (v825 : IVec S16 32) (v834 : IVec S16 32) : Prop :=
  (∀ a x, ((![v825, v3, v834, v2, v3] : Fin 5 → IVec S16 32) a x).toNat < S16x2x16x16x2.size a)
theorem k0_idx183_inb : ∀ (v2 : IVec S16 32) (v3 : IVec S16 32) (v825 : IVec S16 32) (v834 : IVec S16 32) (k0_hw165 : k0_chk165 v2 v3 v825 v834), ∀ a x, ((![v825, v3, v834, v2, v3] : Fin 5 → IVec S16 32) a x).toNat < S16x2x16x16x2.size a := fun v2 v3 v825 v834 k0_hw165 => k0_hw165

def k0_chk166 (v2 : IVec S16 32) (v3 : IVec S16 32) (v825 : IVec S16 32) (v838 : IVec S16 32) : Prop :=
  (∀ a x, ((![v825, v3, v838, v2, v3] : Fin 5 → IVec S16 32) a x).toNat < S16x2x16x16x2.size a)
theorem k0_idx184_inb : ∀ (v2 : IVec S16 32) (v3 : IVec S16 32) (v825 : IVec S16 32) (v838 : IVec S16 32) (k0_hw166 : k0_chk166 v2 v3 v825 v838), ∀ a x, ((![v825, v3, v838, v2, v3] : Fin 5 → IVec S16 32) a x).toNat < S16x2x16x16x2.size a := fun v2 v3 v825 v838 k0_hw166 => k0_hw166

def k0_chk167 (v2 : IVec S16 32) (v3 : IVec S16 32) (v825 : IVec S16 32) (v842 : IVec S16 32) : Prop :=
  (∀ a x, ((![v825, v3, v842, v2, v3] : Fin 5 → IVec S16 32) a x).toNat < S16x2x16x16x2.size a)
theorem k0_idx185_inb : ∀ (v2 : IVec S16 32) (v3 : IVec S16 32) (v825 : IVec S16 32) (v842 : IVec S16 32) (k0_hw167 : k0_chk167 v2 v3 v825 v842), ∀ a x, ((![v825, v3, v842, v2, v3] : Fin 5 → IVec S16 32) a x).toNat < S16x2x16x16x2.size a := fun v2 v3 v825 v842 k0_hw167 => k0_hw167

def k0_chk168 (v2 : IVec S16 32) (v3 : IVec S16 32) (v825 : IVec S16 32) (v846 : IVec S16 32) : Prop :=
  (∀ a x, ((![v825, v3, v846, v2, v3] : Fin 5 → IVec S16 32) a x).toNat < S16x2x16x16x2.size a)
theorem k0_idx186_inb : ∀ (v2 : IVec S16 32) (v3 : IVec S16 32) (v825 : IVec S16 32) (v846 : IVec S16 32) (k0_hw168 : k0_chk168 v2 v3 v825 v846), ∀ a x, ((![v825, v3, v846, v2, v3] : Fin 5 → IVec S16 32) a x).toNat < S16x2x16x16x2.size a := fun v2 v3 v825 v846 k0_hw168 => k0_hw168

def k0_chk169 (v2 : IVec S16 32) (v3 : IVec S16 32) (v825 : IVec S16 32) (v850 : IVec S16 32) : Prop :=
  (∀ a x, ((![v825, v3, v850, v2, v3] : Fin 5 → IVec S16 32) a x).toNat < S16x2x16x16x2.size a)
theorem k0_idx187_inb : ∀ (v2 : IVec S16 32) (v3 : IVec S16 32) (v825 : IVec S16 32) (v850 : IVec S16 32) (k0_hw169 : k0_chk169 v2 v3 v825 v850), ∀ a x, ((![v825, v3, v850, v2, v3] : Fin 5 → IVec S16 32) a x).toNat < S16x2x16x16x2.size a := fun v2 v3 v825 v850 k0_hw169 => k0_hw169

def k0_chk170 (v2 : IVec S16 32) (v3 : IVec S16 32) (v825 : IVec S16 32) (v854 : IVec S16 32) : Prop :=
  (∀ a x, ((![v825, v3, v854, v2, v3] : Fin 5 → IVec S16 32) a x).toNat < S16x2x16x16x2.size a)
theorem k0_idx188_inb : ∀ (v2 : IVec S16 32) (v3 : IVec S16 32) (v825 : IVec S16 32) (v854 : IVec S16 32) (k0_hw170 : k0_chk170 v2 v3 v825 v854), ∀ a x, ((![v825, v3, v854, v2, v3] : Fin 5 → IVec S16 32) a x).toNat < S16x2x16x16x2.size a := fun v2 v3 v825 v854 k0_hw170 => k0_hw170

def k0_chk171 (v2 : IVec S16 32) (v3 : IVec S16 32) (v825 : IVec S16 32) (v858 : IVec S16 32) : Prop :=
  (∀ a x, ((![v825, v3, v858, v2, v3] : Fin 5 → IVec S16 32) a x).toNat < S16x2x16x16x2.size a)
theorem k0_idx189_inb : ∀ (v2 : IVec S16 32) (v3 : IVec S16 32) (v825 : IVec S16 32) (v858 : IVec S16 32) (k0_hw171 : k0_chk171 v2 v3 v825 v858), ∀ a x, ((![v825, v3, v858, v2, v3] : Fin 5 → IVec S16 32) a x).toNat < S16x2x16x16x2.size a := fun v2 v3 v825 v858 k0_hw171 => k0_hw171

def k0_chk172 (v2 : IVec S16 32) (v3 : IVec S16 32) (v825 : IVec S16 32) (v862 : IVec S16 32) : Prop :=
  (∀ a x, ((![v825, v3, v862, v2, v3] : Fin 5 → IVec S16 32) a x).toNat < S16x2x16x16x2.size a)
theorem k0_idx190_inb : ∀ (v2 : IVec S16 32) (v3 : IVec S16 32) (v825 : IVec S16 32) (v862 : IVec S16 32) (k0_hw172 : k0_chk172 v2 v3 v825 v862), ∀ a x, ((![v825, v3, v862, v2, v3] : Fin 5 → IVec S16 32) a x).toNat < S16x2x16x16x2.size a := fun v2 v3 v825 v862 k0_hw172 => k0_hw172

def k0_chk173 (v2 : IVec S16 32) (v3 : IVec S16 32) (v825 : IVec S16 32) (v866 : IVec S16 32) : Prop :=
  (∀ a x, ((![v825, v3, v866, v2, v3] : Fin 5 → IVec S16 32) a x).toNat < S16x2x16x16x2.size a)
theorem k0_idx191_inb : ∀ (v2 : IVec S16 32) (v3 : IVec S16 32) (v825 : IVec S16 32) (v866 : IVec S16 32) (k0_hw173 : k0_chk173 v2 v3 v825 v866), ∀ a x, ((![v825, v3, v866, v2, v3] : Fin 5 → IVec S16 32) a x).toNat < S16x2x16x16x2.size a := fun v2 v3 v825 v866 k0_hw173 => k0_hw173

def k0_chk174 (v2 : IVec S16 32) (v3 : IVec S16 32) (v825 : IVec S16 32) (v870 : IVec S16 32) : Prop :=
  (∀ a x, ((![v825, v3, v870, v2, v3] : Fin 5 → IVec S16 32) a x).toNat < S16x2x16x16x2.size a)
theorem k0_idx192_inb : ∀ (v2 : IVec S16 32) (v3 : IVec S16 32) (v825 : IVec S16 32) (v870 : IVec S16 32) (k0_hw174 : k0_chk174 v2 v3 v825 v870), ∀ a x, ((![v825, v3, v870, v2, v3] : Fin 5 → IVec S16 32) a x).toNat < S16x2x16x16x2.size a := fun v2 v3 v825 v870 k0_hw174 => k0_hw174

def k0_chk175 (v2 : IVec S16 32) (v3 : IVec S16 32) (v825 : IVec S16 32) (v874 : IVec S16 32) : Prop :=
  (∀ a x, ((![v825, v3, v874, v2, v3] : Fin 5 → IVec S16 32) a x).toNat < S16x2x16x16x2.size a)
theorem k0_idx193_inb : ∀ (v2 : IVec S16 32) (v3 : IVec S16 32) (v825 : IVec S16 32) (v874 : IVec S16 32) (k0_hw175 : k0_chk175 v2 v3 v825 v874), ∀ a x, ((![v825, v3, v874, v2, v3] : Fin 5 → IVec S16 32) a x).toNat < S16x2x16x16x2.size a := fun v2 v3 v825 v874 k0_hw175 => k0_hw175

def k0_chk176 (v2 : IVec S16 32) (v3 : IVec S16 32) (v825 : IVec S16 32) (v878 : IVec S16 32) : Prop :=
  (∀ a x, ((![v825, v3, v878, v2, v3] : Fin 5 → IVec S16 32) a x).toNat < S16x2x16x16x2.size a)
theorem k0_idx194_inb : ∀ (v2 : IVec S16 32) (v3 : IVec S16 32) (v825 : IVec S16 32) (v878 : IVec S16 32) (k0_hw176 : k0_chk176 v2 v3 v825 v878), ∀ a x, ((![v825, v3, v878, v2, v3] : Fin 5 → IVec S16 32) a x).toNat < S16x2x16x16x2.size a := fun v2 v3 v825 v878 k0_hw176 => k0_hw176

def k0_chk177 (v2 : IVec S16 32) (v3 : IVec S16 32) (v825 : IVec S16 32) (v882 : IVec S16 32) : Prop :=
  (∀ a x, ((![v825, v3, v882, v2, v3] : Fin 5 → IVec S16 32) a x).toNat < S16x2x16x16x2.size a)
theorem k0_idx195_inb : ∀ (v2 : IVec S16 32) (v3 : IVec S16 32) (v825 : IVec S16 32) (v882 : IVec S16 32) (k0_hw177 : k0_chk177 v2 v3 v825 v882), ∀ a x, ((![v825, v3, v882, v2, v3] : Fin 5 → IVec S16 32) a x).toNat < S16x2x16x16x2.size a := fun v2 v3 v825 v882 k0_hw177 => k0_hw177

def k0_chk178 (v2 : IVec S16 32) (v3 : IVec S16 32) (v825 : IVec S16 32) (v886 : IVec S16 32) : Prop :=
  (∀ a x, ((![v825, v3, v886, v2, v3] : Fin 5 → IVec S16 32) a x).toNat < S16x2x16x16x2.size a)
theorem k0_idx196_inb : ∀ (v2 : IVec S16 32) (v3 : IVec S16 32) (v825 : IVec S16 32) (v886 : IVec S16 32) (k0_hw178 : k0_chk178 v2 v3 v825 v886), ∀ a x, ((![v825, v3, v886, v2, v3] : Fin 5 → IVec S16 32) a x).toNat < S16x2x16x16x2.size a := fun v2 v3 v825 v886 k0_hw178 => k0_hw178

def k0_chk180 (v825 : IVec S16 32) (v894 : IVec S16 32) : Prop :=
  (∀ a x, ((![v825, v894] : Fin 2 → IVec S16 32) a x).toNat < S16x256.size a)
theorem k0_idx198_inb : ∀ (v825 : IVec S16 32) (v894 : IVec S16 32) (k0_hw180 : k0_chk180 v825 v894), ∀ a x, ((![v825, v894] : Fin 2 → IVec S16 32) a x).toNat < S16x256.size a := fun v825 v894 k0_hw180 => k0_hw180

def k0_chk179 (v2 : IVec S16 32) (v3 : IVec S16 32) (v4 : IVec S16 32) (v825 : IVec S16 32) : Prop :=
  (∀ a x, ((![v825, v4, v2, v825, v4] : Fin 5 → IVec S16 32) a x).toNat < S16x2x16x16x2.size a) ∧
  (∀ a x, ((![v825, v3, v2, v3] : Fin 4 → IVec S16 32) a x).toNat < S16x2x16x2.size a) ∧
  (∀ a x, ((![v825, v4, v825, v4] : Fin 4 → IVec S16 32) a x).toNat < S16x2x16x2.size a)
theorem k0_idx197_inb : ∀ (v2 : IVec S16 32) (v3 : IVec S16 32) (v4 : IVec S16 32) (v825 : IVec S16 32) (k0_hw179 : k0_chk179 v2 v3 v4 v825), ∀ a x, ((![v825, v4, v2, v825, v4] : Fin 5 → IVec S16 32) a x).toNat < S16x2x16x16x2.size a := fun v2 v3 v4 v825 k0_hw179 => k0_hw179.1
theorem k0_idx199_inb : ∀ (v2 : IVec S16 32) (v3 : IVec S16 32) (v4 : IVec S16 32) (v825 : IVec S16 32) (k0_hw179 : k0_chk179 v2 v3 v4 v825), ∀ a x, ((![v825, v3, v2, v3] : Fin 4 → IVec S16 32) a x).toNat < S16x2x16x2.size a := fun v2 v3 v4 v825 k0_hw179 => k0_hw179.2.1
theorem k0_idx200_inb : ∀ (v2 : IVec S16 32) (v3 : IVec S16 32) (v4 : IVec S16 32) (v825 : IVec S16 32) (k0_hw179 : k0_chk179 v2 v3 v4 v825), ∀ a x, ((![v825, v4, v825, v4] : Fin 4 → IVec S16 32) a x).toNat < S16x2x16x2.size a := fun v2 v3 v4 v825 k0_hw179 => k0_hw179.2.2
def k0_off12 (i : grid0.Coords) (k0_t1 : Fin k0_t1_loop.trips) : Fin 2 → Nat :=
  let c9_i32_594 : BitVec 32 := 9#32
  let v903 : Index := Scalar.indexCast c9_i32_594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_593 : BitVec 32 := 16#32
  let v902 : BitVec 32 := Scalar.muli v34 c16_i32_593
  let v904 : Index := Scalar.indexCast v902
  ![9, v904.toNat]

def k0_chk181 (v2 : IVec S16 32) (v3 : IVec S16 32) (v911 : IVec S16 32) (v912 : IVec S16 32) : Prop :=
  (∀ a x, ((![v911, v3, v912, v2, v3] : Fin 5 → IVec S16 32) a x).toNat < S16x2x16x16x2.size a)
theorem k0_idx201_inb : ∀ (v2 : IVec S16 32) (v3 : IVec S16 32) (v911 : IVec S16 32) (v912 : IVec S16 32) (k0_hw181 : k0_chk181 v2 v3 v911 v912), ∀ a x, ((![v911, v3, v912, v2, v3] : Fin 5 → IVec S16 32) a x).toNat < S16x2x16x16x2.size a := fun v2 v3 v911 v912 k0_hw181 => k0_hw181

def k0_chk182 (v2 : IVec S16 32) (v3 : IVec S16 32) (v911 : IVec S16 32) (v916 : IVec S16 32) : Prop :=
  (∀ a x, ((![v911, v3, v916, v2, v3] : Fin 5 → IVec S16 32) a x).toNat < S16x2x16x16x2.size a)
theorem k0_idx202_inb : ∀ (v2 : IVec S16 32) (v3 : IVec S16 32) (v911 : IVec S16 32) (v916 : IVec S16 32) (k0_hw182 : k0_chk182 v2 v3 v911 v916), ∀ a x, ((![v911, v3, v916, v2, v3] : Fin 5 → IVec S16 32) a x).toNat < S16x2x16x16x2.size a := fun v2 v3 v911 v916 k0_hw182 => k0_hw182

def k0_chk183 (v2 : IVec S16 32) (v3 : IVec S16 32) (v911 : IVec S16 32) (v920 : IVec S16 32) : Prop :=
  (∀ a x, ((![v911, v3, v920, v2, v3] : Fin 5 → IVec S16 32) a x).toNat < S16x2x16x16x2.size a)
theorem k0_idx203_inb : ∀ (v2 : IVec S16 32) (v3 : IVec S16 32) (v911 : IVec S16 32) (v920 : IVec S16 32) (k0_hw183 : k0_chk183 v2 v3 v911 v920), ∀ a x, ((![v911, v3, v920, v2, v3] : Fin 5 → IVec S16 32) a x).toNat < S16x2x16x16x2.size a := fun v2 v3 v911 v920 k0_hw183 => k0_hw183

def k0_chk184 (v2 : IVec S16 32) (v3 : IVec S16 32) (v911 : IVec S16 32) (v924 : IVec S16 32) : Prop :=
  (∀ a x, ((![v911, v3, v924, v2, v3] : Fin 5 → IVec S16 32) a x).toNat < S16x2x16x16x2.size a)
theorem k0_idx204_inb : ∀ (v2 : IVec S16 32) (v3 : IVec S16 32) (v911 : IVec S16 32) (v924 : IVec S16 32) (k0_hw184 : k0_chk184 v2 v3 v911 v924), ∀ a x, ((![v911, v3, v924, v2, v3] : Fin 5 → IVec S16 32) a x).toNat < S16x2x16x16x2.size a := fun v2 v3 v911 v924 k0_hw184 => k0_hw184

def k0_chk185 (v2 : IVec S16 32) (v3 : IVec S16 32) (v911 : IVec S16 32) (v928 : IVec S16 32) : Prop :=
  (∀ a x, ((![v911, v3, v928, v2, v3] : Fin 5 → IVec S16 32) a x).toNat < S16x2x16x16x2.size a)
theorem k0_idx205_inb : ∀ (v2 : IVec S16 32) (v3 : IVec S16 32) (v911 : IVec S16 32) (v928 : IVec S16 32) (k0_hw185 : k0_chk185 v2 v3 v911 v928), ∀ a x, ((![v911, v3, v928, v2, v3] : Fin 5 → IVec S16 32) a x).toNat < S16x2x16x16x2.size a := fun v2 v3 v911 v928 k0_hw185 => k0_hw185

def k0_chk186 (v2 : IVec S16 32) (v3 : IVec S16 32) (v911 : IVec S16 32) (v932 : IVec S16 32) : Prop :=
  (∀ a x, ((![v911, v3, v932, v2, v3] : Fin 5 → IVec S16 32) a x).toNat < S16x2x16x16x2.size a)
theorem k0_idx206_inb : ∀ (v2 : IVec S16 32) (v3 : IVec S16 32) (v911 : IVec S16 32) (v932 : IVec S16 32) (k0_hw186 : k0_chk186 v2 v3 v911 v932), ∀ a x, ((![v911, v3, v932, v2, v3] : Fin 5 → IVec S16 32) a x).toNat < S16x2x16x16x2.size a := fun v2 v3 v911 v932 k0_hw186 => k0_hw186

def k0_chk187 (v2 : IVec S16 32) (v3 : IVec S16 32) (v911 : IVec S16 32) (v936 : IVec S16 32) : Prop :=
  (∀ a x, ((![v911, v3, v936, v2, v3] : Fin 5 → IVec S16 32) a x).toNat < S16x2x16x16x2.size a)
theorem k0_idx207_inb : ∀ (v2 : IVec S16 32) (v3 : IVec S16 32) (v911 : IVec S16 32) (v936 : IVec S16 32) (k0_hw187 : k0_chk187 v2 v3 v911 v936), ∀ a x, ((![v911, v3, v936, v2, v3] : Fin 5 → IVec S16 32) a x).toNat < S16x2x16x16x2.size a := fun v2 v3 v911 v936 k0_hw187 => k0_hw187

def k0_chk188 (v2 : IVec S16 32) (v3 : IVec S16 32) (v911 : IVec S16 32) (v940 : IVec S16 32) : Prop :=
  (∀ a x, ((![v911, v3, v940, v2, v3] : Fin 5 → IVec S16 32) a x).toNat < S16x2x16x16x2.size a)
theorem k0_idx208_inb : ∀ (v2 : IVec S16 32) (v3 : IVec S16 32) (v911 : IVec S16 32) (v940 : IVec S16 32) (k0_hw188 : k0_chk188 v2 v3 v911 v940), ∀ a x, ((![v911, v3, v940, v2, v3] : Fin 5 → IVec S16 32) a x).toNat < S16x2x16x16x2.size a := fun v2 v3 v911 v940 k0_hw188 => k0_hw188

def k0_chk189 (v2 : IVec S16 32) (v3 : IVec S16 32) (v911 : IVec S16 32) (v944 : IVec S16 32) : Prop :=
  (∀ a x, ((![v911, v3, v944, v2, v3] : Fin 5 → IVec S16 32) a x).toNat < S16x2x16x16x2.size a)
theorem k0_idx209_inb : ∀ (v2 : IVec S16 32) (v3 : IVec S16 32) (v911 : IVec S16 32) (v944 : IVec S16 32) (k0_hw189 : k0_chk189 v2 v3 v911 v944), ∀ a x, ((![v911, v3, v944, v2, v3] : Fin 5 → IVec S16 32) a x).toNat < S16x2x16x16x2.size a := fun v2 v3 v911 v944 k0_hw189 => k0_hw189

def k0_chk190 (v2 : IVec S16 32) (v3 : IVec S16 32) (v911 : IVec S16 32) (v948 : IVec S16 32) : Prop :=
  (∀ a x, ((![v911, v3, v948, v2, v3] : Fin 5 → IVec S16 32) a x).toNat < S16x2x16x16x2.size a)
theorem k0_idx210_inb : ∀ (v2 : IVec S16 32) (v3 : IVec S16 32) (v911 : IVec S16 32) (v948 : IVec S16 32) (k0_hw190 : k0_chk190 v2 v3 v911 v948), ∀ a x, ((![v911, v3, v948, v2, v3] : Fin 5 → IVec S16 32) a x).toNat < S16x2x16x16x2.size a := fun v2 v3 v911 v948 k0_hw190 => k0_hw190

def k0_chk191 (v2 : IVec S16 32) (v3 : IVec S16 32) (v911 : IVec S16 32) (v952 : IVec S16 32) : Prop :=
  (∀ a x, ((![v911, v3, v952, v2, v3] : Fin 5 → IVec S16 32) a x).toNat < S16x2x16x16x2.size a)
theorem k0_idx211_inb : ∀ (v2 : IVec S16 32) (v3 : IVec S16 32) (v911 : IVec S16 32) (v952 : IVec S16 32) (k0_hw191 : k0_chk191 v2 v3 v911 v952), ∀ a x, ((![v911, v3, v952, v2, v3] : Fin 5 → IVec S16 32) a x).toNat < S16x2x16x16x2.size a := fun v2 v3 v911 v952 k0_hw191 => k0_hw191

def k0_chk192 (v2 : IVec S16 32) (v3 : IVec S16 32) (v911 : IVec S16 32) (v956 : IVec S16 32) : Prop :=
  (∀ a x, ((![v911, v3, v956, v2, v3] : Fin 5 → IVec S16 32) a x).toNat < S16x2x16x16x2.size a)
theorem k0_idx212_inb : ∀ (v2 : IVec S16 32) (v3 : IVec S16 32) (v911 : IVec S16 32) (v956 : IVec S16 32) (k0_hw192 : k0_chk192 v2 v3 v911 v956), ∀ a x, ((![v911, v3, v956, v2, v3] : Fin 5 → IVec S16 32) a x).toNat < S16x2x16x16x2.size a := fun v2 v3 v911 v956 k0_hw192 => k0_hw192

def k0_chk193 (v2 : IVec S16 32) (v3 : IVec S16 32) (v911 : IVec S16 32) (v960 : IVec S16 32) : Prop :=
  (∀ a x, ((![v911, v3, v960, v2, v3] : Fin 5 → IVec S16 32) a x).toNat < S16x2x16x16x2.size a)
theorem k0_idx213_inb : ∀ (v2 : IVec S16 32) (v3 : IVec S16 32) (v911 : IVec S16 32) (v960 : IVec S16 32) (k0_hw193 : k0_chk193 v2 v3 v911 v960), ∀ a x, ((![v911, v3, v960, v2, v3] : Fin 5 → IVec S16 32) a x).toNat < S16x2x16x16x2.size a := fun v2 v3 v911 v960 k0_hw193 => k0_hw193

def k0_chk194 (v2 : IVec S16 32) (v3 : IVec S16 32) (v911 : IVec S16 32) (v964 : IVec S16 32) : Prop :=
  (∀ a x, ((![v911, v3, v964, v2, v3] : Fin 5 → IVec S16 32) a x).toNat < S16x2x16x16x2.size a)
theorem k0_idx214_inb : ∀ (v2 : IVec S16 32) (v3 : IVec S16 32) (v911 : IVec S16 32) (v964 : IVec S16 32) (k0_hw194 : k0_chk194 v2 v3 v911 v964), ∀ a x, ((![v911, v3, v964, v2, v3] : Fin 5 → IVec S16 32) a x).toNat < S16x2x16x16x2.size a := fun v2 v3 v911 v964 k0_hw194 => k0_hw194

def k0_chk195 (v2 : IVec S16 32) (v3 : IVec S16 32) (v911 : IVec S16 32) (v968 : IVec S16 32) : Prop :=
  (∀ a x, ((![v911, v3, v968, v2, v3] : Fin 5 → IVec S16 32) a x).toNat < S16x2x16x16x2.size a)
theorem k0_idx215_inb : ∀ (v2 : IVec S16 32) (v3 : IVec S16 32) (v911 : IVec S16 32) (v968 : IVec S16 32) (k0_hw195 : k0_chk195 v2 v3 v911 v968), ∀ a x, ((![v911, v3, v968, v2, v3] : Fin 5 → IVec S16 32) a x).toNat < S16x2x16x16x2.size a := fun v2 v3 v911 v968 k0_hw195 => k0_hw195

def k0_chk196 (v2 : IVec S16 32) (v3 : IVec S16 32) (v911 : IVec S16 32) (v972 : IVec S16 32) : Prop :=
  (∀ a x, ((![v911, v3, v972, v2, v3] : Fin 5 → IVec S16 32) a x).toNat < S16x2x16x16x2.size a)
theorem k0_idx216_inb : ∀ (v2 : IVec S16 32) (v3 : IVec S16 32) (v911 : IVec S16 32) (v972 : IVec S16 32) (k0_hw196 : k0_chk196 v2 v3 v911 v972), ∀ a x, ((![v911, v3, v972, v2, v3] : Fin 5 → IVec S16 32) a x).toNat < S16x2x16x16x2.size a := fun v2 v3 v911 v972 k0_hw196 => k0_hw196

def k0_chk198 (v911 : IVec S16 32) (v980 : IVec S16 32) : Prop :=
  (∀ a x, ((![v911, v980] : Fin 2 → IVec S16 32) a x).toNat < S16x256.size a)
theorem k0_idx218_inb : ∀ (v911 : IVec S16 32) (v980 : IVec S16 32) (k0_hw198 : k0_chk198 v911 v980), ∀ a x, ((![v911, v980] : Fin 2 → IVec S16 32) a x).toNat < S16x256.size a := fun v911 v980 k0_hw198 => k0_hw198

def k0_chk197 (v2 : IVec S16 32) (v3 : IVec S16 32) (v4 : IVec S16 32) (v911 : IVec S16 32) : Prop :=
  (∀ a x, ((![v911, v4, v2, v911, v4] : Fin 5 → IVec S16 32) a x).toNat < S16x2x16x16x2.size a) ∧
  (∀ a x, ((![v911, v3, v2, v3] : Fin 4 → IVec S16 32) a x).toNat < S16x2x16x2.size a) ∧
  (∀ a x, ((![v911, v4, v911, v4] : Fin 4 → IVec S16 32) a x).toNat < S16x2x16x2.size a)
theorem k0_idx217_inb : ∀ (v2 : IVec S16 32) (v3 : IVec S16 32) (v4 : IVec S16 32) (v911 : IVec S16 32) (k0_hw197 : k0_chk197 v2 v3 v4 v911), ∀ a x, ((![v911, v4, v2, v911, v4] : Fin 5 → IVec S16 32) a x).toNat < S16x2x16x16x2.size a := fun v2 v3 v4 v911 k0_hw197 => k0_hw197.1
theorem k0_idx219_inb : ∀ (v2 : IVec S16 32) (v3 : IVec S16 32) (v4 : IVec S16 32) (v911 : IVec S16 32) (k0_hw197 : k0_chk197 v2 v3 v4 v911), ∀ a x, ((![v911, v3, v2, v3] : Fin 4 → IVec S16 32) a x).toNat < S16x2x16x2.size a := fun v2 v3 v4 v911 k0_hw197 => k0_hw197.2.1
theorem k0_idx220_inb : ∀ (v2 : IVec S16 32) (v3 : IVec S16 32) (v4 : IVec S16 32) (v911 : IVec S16 32) (k0_hw197 : k0_chk197 v2 v3 v4 v911), ∀ a x, ((![v911, v4, v911, v4] : Fin 4 → IVec S16 32) a x).toNat < S16x2x16x2.size a := fun v2 v3 v4 v911 k0_hw197 => k0_hw197.2.2
def k0_off13 (i : grid0.Coords) (k0_t1 : Fin k0_t1_loop.trips) : Fin 2 → Nat :=
  let c10_i32_651 : BitVec 32 := 10#32
  let v989 : Index := Scalar.indexCast c10_i32_651
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_650 : BitVec 32 := 16#32
  let v988 : BitVec 32 := Scalar.muli v34 c16_i32_650
  let v990 : Index := Scalar.indexCast v988
  ![10, v990.toNat]

def k0_chk199 (v2 : IVec S16 32) (v3 : IVec S16 32) (v997 : IVec S16 32) (v998 : IVec S16 32) : Prop :=
  (∀ a x, ((![v997, v3, v998, v2, v3] : Fin 5 → IVec S16 32) a x).toNat < S16x2x16x16x2.size a)
theorem k0_idx221_inb : ∀ (v2 : IVec S16 32) (v3 : IVec S16 32) (v997 : IVec S16 32) (v998 : IVec S16 32) (k0_hw199 : k0_chk199 v2 v3 v997 v998), ∀ a x, ((![v997, v3, v998, v2, v3] : Fin 5 → IVec S16 32) a x).toNat < S16x2x16x16x2.size a := fun v2 v3 v997 v998 k0_hw199 => k0_hw199

def k0_chk200 (v2 : IVec S16 32) (v3 : IVec S16 32) (v997 : IVec S16 32) (v1002 : IVec S16 32) : Prop :=
  (∀ a x, ((![v997, v3, v1002, v2, v3] : Fin 5 → IVec S16 32) a x).toNat < S16x2x16x16x2.size a)
theorem k0_idx222_inb : ∀ (v2 : IVec S16 32) (v3 : IVec S16 32) (v997 : IVec S16 32) (v1002 : IVec S16 32) (k0_hw200 : k0_chk200 v2 v3 v997 v1002), ∀ a x, ((![v997, v3, v1002, v2, v3] : Fin 5 → IVec S16 32) a x).toNat < S16x2x16x16x2.size a := fun v2 v3 v997 v1002 k0_hw200 => k0_hw200

def k0_chk201 (v2 : IVec S16 32) (v3 : IVec S16 32) (v997 : IVec S16 32) (v1006 : IVec S16 32) : Prop :=
  (∀ a x, ((![v997, v3, v1006, v2, v3] : Fin 5 → IVec S16 32) a x).toNat < S16x2x16x16x2.size a)
theorem k0_idx223_inb : ∀ (v2 : IVec S16 32) (v3 : IVec S16 32) (v997 : IVec S16 32) (v1006 : IVec S16 32) (k0_hw201 : k0_chk201 v2 v3 v997 v1006), ∀ a x, ((![v997, v3, v1006, v2, v3] : Fin 5 → IVec S16 32) a x).toNat < S16x2x16x16x2.size a := fun v2 v3 v997 v1006 k0_hw201 => k0_hw201

def k0_chk202 (v2 : IVec S16 32) (v3 : IVec S16 32) (v997 : IVec S16 32) (v1010 : IVec S16 32) : Prop :=
  (∀ a x, ((![v997, v3, v1010, v2, v3] : Fin 5 → IVec S16 32) a x).toNat < S16x2x16x16x2.size a)
theorem k0_idx224_inb : ∀ (v2 : IVec S16 32) (v3 : IVec S16 32) (v997 : IVec S16 32) (v1010 : IVec S16 32) (k0_hw202 : k0_chk202 v2 v3 v997 v1010), ∀ a x, ((![v997, v3, v1010, v2, v3] : Fin 5 → IVec S16 32) a x).toNat < S16x2x16x16x2.size a := fun v2 v3 v997 v1010 k0_hw202 => k0_hw202

def k0_chk203 (v2 : IVec S16 32) (v3 : IVec S16 32) (v997 : IVec S16 32) (v1014 : IVec S16 32) : Prop :=
  (∀ a x, ((![v997, v3, v1014, v2, v3] : Fin 5 → IVec S16 32) a x).toNat < S16x2x16x16x2.size a)
theorem k0_idx225_inb : ∀ (v2 : IVec S16 32) (v3 : IVec S16 32) (v997 : IVec S16 32) (v1014 : IVec S16 32) (k0_hw203 : k0_chk203 v2 v3 v997 v1014), ∀ a x, ((![v997, v3, v1014, v2, v3] : Fin 5 → IVec S16 32) a x).toNat < S16x2x16x16x2.size a := fun v2 v3 v997 v1014 k0_hw203 => k0_hw203

def k0_chk204 (v2 : IVec S16 32) (v3 : IVec S16 32) (v997 : IVec S16 32) (v1018 : IVec S16 32) : Prop :=
  (∀ a x, ((![v997, v3, v1018, v2, v3] : Fin 5 → IVec S16 32) a x).toNat < S16x2x16x16x2.size a)
theorem k0_idx226_inb : ∀ (v2 : IVec S16 32) (v3 : IVec S16 32) (v997 : IVec S16 32) (v1018 : IVec S16 32) (k0_hw204 : k0_chk204 v2 v3 v997 v1018), ∀ a x, ((![v997, v3, v1018, v2, v3] : Fin 5 → IVec S16 32) a x).toNat < S16x2x16x16x2.size a := fun v2 v3 v997 v1018 k0_hw204 => k0_hw204

def k0_chk205 (v2 : IVec S16 32) (v3 : IVec S16 32) (v997 : IVec S16 32) (v1022 : IVec S16 32) : Prop :=
  (∀ a x, ((![v997, v3, v1022, v2, v3] : Fin 5 → IVec S16 32) a x).toNat < S16x2x16x16x2.size a)
theorem k0_idx227_inb : ∀ (v2 : IVec S16 32) (v3 : IVec S16 32) (v997 : IVec S16 32) (v1022 : IVec S16 32) (k0_hw205 : k0_chk205 v2 v3 v997 v1022), ∀ a x, ((![v997, v3, v1022, v2, v3] : Fin 5 → IVec S16 32) a x).toNat < S16x2x16x16x2.size a := fun v2 v3 v997 v1022 k0_hw205 => k0_hw205

def k0_chk206 (v2 : IVec S16 32) (v3 : IVec S16 32) (v997 : IVec S16 32) (v1026 : IVec S16 32) : Prop :=
  (∀ a x, ((![v997, v3, v1026, v2, v3] : Fin 5 → IVec S16 32) a x).toNat < S16x2x16x16x2.size a)
theorem k0_idx228_inb : ∀ (v2 : IVec S16 32) (v3 : IVec S16 32) (v997 : IVec S16 32) (v1026 : IVec S16 32) (k0_hw206 : k0_chk206 v2 v3 v997 v1026), ∀ a x, ((![v997, v3, v1026, v2, v3] : Fin 5 → IVec S16 32) a x).toNat < S16x2x16x16x2.size a := fun v2 v3 v997 v1026 k0_hw206 => k0_hw206

def k0_chk207 (v2 : IVec S16 32) (v3 : IVec S16 32) (v997 : IVec S16 32) (v1030 : IVec S16 32) : Prop :=
  (∀ a x, ((![v997, v3, v1030, v2, v3] : Fin 5 → IVec S16 32) a x).toNat < S16x2x16x16x2.size a)
theorem k0_idx229_inb : ∀ (v2 : IVec S16 32) (v3 : IVec S16 32) (v997 : IVec S16 32) (v1030 : IVec S16 32) (k0_hw207 : k0_chk207 v2 v3 v997 v1030), ∀ a x, ((![v997, v3, v1030, v2, v3] : Fin 5 → IVec S16 32) a x).toNat < S16x2x16x16x2.size a := fun v2 v3 v997 v1030 k0_hw207 => k0_hw207

def k0_chk208 (v2 : IVec S16 32) (v3 : IVec S16 32) (v997 : IVec S16 32) (v1034 : IVec S16 32) : Prop :=
  (∀ a x, ((![v997, v3, v1034, v2, v3] : Fin 5 → IVec S16 32) a x).toNat < S16x2x16x16x2.size a)
theorem k0_idx230_inb : ∀ (v2 : IVec S16 32) (v3 : IVec S16 32) (v997 : IVec S16 32) (v1034 : IVec S16 32) (k0_hw208 : k0_chk208 v2 v3 v997 v1034), ∀ a x, ((![v997, v3, v1034, v2, v3] : Fin 5 → IVec S16 32) a x).toNat < S16x2x16x16x2.size a := fun v2 v3 v997 v1034 k0_hw208 => k0_hw208

def k0_chk209 (v2 : IVec S16 32) (v3 : IVec S16 32) (v997 : IVec S16 32) (v1038 : IVec S16 32) : Prop :=
  (∀ a x, ((![v997, v3, v1038, v2, v3] : Fin 5 → IVec S16 32) a x).toNat < S16x2x16x16x2.size a)
theorem k0_idx231_inb : ∀ (v2 : IVec S16 32) (v3 : IVec S16 32) (v997 : IVec S16 32) (v1038 : IVec S16 32) (k0_hw209 : k0_chk209 v2 v3 v997 v1038), ∀ a x, ((![v997, v3, v1038, v2, v3] : Fin 5 → IVec S16 32) a x).toNat < S16x2x16x16x2.size a := fun v2 v3 v997 v1038 k0_hw209 => k0_hw209

def k0_chk210 (v2 : IVec S16 32) (v3 : IVec S16 32) (v997 : IVec S16 32) (v1042 : IVec S16 32) : Prop :=
  (∀ a x, ((![v997, v3, v1042, v2, v3] : Fin 5 → IVec S16 32) a x).toNat < S16x2x16x16x2.size a)
theorem k0_idx232_inb : ∀ (v2 : IVec S16 32) (v3 : IVec S16 32) (v997 : IVec S16 32) (v1042 : IVec S16 32) (k0_hw210 : k0_chk210 v2 v3 v997 v1042), ∀ a x, ((![v997, v3, v1042, v2, v3] : Fin 5 → IVec S16 32) a x).toNat < S16x2x16x16x2.size a := fun v2 v3 v997 v1042 k0_hw210 => k0_hw210

def k0_chk211 (v2 : IVec S16 32) (v3 : IVec S16 32) (v997 : IVec S16 32) (v1046 : IVec S16 32) : Prop :=
  (∀ a x, ((![v997, v3, v1046, v2, v3] : Fin 5 → IVec S16 32) a x).toNat < S16x2x16x16x2.size a)
theorem k0_idx233_inb : ∀ (v2 : IVec S16 32) (v3 : IVec S16 32) (v997 : IVec S16 32) (v1046 : IVec S16 32) (k0_hw211 : k0_chk211 v2 v3 v997 v1046), ∀ a x, ((![v997, v3, v1046, v2, v3] : Fin 5 → IVec S16 32) a x).toNat < S16x2x16x16x2.size a := fun v2 v3 v997 v1046 k0_hw211 => k0_hw211

def k0_chk212 (v2 : IVec S16 32) (v3 : IVec S16 32) (v997 : IVec S16 32) (v1050 : IVec S16 32) : Prop :=
  (∀ a x, ((![v997, v3, v1050, v2, v3] : Fin 5 → IVec S16 32) a x).toNat < S16x2x16x16x2.size a)
theorem k0_idx234_inb : ∀ (v2 : IVec S16 32) (v3 : IVec S16 32) (v997 : IVec S16 32) (v1050 : IVec S16 32) (k0_hw212 : k0_chk212 v2 v3 v997 v1050), ∀ a x, ((![v997, v3, v1050, v2, v3] : Fin 5 → IVec S16 32) a x).toNat < S16x2x16x16x2.size a := fun v2 v3 v997 v1050 k0_hw212 => k0_hw212

def k0_chk213 (v2 : IVec S16 32) (v3 : IVec S16 32) (v997 : IVec S16 32) (v1054 : IVec S16 32) : Prop :=
  (∀ a x, ((![v997, v3, v1054, v2, v3] : Fin 5 → IVec S16 32) a x).toNat < S16x2x16x16x2.size a)
theorem k0_idx235_inb : ∀ (v2 : IVec S16 32) (v3 : IVec S16 32) (v997 : IVec S16 32) (v1054 : IVec S16 32) (k0_hw213 : k0_chk213 v2 v3 v997 v1054), ∀ a x, ((![v997, v3, v1054, v2, v3] : Fin 5 → IVec S16 32) a x).toNat < S16x2x16x16x2.size a := fun v2 v3 v997 v1054 k0_hw213 => k0_hw213

def k0_chk214 (v2 : IVec S16 32) (v3 : IVec S16 32) (v997 : IVec S16 32) (v1058 : IVec S16 32) : Prop :=
  (∀ a x, ((![v997, v3, v1058, v2, v3] : Fin 5 → IVec S16 32) a x).toNat < S16x2x16x16x2.size a)
theorem k0_idx236_inb : ∀ (v2 : IVec S16 32) (v3 : IVec S16 32) (v997 : IVec S16 32) (v1058 : IVec S16 32) (k0_hw214 : k0_chk214 v2 v3 v997 v1058), ∀ a x, ((![v997, v3, v1058, v2, v3] : Fin 5 → IVec S16 32) a x).toNat < S16x2x16x16x2.size a := fun v2 v3 v997 v1058 k0_hw214 => k0_hw214

def k0_chk216 (v997 : IVec S16 32) (v1066 : IVec S16 32) : Prop :=
  (∀ a x, ((![v997, v1066] : Fin 2 → IVec S16 32) a x).toNat < S16x256.size a)
theorem k0_idx238_inb : ∀ (v997 : IVec S16 32) (v1066 : IVec S16 32) (k0_hw216 : k0_chk216 v997 v1066), ∀ a x, ((![v997, v1066] : Fin 2 → IVec S16 32) a x).toNat < S16x256.size a := fun v997 v1066 k0_hw216 => k0_hw216

def k0_chk215 (v2 : IVec S16 32) (v3 : IVec S16 32) (v4 : IVec S16 32) (v997 : IVec S16 32) : Prop :=
  (∀ a x, ((![v997, v4, v2, v997, v4] : Fin 5 → IVec S16 32) a x).toNat < S16x2x16x16x2.size a) ∧
  (∀ a x, ((![v997, v3, v2, v3] : Fin 4 → IVec S16 32) a x).toNat < S16x2x16x2.size a) ∧
  (∀ a x, ((![v997, v4, v997, v4] : Fin 4 → IVec S16 32) a x).toNat < S16x2x16x2.size a)
theorem k0_idx237_inb : ∀ (v2 : IVec S16 32) (v3 : IVec S16 32) (v4 : IVec S16 32) (v997 : IVec S16 32) (k0_hw215 : k0_chk215 v2 v3 v4 v997), ∀ a x, ((![v997, v4, v2, v997, v4] : Fin 5 → IVec S16 32) a x).toNat < S16x2x16x16x2.size a := fun v2 v3 v4 v997 k0_hw215 => k0_hw215.1
theorem k0_idx239_inb : ∀ (v2 : IVec S16 32) (v3 : IVec S16 32) (v4 : IVec S16 32) (v997 : IVec S16 32) (k0_hw215 : k0_chk215 v2 v3 v4 v997), ∀ a x, ((![v997, v3, v2, v3] : Fin 4 → IVec S16 32) a x).toNat < S16x2x16x2.size a := fun v2 v3 v4 v997 k0_hw215 => k0_hw215.2.1
theorem k0_idx240_inb : ∀ (v2 : IVec S16 32) (v3 : IVec S16 32) (v4 : IVec S16 32) (v997 : IVec S16 32) (k0_hw215 : k0_chk215 v2 v3 v4 v997), ∀ a x, ((![v997, v4, v997, v4] : Fin 4 → IVec S16 32) a x).toNat < S16x2x16x2.size a := fun v2 v3 v4 v997 k0_hw215 => k0_hw215.2.2
def k0_off14 (i : grid0.Coords) (k0_t1 : Fin k0_t1_loop.trips) : Fin 2 → Nat :=
  let c11_i32_708 : BitVec 32 := 11#32
  let v1075 : Index := Scalar.indexCast c11_i32_708
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_707 : BitVec 32 := 16#32
  let v1074 : BitVec 32 := Scalar.muli v34 c16_i32_707
  let v1076 : Index := Scalar.indexCast v1074
  ![11, v1076.toNat]

def k0_chk217 (v2 : IVec S16 32) (v3 : IVec S16 32) (v1083 : IVec S16 32) (v1084 : IVec S16 32) : Prop :=
  (∀ a x, ((![v1083, v3, v1084, v2, v3] : Fin 5 → IVec S16 32) a x).toNat < S16x2x16x16x2.size a)
theorem k0_idx241_inb : ∀ (v2 : IVec S16 32) (v3 : IVec S16 32) (v1083 : IVec S16 32) (v1084 : IVec S16 32) (k0_hw217 : k0_chk217 v2 v3 v1083 v1084), ∀ a x, ((![v1083, v3, v1084, v2, v3] : Fin 5 → IVec S16 32) a x).toNat < S16x2x16x16x2.size a := fun v2 v3 v1083 v1084 k0_hw217 => k0_hw217

def k0_chk218 (v2 : IVec S16 32) (v3 : IVec S16 32) (v1083 : IVec S16 32) (v1088 : IVec S16 32) : Prop :=
  (∀ a x, ((![v1083, v3, v1088, v2, v3] : Fin 5 → IVec S16 32) a x).toNat < S16x2x16x16x2.size a)
theorem k0_idx242_inb : ∀ (v2 : IVec S16 32) (v3 : IVec S16 32) (v1083 : IVec S16 32) (v1088 : IVec S16 32) (k0_hw218 : k0_chk218 v2 v3 v1083 v1088), ∀ a x, ((![v1083, v3, v1088, v2, v3] : Fin 5 → IVec S16 32) a x).toNat < S16x2x16x16x2.size a := fun v2 v3 v1083 v1088 k0_hw218 => k0_hw218

def k0_chk219 (v2 : IVec S16 32) (v3 : IVec S16 32) (v1083 : IVec S16 32) (v1092 : IVec S16 32) : Prop :=
  (∀ a x, ((![v1083, v3, v1092, v2, v3] : Fin 5 → IVec S16 32) a x).toNat < S16x2x16x16x2.size a)
theorem k0_idx243_inb : ∀ (v2 : IVec S16 32) (v3 : IVec S16 32) (v1083 : IVec S16 32) (v1092 : IVec S16 32) (k0_hw219 : k0_chk219 v2 v3 v1083 v1092), ∀ a x, ((![v1083, v3, v1092, v2, v3] : Fin 5 → IVec S16 32) a x).toNat < S16x2x16x16x2.size a := fun v2 v3 v1083 v1092 k0_hw219 => k0_hw219

def k0_chk220 (v2 : IVec S16 32) (v3 : IVec S16 32) (v1083 : IVec S16 32) (v1096 : IVec S16 32) : Prop :=
  (∀ a x, ((![v1083, v3, v1096, v2, v3] : Fin 5 → IVec S16 32) a x).toNat < S16x2x16x16x2.size a)
theorem k0_idx244_inb : ∀ (v2 : IVec S16 32) (v3 : IVec S16 32) (v1083 : IVec S16 32) (v1096 : IVec S16 32) (k0_hw220 : k0_chk220 v2 v3 v1083 v1096), ∀ a x, ((![v1083, v3, v1096, v2, v3] : Fin 5 → IVec S16 32) a x).toNat < S16x2x16x16x2.size a := fun v2 v3 v1083 v1096 k0_hw220 => k0_hw220

def k0_chk221 (v2 : IVec S16 32) (v3 : IVec S16 32) (v1083 : IVec S16 32) (v1100 : IVec S16 32) : Prop :=
  (∀ a x, ((![v1083, v3, v1100, v2, v3] : Fin 5 → IVec S16 32) a x).toNat < S16x2x16x16x2.size a)
theorem k0_idx245_inb : ∀ (v2 : IVec S16 32) (v3 : IVec S16 32) (v1083 : IVec S16 32) (v1100 : IVec S16 32) (k0_hw221 : k0_chk221 v2 v3 v1083 v1100), ∀ a x, ((![v1083, v3, v1100, v2, v3] : Fin 5 → IVec S16 32) a x).toNat < S16x2x16x16x2.size a := fun v2 v3 v1083 v1100 k0_hw221 => k0_hw221

def k0_chk222 (v2 : IVec S16 32) (v3 : IVec S16 32) (v1083 : IVec S16 32) (v1104 : IVec S16 32) : Prop :=
  (∀ a x, ((![v1083, v3, v1104, v2, v3] : Fin 5 → IVec S16 32) a x).toNat < S16x2x16x16x2.size a)
theorem k0_idx246_inb : ∀ (v2 : IVec S16 32) (v3 : IVec S16 32) (v1083 : IVec S16 32) (v1104 : IVec S16 32) (k0_hw222 : k0_chk222 v2 v3 v1083 v1104), ∀ a x, ((![v1083, v3, v1104, v2, v3] : Fin 5 → IVec S16 32) a x).toNat < S16x2x16x16x2.size a := fun v2 v3 v1083 v1104 k0_hw222 => k0_hw222

def k0_chk223 (v2 : IVec S16 32) (v3 : IVec S16 32) (v1083 : IVec S16 32) (v1108 : IVec S16 32) : Prop :=
  (∀ a x, ((![v1083, v3, v1108, v2, v3] : Fin 5 → IVec S16 32) a x).toNat < S16x2x16x16x2.size a)
theorem k0_idx247_inb : ∀ (v2 : IVec S16 32) (v3 : IVec S16 32) (v1083 : IVec S16 32) (v1108 : IVec S16 32) (k0_hw223 : k0_chk223 v2 v3 v1083 v1108), ∀ a x, ((![v1083, v3, v1108, v2, v3] : Fin 5 → IVec S16 32) a x).toNat < S16x2x16x16x2.size a := fun v2 v3 v1083 v1108 k0_hw223 => k0_hw223

def k0_chk224 (v2 : IVec S16 32) (v3 : IVec S16 32) (v1083 : IVec S16 32) (v1112 : IVec S16 32) : Prop :=
  (∀ a x, ((![v1083, v3, v1112, v2, v3] : Fin 5 → IVec S16 32) a x).toNat < S16x2x16x16x2.size a)
theorem k0_idx248_inb : ∀ (v2 : IVec S16 32) (v3 : IVec S16 32) (v1083 : IVec S16 32) (v1112 : IVec S16 32) (k0_hw224 : k0_chk224 v2 v3 v1083 v1112), ∀ a x, ((![v1083, v3, v1112, v2, v3] : Fin 5 → IVec S16 32) a x).toNat < S16x2x16x16x2.size a := fun v2 v3 v1083 v1112 k0_hw224 => k0_hw224

def k0_chk225 (v2 : IVec S16 32) (v3 : IVec S16 32) (v1083 : IVec S16 32) (v1116 : IVec S16 32) : Prop :=
  (∀ a x, ((![v1083, v3, v1116, v2, v3] : Fin 5 → IVec S16 32) a x).toNat < S16x2x16x16x2.size a)
theorem k0_idx249_inb : ∀ (v2 : IVec S16 32) (v3 : IVec S16 32) (v1083 : IVec S16 32) (v1116 : IVec S16 32) (k0_hw225 : k0_chk225 v2 v3 v1083 v1116), ∀ a x, ((![v1083, v3, v1116, v2, v3] : Fin 5 → IVec S16 32) a x).toNat < S16x2x16x16x2.size a := fun v2 v3 v1083 v1116 k0_hw225 => k0_hw225

def k0_chk226 (v2 : IVec S16 32) (v3 : IVec S16 32) (v1083 : IVec S16 32) (v1120 : IVec S16 32) : Prop :=
  (∀ a x, ((![v1083, v3, v1120, v2, v3] : Fin 5 → IVec S16 32) a x).toNat < S16x2x16x16x2.size a)
theorem k0_idx250_inb : ∀ (v2 : IVec S16 32) (v3 : IVec S16 32) (v1083 : IVec S16 32) (v1120 : IVec S16 32) (k0_hw226 : k0_chk226 v2 v3 v1083 v1120), ∀ a x, ((![v1083, v3, v1120, v2, v3] : Fin 5 → IVec S16 32) a x).toNat < S16x2x16x16x2.size a := fun v2 v3 v1083 v1120 k0_hw226 => k0_hw226

def k0_chk227 (v2 : IVec S16 32) (v3 : IVec S16 32) (v1083 : IVec S16 32) (v1124 : IVec S16 32) : Prop :=
  (∀ a x, ((![v1083, v3, v1124, v2, v3] : Fin 5 → IVec S16 32) a x).toNat < S16x2x16x16x2.size a)
theorem k0_idx251_inb : ∀ (v2 : IVec S16 32) (v3 : IVec S16 32) (v1083 : IVec S16 32) (v1124 : IVec S16 32) (k0_hw227 : k0_chk227 v2 v3 v1083 v1124), ∀ a x, ((![v1083, v3, v1124, v2, v3] : Fin 5 → IVec S16 32) a x).toNat < S16x2x16x16x2.size a := fun v2 v3 v1083 v1124 k0_hw227 => k0_hw227

def k0_chk228 (v2 : IVec S16 32) (v3 : IVec S16 32) (v1083 : IVec S16 32) (v1128 : IVec S16 32) : Prop :=
  (∀ a x, ((![v1083, v3, v1128, v2, v3] : Fin 5 → IVec S16 32) a x).toNat < S16x2x16x16x2.size a)
theorem k0_idx252_inb : ∀ (v2 : IVec S16 32) (v3 : IVec S16 32) (v1083 : IVec S16 32) (v1128 : IVec S16 32) (k0_hw228 : k0_chk228 v2 v3 v1083 v1128), ∀ a x, ((![v1083, v3, v1128, v2, v3] : Fin 5 → IVec S16 32) a x).toNat < S16x2x16x16x2.size a := fun v2 v3 v1083 v1128 k0_hw228 => k0_hw228

def k0_chk229 (v2 : IVec S16 32) (v3 : IVec S16 32) (v1083 : IVec S16 32) (v1132 : IVec S16 32) : Prop :=
  (∀ a x, ((![v1083, v3, v1132, v2, v3] : Fin 5 → IVec S16 32) a x).toNat < S16x2x16x16x2.size a)
theorem k0_idx253_inb : ∀ (v2 : IVec S16 32) (v3 : IVec S16 32) (v1083 : IVec S16 32) (v1132 : IVec S16 32) (k0_hw229 : k0_chk229 v2 v3 v1083 v1132), ∀ a x, ((![v1083, v3, v1132, v2, v3] : Fin 5 → IVec S16 32) a x).toNat < S16x2x16x16x2.size a := fun v2 v3 v1083 v1132 k0_hw229 => k0_hw229

def k0_chk230 (v2 : IVec S16 32) (v3 : IVec S16 32) (v1083 : IVec S16 32) (v1136 : IVec S16 32) : Prop :=
  (∀ a x, ((![v1083, v3, v1136, v2, v3] : Fin 5 → IVec S16 32) a x).toNat < S16x2x16x16x2.size a)
theorem k0_idx254_inb : ∀ (v2 : IVec S16 32) (v3 : IVec S16 32) (v1083 : IVec S16 32) (v1136 : IVec S16 32) (k0_hw230 : k0_chk230 v2 v3 v1083 v1136), ∀ a x, ((![v1083, v3, v1136, v2, v3] : Fin 5 → IVec S16 32) a x).toNat < S16x2x16x16x2.size a := fun v2 v3 v1083 v1136 k0_hw230 => k0_hw230

def k0_chk231 (v2 : IVec S16 32) (v3 : IVec S16 32) (v1083 : IVec S16 32) (v1140 : IVec S16 32) : Prop :=
  (∀ a x, ((![v1083, v3, v1140, v2, v3] : Fin 5 → IVec S16 32) a x).toNat < S16x2x16x16x2.size a)
theorem k0_idx255_inb : ∀ (v2 : IVec S16 32) (v3 : IVec S16 32) (v1083 : IVec S16 32) (v1140 : IVec S16 32) (k0_hw231 : k0_chk231 v2 v3 v1083 v1140), ∀ a x, ((![v1083, v3, v1140, v2, v3] : Fin 5 → IVec S16 32) a x).toNat < S16x2x16x16x2.size a := fun v2 v3 v1083 v1140 k0_hw231 => k0_hw231

def k0_chk232 (v2 : IVec S16 32) (v3 : IVec S16 32) (v1083 : IVec S16 32) (v1144 : IVec S16 32) : Prop :=
  (∀ a x, ((![v1083, v3, v1144, v2, v3] : Fin 5 → IVec S16 32) a x).toNat < S16x2x16x16x2.size a)
theorem k0_idx256_inb : ∀ (v2 : IVec S16 32) (v3 : IVec S16 32) (v1083 : IVec S16 32) (v1144 : IVec S16 32) (k0_hw232 : k0_chk232 v2 v3 v1083 v1144), ∀ a x, ((![v1083, v3, v1144, v2, v3] : Fin 5 → IVec S16 32) a x).toNat < S16x2x16x16x2.size a := fun v2 v3 v1083 v1144 k0_hw232 => k0_hw232

def k0_chk234 (v1083 : IVec S16 32) (v1152 : IVec S16 32) : Prop :=
  (∀ a x, ((![v1083, v1152] : Fin 2 → IVec S16 32) a x).toNat < S16x256.size a)
theorem k0_idx258_inb : ∀ (v1083 : IVec S16 32) (v1152 : IVec S16 32) (k0_hw234 : k0_chk234 v1083 v1152), ∀ a x, ((![v1083, v1152] : Fin 2 → IVec S16 32) a x).toNat < S16x256.size a := fun v1083 v1152 k0_hw234 => k0_hw234

def k0_chk233 (v2 : IVec S16 32) (v3 : IVec S16 32) (v4 : IVec S16 32) (v1083 : IVec S16 32) : Prop :=
  (∀ a x, ((![v1083, v4, v2, v1083, v4] : Fin 5 → IVec S16 32) a x).toNat < S16x2x16x16x2.size a) ∧
  (∀ a x, ((![v1083, v3, v2, v3] : Fin 4 → IVec S16 32) a x).toNat < S16x2x16x2.size a) ∧
  (∀ a x, ((![v1083, v4, v1083, v4] : Fin 4 → IVec S16 32) a x).toNat < S16x2x16x2.size a)
theorem k0_idx257_inb : ∀ (v2 : IVec S16 32) (v3 : IVec S16 32) (v4 : IVec S16 32) (v1083 : IVec S16 32) (k0_hw233 : k0_chk233 v2 v3 v4 v1083), ∀ a x, ((![v1083, v4, v2, v1083, v4] : Fin 5 → IVec S16 32) a x).toNat < S16x2x16x16x2.size a := fun v2 v3 v4 v1083 k0_hw233 => k0_hw233.1
theorem k0_idx259_inb : ∀ (v2 : IVec S16 32) (v3 : IVec S16 32) (v4 : IVec S16 32) (v1083 : IVec S16 32) (k0_hw233 : k0_chk233 v2 v3 v4 v1083), ∀ a x, ((![v1083, v3, v2, v3] : Fin 4 → IVec S16 32) a x).toNat < S16x2x16x2.size a := fun v2 v3 v4 v1083 k0_hw233 => k0_hw233.2.1
theorem k0_idx260_inb : ∀ (v2 : IVec S16 32) (v3 : IVec S16 32) (v4 : IVec S16 32) (v1083 : IVec S16 32) (k0_hw233 : k0_chk233 v2 v3 v4 v1083), ∀ a x, ((![v1083, v4, v1083, v4] : Fin 4 → IVec S16 32) a x).toNat < S16x2x16x2.size a := fun v2 v3 v4 v1083 k0_hw233 => k0_hw233.2.2
def k0_off15 (i : grid0.Coords) (k0_t1 : Fin k0_t1_loop.trips) : Fin 2 → Nat :=
  let c12_i32_765 : BitVec 32 := 12#32
  let v1161 : Index := Scalar.indexCast c12_i32_765
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_764 : BitVec 32 := 16#32
  let v1160 : BitVec 32 := Scalar.muli v34 c16_i32_764
  let v1162 : Index := Scalar.indexCast v1160
  ![12, v1162.toNat]

def k0_chk235 (v2 : IVec S16 32) (v3 : IVec S16 32) (v1169 : IVec S16 32) (v1170 : IVec S16 32) : Prop :=
  (∀ a x, ((![v1169, v3, v1170, v2, v3] : Fin 5 → IVec S16 32) a x).toNat < S16x2x16x16x2.size a)
theorem k0_idx261_inb : ∀ (v2 : IVec S16 32) (v3 : IVec S16 32) (v1169 : IVec S16 32) (v1170 : IVec S16 32) (k0_hw235 : k0_chk235 v2 v3 v1169 v1170), ∀ a x, ((![v1169, v3, v1170, v2, v3] : Fin 5 → IVec S16 32) a x).toNat < S16x2x16x16x2.size a := fun v2 v3 v1169 v1170 k0_hw235 => k0_hw235

def k0_chk236 (v2 : IVec S16 32) (v3 : IVec S16 32) (v1169 : IVec S16 32) (v1174 : IVec S16 32) : Prop :=
  (∀ a x, ((![v1169, v3, v1174, v2, v3] : Fin 5 → IVec S16 32) a x).toNat < S16x2x16x16x2.size a)
theorem k0_idx262_inb : ∀ (v2 : IVec S16 32) (v3 : IVec S16 32) (v1169 : IVec S16 32) (v1174 : IVec S16 32) (k0_hw236 : k0_chk236 v2 v3 v1169 v1174), ∀ a x, ((![v1169, v3, v1174, v2, v3] : Fin 5 → IVec S16 32) a x).toNat < S16x2x16x16x2.size a := fun v2 v3 v1169 v1174 k0_hw236 => k0_hw236

def k0_chk237 (v2 : IVec S16 32) (v3 : IVec S16 32) (v1169 : IVec S16 32) (v1178 : IVec S16 32) : Prop :=
  (∀ a x, ((![v1169, v3, v1178, v2, v3] : Fin 5 → IVec S16 32) a x).toNat < S16x2x16x16x2.size a)
theorem k0_idx263_inb : ∀ (v2 : IVec S16 32) (v3 : IVec S16 32) (v1169 : IVec S16 32) (v1178 : IVec S16 32) (k0_hw237 : k0_chk237 v2 v3 v1169 v1178), ∀ a x, ((![v1169, v3, v1178, v2, v3] : Fin 5 → IVec S16 32) a x).toNat < S16x2x16x16x2.size a := fun v2 v3 v1169 v1178 k0_hw237 => k0_hw237

def k0_chk238 (v2 : IVec S16 32) (v3 : IVec S16 32) (v1169 : IVec S16 32) (v1182 : IVec S16 32) : Prop :=
  (∀ a x, ((![v1169, v3, v1182, v2, v3] : Fin 5 → IVec S16 32) a x).toNat < S16x2x16x16x2.size a)
theorem k0_idx264_inb : ∀ (v2 : IVec S16 32) (v3 : IVec S16 32) (v1169 : IVec S16 32) (v1182 : IVec S16 32) (k0_hw238 : k0_chk238 v2 v3 v1169 v1182), ∀ a x, ((![v1169, v3, v1182, v2, v3] : Fin 5 → IVec S16 32) a x).toNat < S16x2x16x16x2.size a := fun v2 v3 v1169 v1182 k0_hw238 => k0_hw238

def k0_chk239 (v2 : IVec S16 32) (v3 : IVec S16 32) (v1169 : IVec S16 32) (v1186 : IVec S16 32) : Prop :=
  (∀ a x, ((![v1169, v3, v1186, v2, v3] : Fin 5 → IVec S16 32) a x).toNat < S16x2x16x16x2.size a)
theorem k0_idx265_inb : ∀ (v2 : IVec S16 32) (v3 : IVec S16 32) (v1169 : IVec S16 32) (v1186 : IVec S16 32) (k0_hw239 : k0_chk239 v2 v3 v1169 v1186), ∀ a x, ((![v1169, v3, v1186, v2, v3] : Fin 5 → IVec S16 32) a x).toNat < S16x2x16x16x2.size a := fun v2 v3 v1169 v1186 k0_hw239 => k0_hw239

def k0_chk240 (v2 : IVec S16 32) (v3 : IVec S16 32) (v1169 : IVec S16 32) (v1190 : IVec S16 32) : Prop :=
  (∀ a x, ((![v1169, v3, v1190, v2, v3] : Fin 5 → IVec S16 32) a x).toNat < S16x2x16x16x2.size a)
theorem k0_idx266_inb : ∀ (v2 : IVec S16 32) (v3 : IVec S16 32) (v1169 : IVec S16 32) (v1190 : IVec S16 32) (k0_hw240 : k0_chk240 v2 v3 v1169 v1190), ∀ a x, ((![v1169, v3, v1190, v2, v3] : Fin 5 → IVec S16 32) a x).toNat < S16x2x16x16x2.size a := fun v2 v3 v1169 v1190 k0_hw240 => k0_hw240

def k0_chk241 (v2 : IVec S16 32) (v3 : IVec S16 32) (v1169 : IVec S16 32) (v1194 : IVec S16 32) : Prop :=
  (∀ a x, ((![v1169, v3, v1194, v2, v3] : Fin 5 → IVec S16 32) a x).toNat < S16x2x16x16x2.size a)
theorem k0_idx267_inb : ∀ (v2 : IVec S16 32) (v3 : IVec S16 32) (v1169 : IVec S16 32) (v1194 : IVec S16 32) (k0_hw241 : k0_chk241 v2 v3 v1169 v1194), ∀ a x, ((![v1169, v3, v1194, v2, v3] : Fin 5 → IVec S16 32) a x).toNat < S16x2x16x16x2.size a := fun v2 v3 v1169 v1194 k0_hw241 => k0_hw241

def k0_chk242 (v2 : IVec S16 32) (v3 : IVec S16 32) (v1169 : IVec S16 32) (v1198 : IVec S16 32) : Prop :=
  (∀ a x, ((![v1169, v3, v1198, v2, v3] : Fin 5 → IVec S16 32) a x).toNat < S16x2x16x16x2.size a)
theorem k0_idx268_inb : ∀ (v2 : IVec S16 32) (v3 : IVec S16 32) (v1169 : IVec S16 32) (v1198 : IVec S16 32) (k0_hw242 : k0_chk242 v2 v3 v1169 v1198), ∀ a x, ((![v1169, v3, v1198, v2, v3] : Fin 5 → IVec S16 32) a x).toNat < S16x2x16x16x2.size a := fun v2 v3 v1169 v1198 k0_hw242 => k0_hw242

def k0_chk243 (v2 : IVec S16 32) (v3 : IVec S16 32) (v1169 : IVec S16 32) (v1202 : IVec S16 32) : Prop :=
  (∀ a x, ((![v1169, v3, v1202, v2, v3] : Fin 5 → IVec S16 32) a x).toNat < S16x2x16x16x2.size a)
theorem k0_idx269_inb : ∀ (v2 : IVec S16 32) (v3 : IVec S16 32) (v1169 : IVec S16 32) (v1202 : IVec S16 32) (k0_hw243 : k0_chk243 v2 v3 v1169 v1202), ∀ a x, ((![v1169, v3, v1202, v2, v3] : Fin 5 → IVec S16 32) a x).toNat < S16x2x16x16x2.size a := fun v2 v3 v1169 v1202 k0_hw243 => k0_hw243

def k0_chk244 (v2 : IVec S16 32) (v3 : IVec S16 32) (v1169 : IVec S16 32) (v1206 : IVec S16 32) : Prop :=
  (∀ a x, ((![v1169, v3, v1206, v2, v3] : Fin 5 → IVec S16 32) a x).toNat < S16x2x16x16x2.size a)
theorem k0_idx270_inb : ∀ (v2 : IVec S16 32) (v3 : IVec S16 32) (v1169 : IVec S16 32) (v1206 : IVec S16 32) (k0_hw244 : k0_chk244 v2 v3 v1169 v1206), ∀ a x, ((![v1169, v3, v1206, v2, v3] : Fin 5 → IVec S16 32) a x).toNat < S16x2x16x16x2.size a := fun v2 v3 v1169 v1206 k0_hw244 => k0_hw244

def k0_chk245 (v2 : IVec S16 32) (v3 : IVec S16 32) (v1169 : IVec S16 32) (v1210 : IVec S16 32) : Prop :=
  (∀ a x, ((![v1169, v3, v1210, v2, v3] : Fin 5 → IVec S16 32) a x).toNat < S16x2x16x16x2.size a)
theorem k0_idx271_inb : ∀ (v2 : IVec S16 32) (v3 : IVec S16 32) (v1169 : IVec S16 32) (v1210 : IVec S16 32) (k0_hw245 : k0_chk245 v2 v3 v1169 v1210), ∀ a x, ((![v1169, v3, v1210, v2, v3] : Fin 5 → IVec S16 32) a x).toNat < S16x2x16x16x2.size a := fun v2 v3 v1169 v1210 k0_hw245 => k0_hw245

def k0_chk246 (v2 : IVec S16 32) (v3 : IVec S16 32) (v1169 : IVec S16 32) (v1214 : IVec S16 32) : Prop :=
  (∀ a x, ((![v1169, v3, v1214, v2, v3] : Fin 5 → IVec S16 32) a x).toNat < S16x2x16x16x2.size a)
theorem k0_idx272_inb : ∀ (v2 : IVec S16 32) (v3 : IVec S16 32) (v1169 : IVec S16 32) (v1214 : IVec S16 32) (k0_hw246 : k0_chk246 v2 v3 v1169 v1214), ∀ a x, ((![v1169, v3, v1214, v2, v3] : Fin 5 → IVec S16 32) a x).toNat < S16x2x16x16x2.size a := fun v2 v3 v1169 v1214 k0_hw246 => k0_hw246

def k0_chk247 (v2 : IVec S16 32) (v3 : IVec S16 32) (v1169 : IVec S16 32) (v1218 : IVec S16 32) : Prop :=
  (∀ a x, ((![v1169, v3, v1218, v2, v3] : Fin 5 → IVec S16 32) a x).toNat < S16x2x16x16x2.size a)
theorem k0_idx273_inb : ∀ (v2 : IVec S16 32) (v3 : IVec S16 32) (v1169 : IVec S16 32) (v1218 : IVec S16 32) (k0_hw247 : k0_chk247 v2 v3 v1169 v1218), ∀ a x, ((![v1169, v3, v1218, v2, v3] : Fin 5 → IVec S16 32) a x).toNat < S16x2x16x16x2.size a := fun v2 v3 v1169 v1218 k0_hw247 => k0_hw247

def k0_chk248 (v2 : IVec S16 32) (v3 : IVec S16 32) (v1169 : IVec S16 32) (v1222 : IVec S16 32) : Prop :=
  (∀ a x, ((![v1169, v3, v1222, v2, v3] : Fin 5 → IVec S16 32) a x).toNat < S16x2x16x16x2.size a)
theorem k0_idx274_inb : ∀ (v2 : IVec S16 32) (v3 : IVec S16 32) (v1169 : IVec S16 32) (v1222 : IVec S16 32) (k0_hw248 : k0_chk248 v2 v3 v1169 v1222), ∀ a x, ((![v1169, v3, v1222, v2, v3] : Fin 5 → IVec S16 32) a x).toNat < S16x2x16x16x2.size a := fun v2 v3 v1169 v1222 k0_hw248 => k0_hw248

def k0_chk249 (v2 : IVec S16 32) (v3 : IVec S16 32) (v1169 : IVec S16 32) (v1226 : IVec S16 32) : Prop :=
  (∀ a x, ((![v1169, v3, v1226, v2, v3] : Fin 5 → IVec S16 32) a x).toNat < S16x2x16x16x2.size a)
theorem k0_idx275_inb : ∀ (v2 : IVec S16 32) (v3 : IVec S16 32) (v1169 : IVec S16 32) (v1226 : IVec S16 32) (k0_hw249 : k0_chk249 v2 v3 v1169 v1226), ∀ a x, ((![v1169, v3, v1226, v2, v3] : Fin 5 → IVec S16 32) a x).toNat < S16x2x16x16x2.size a := fun v2 v3 v1169 v1226 k0_hw249 => k0_hw249

def k0_chk250 (v2 : IVec S16 32) (v3 : IVec S16 32) (v1169 : IVec S16 32) (v1230 : IVec S16 32) : Prop :=
  (∀ a x, ((![v1169, v3, v1230, v2, v3] : Fin 5 → IVec S16 32) a x).toNat < S16x2x16x16x2.size a)
theorem k0_idx276_inb : ∀ (v2 : IVec S16 32) (v3 : IVec S16 32) (v1169 : IVec S16 32) (v1230 : IVec S16 32) (k0_hw250 : k0_chk250 v2 v3 v1169 v1230), ∀ a x, ((![v1169, v3, v1230, v2, v3] : Fin 5 → IVec S16 32) a x).toNat < S16x2x16x16x2.size a := fun v2 v3 v1169 v1230 k0_hw250 => k0_hw250

def k0_chk252 (v1169 : IVec S16 32) (v1238 : IVec S16 32) : Prop :=
  (∀ a x, ((![v1169, v1238] : Fin 2 → IVec S16 32) a x).toNat < S16x256.size a)
theorem k0_idx278_inb : ∀ (v1169 : IVec S16 32) (v1238 : IVec S16 32) (k0_hw252 : k0_chk252 v1169 v1238), ∀ a x, ((![v1169, v1238] : Fin 2 → IVec S16 32) a x).toNat < S16x256.size a := fun v1169 v1238 k0_hw252 => k0_hw252

def k0_chk251 (v2 : IVec S16 32) (v3 : IVec S16 32) (v4 : IVec S16 32) (v1169 : IVec S16 32) : Prop :=
  (∀ a x, ((![v1169, v4, v2, v1169, v4] : Fin 5 → IVec S16 32) a x).toNat < S16x2x16x16x2.size a) ∧
  (∀ a x, ((![v1169, v3, v2, v3] : Fin 4 → IVec S16 32) a x).toNat < S16x2x16x2.size a) ∧
  (∀ a x, ((![v1169, v4, v1169, v4] : Fin 4 → IVec S16 32) a x).toNat < S16x2x16x2.size a)
theorem k0_idx277_inb : ∀ (v2 : IVec S16 32) (v3 : IVec S16 32) (v4 : IVec S16 32) (v1169 : IVec S16 32) (k0_hw251 : k0_chk251 v2 v3 v4 v1169), ∀ a x, ((![v1169, v4, v2, v1169, v4] : Fin 5 → IVec S16 32) a x).toNat < S16x2x16x16x2.size a := fun v2 v3 v4 v1169 k0_hw251 => k0_hw251.1
theorem k0_idx279_inb : ∀ (v2 : IVec S16 32) (v3 : IVec S16 32) (v4 : IVec S16 32) (v1169 : IVec S16 32) (k0_hw251 : k0_chk251 v2 v3 v4 v1169), ∀ a x, ((![v1169, v3, v2, v3] : Fin 4 → IVec S16 32) a x).toNat < S16x2x16x2.size a := fun v2 v3 v4 v1169 k0_hw251 => k0_hw251.2.1
theorem k0_idx280_inb : ∀ (v2 : IVec S16 32) (v3 : IVec S16 32) (v4 : IVec S16 32) (v1169 : IVec S16 32) (k0_hw251 : k0_chk251 v2 v3 v4 v1169), ∀ a x, ((![v1169, v4, v1169, v4] : Fin 4 → IVec S16 32) a x).toNat < S16x2x16x2.size a := fun v2 v3 v4 v1169 k0_hw251 => k0_hw251.2.2
def k0_off16 (i : grid0.Coords) (k0_t1 : Fin k0_t1_loop.trips) : Fin 2 → Nat :=
  let c13_i32_822 : BitVec 32 := 13#32
  let v1247 : Index := Scalar.indexCast c13_i32_822
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_821 : BitVec 32 := 16#32
  let v1246 : BitVec 32 := Scalar.muli v34 c16_i32_821
  let v1248 : Index := Scalar.indexCast v1246
  ![13, v1248.toNat]

def k0_chk253 (v2 : IVec S16 32) (v3 : IVec S16 32) (v1255 : IVec S16 32) (v1256 : IVec S16 32) : Prop :=
  (∀ a x, ((![v1255, v3, v1256, v2, v3] : Fin 5 → IVec S16 32) a x).toNat < S16x2x16x16x2.size a)
theorem k0_idx281_inb : ∀ (v2 : IVec S16 32) (v3 : IVec S16 32) (v1255 : IVec S16 32) (v1256 : IVec S16 32) (k0_hw253 : k0_chk253 v2 v3 v1255 v1256), ∀ a x, ((![v1255, v3, v1256, v2, v3] : Fin 5 → IVec S16 32) a x).toNat < S16x2x16x16x2.size a := fun v2 v3 v1255 v1256 k0_hw253 => k0_hw253

def k0_chk254 (v2 : IVec S16 32) (v3 : IVec S16 32) (v1255 : IVec S16 32) (v1260 : IVec S16 32) : Prop :=
  (∀ a x, ((![v1255, v3, v1260, v2, v3] : Fin 5 → IVec S16 32) a x).toNat < S16x2x16x16x2.size a)
theorem k0_idx282_inb : ∀ (v2 : IVec S16 32) (v3 : IVec S16 32) (v1255 : IVec S16 32) (v1260 : IVec S16 32) (k0_hw254 : k0_chk254 v2 v3 v1255 v1260), ∀ a x, ((![v1255, v3, v1260, v2, v3] : Fin 5 → IVec S16 32) a x).toNat < S16x2x16x16x2.size a := fun v2 v3 v1255 v1260 k0_hw254 => k0_hw254

def k0_chk255 (v2 : IVec S16 32) (v3 : IVec S16 32) (v1255 : IVec S16 32) (v1264 : IVec S16 32) : Prop :=
  (∀ a x, ((![v1255, v3, v1264, v2, v3] : Fin 5 → IVec S16 32) a x).toNat < S16x2x16x16x2.size a)
theorem k0_idx283_inb : ∀ (v2 : IVec S16 32) (v3 : IVec S16 32) (v1255 : IVec S16 32) (v1264 : IVec S16 32) (k0_hw255 : k0_chk255 v2 v3 v1255 v1264), ∀ a x, ((![v1255, v3, v1264, v2, v3] : Fin 5 → IVec S16 32) a x).toNat < S16x2x16x16x2.size a := fun v2 v3 v1255 v1264 k0_hw255 => k0_hw255

def k0_chk256 (v2 : IVec S16 32) (v3 : IVec S16 32) (v1255 : IVec S16 32) (v1268 : IVec S16 32) : Prop :=
  (∀ a x, ((![v1255, v3, v1268, v2, v3] : Fin 5 → IVec S16 32) a x).toNat < S16x2x16x16x2.size a)
theorem k0_idx284_inb : ∀ (v2 : IVec S16 32) (v3 : IVec S16 32) (v1255 : IVec S16 32) (v1268 : IVec S16 32) (k0_hw256 : k0_chk256 v2 v3 v1255 v1268), ∀ a x, ((![v1255, v3, v1268, v2, v3] : Fin 5 → IVec S16 32) a x).toNat < S16x2x16x16x2.size a := fun v2 v3 v1255 v1268 k0_hw256 => k0_hw256

def k0_chk257 (v2 : IVec S16 32) (v3 : IVec S16 32) (v1255 : IVec S16 32) (v1272 : IVec S16 32) : Prop :=
  (∀ a x, ((![v1255, v3, v1272, v2, v3] : Fin 5 → IVec S16 32) a x).toNat < S16x2x16x16x2.size a)
theorem k0_idx285_inb : ∀ (v2 : IVec S16 32) (v3 : IVec S16 32) (v1255 : IVec S16 32) (v1272 : IVec S16 32) (k0_hw257 : k0_chk257 v2 v3 v1255 v1272), ∀ a x, ((![v1255, v3, v1272, v2, v3] : Fin 5 → IVec S16 32) a x).toNat < S16x2x16x16x2.size a := fun v2 v3 v1255 v1272 k0_hw257 => k0_hw257

def k0_chk258 (v2 : IVec S16 32) (v3 : IVec S16 32) (v1255 : IVec S16 32) (v1276 : IVec S16 32) : Prop :=
  (∀ a x, ((![v1255, v3, v1276, v2, v3] : Fin 5 → IVec S16 32) a x).toNat < S16x2x16x16x2.size a)
theorem k0_idx286_inb : ∀ (v2 : IVec S16 32) (v3 : IVec S16 32) (v1255 : IVec S16 32) (v1276 : IVec S16 32) (k0_hw258 : k0_chk258 v2 v3 v1255 v1276), ∀ a x, ((![v1255, v3, v1276, v2, v3] : Fin 5 → IVec S16 32) a x).toNat < S16x2x16x16x2.size a := fun v2 v3 v1255 v1276 k0_hw258 => k0_hw258

def k0_chk259 (v2 : IVec S16 32) (v3 : IVec S16 32) (v1255 : IVec S16 32) (v1280 : IVec S16 32) : Prop :=
  (∀ a x, ((![v1255, v3, v1280, v2, v3] : Fin 5 → IVec S16 32) a x).toNat < S16x2x16x16x2.size a)
theorem k0_idx287_inb : ∀ (v2 : IVec S16 32) (v3 : IVec S16 32) (v1255 : IVec S16 32) (v1280 : IVec S16 32) (k0_hw259 : k0_chk259 v2 v3 v1255 v1280), ∀ a x, ((![v1255, v3, v1280, v2, v3] : Fin 5 → IVec S16 32) a x).toNat < S16x2x16x16x2.size a := fun v2 v3 v1255 v1280 k0_hw259 => k0_hw259

def k0_chk260 (v2 : IVec S16 32) (v3 : IVec S16 32) (v1255 : IVec S16 32) (v1284 : IVec S16 32) : Prop :=
  (∀ a x, ((![v1255, v3, v1284, v2, v3] : Fin 5 → IVec S16 32) a x).toNat < S16x2x16x16x2.size a)
theorem k0_idx288_inb : ∀ (v2 : IVec S16 32) (v3 : IVec S16 32) (v1255 : IVec S16 32) (v1284 : IVec S16 32) (k0_hw260 : k0_chk260 v2 v3 v1255 v1284), ∀ a x, ((![v1255, v3, v1284, v2, v3] : Fin 5 → IVec S16 32) a x).toNat < S16x2x16x16x2.size a := fun v2 v3 v1255 v1284 k0_hw260 => k0_hw260

def k0_chk261 (v2 : IVec S16 32) (v3 : IVec S16 32) (v1255 : IVec S16 32) (v1288 : IVec S16 32) : Prop :=
  (∀ a x, ((![v1255, v3, v1288, v2, v3] : Fin 5 → IVec S16 32) a x).toNat < S16x2x16x16x2.size a)
theorem k0_idx289_inb : ∀ (v2 : IVec S16 32) (v3 : IVec S16 32) (v1255 : IVec S16 32) (v1288 : IVec S16 32) (k0_hw261 : k0_chk261 v2 v3 v1255 v1288), ∀ a x, ((![v1255, v3, v1288, v2, v3] : Fin 5 → IVec S16 32) a x).toNat < S16x2x16x16x2.size a := fun v2 v3 v1255 v1288 k0_hw261 => k0_hw261

def k0_chk262 (v2 : IVec S16 32) (v3 : IVec S16 32) (v1255 : IVec S16 32) (v1292 : IVec S16 32) : Prop :=
  (∀ a x, ((![v1255, v3, v1292, v2, v3] : Fin 5 → IVec S16 32) a x).toNat < S16x2x16x16x2.size a)
theorem k0_idx290_inb : ∀ (v2 : IVec S16 32) (v3 : IVec S16 32) (v1255 : IVec S16 32) (v1292 : IVec S16 32) (k0_hw262 : k0_chk262 v2 v3 v1255 v1292), ∀ a x, ((![v1255, v3, v1292, v2, v3] : Fin 5 → IVec S16 32) a x).toNat < S16x2x16x16x2.size a := fun v2 v3 v1255 v1292 k0_hw262 => k0_hw262

def k0_chk263 (v2 : IVec S16 32) (v3 : IVec S16 32) (v1255 : IVec S16 32) (v1296 : IVec S16 32) : Prop :=
  (∀ a x, ((![v1255, v3, v1296, v2, v3] : Fin 5 → IVec S16 32) a x).toNat < S16x2x16x16x2.size a)
theorem k0_idx291_inb : ∀ (v2 : IVec S16 32) (v3 : IVec S16 32) (v1255 : IVec S16 32) (v1296 : IVec S16 32) (k0_hw263 : k0_chk263 v2 v3 v1255 v1296), ∀ a x, ((![v1255, v3, v1296, v2, v3] : Fin 5 → IVec S16 32) a x).toNat < S16x2x16x16x2.size a := fun v2 v3 v1255 v1296 k0_hw263 => k0_hw263

def k0_chk264 (v2 : IVec S16 32) (v3 : IVec S16 32) (v1255 : IVec S16 32) (v1300 : IVec S16 32) : Prop :=
  (∀ a x, ((![v1255, v3, v1300, v2, v3] : Fin 5 → IVec S16 32) a x).toNat < S16x2x16x16x2.size a)
theorem k0_idx292_inb : ∀ (v2 : IVec S16 32) (v3 : IVec S16 32) (v1255 : IVec S16 32) (v1300 : IVec S16 32) (k0_hw264 : k0_chk264 v2 v3 v1255 v1300), ∀ a x, ((![v1255, v3, v1300, v2, v3] : Fin 5 → IVec S16 32) a x).toNat < S16x2x16x16x2.size a := fun v2 v3 v1255 v1300 k0_hw264 => k0_hw264

def k0_chk265 (v2 : IVec S16 32) (v3 : IVec S16 32) (v1255 : IVec S16 32) (v1304 : IVec S16 32) : Prop :=
  (∀ a x, ((![v1255, v3, v1304, v2, v3] : Fin 5 → IVec S16 32) a x).toNat < S16x2x16x16x2.size a)
theorem k0_idx293_inb : ∀ (v2 : IVec S16 32) (v3 : IVec S16 32) (v1255 : IVec S16 32) (v1304 : IVec S16 32) (k0_hw265 : k0_chk265 v2 v3 v1255 v1304), ∀ a x, ((![v1255, v3, v1304, v2, v3] : Fin 5 → IVec S16 32) a x).toNat < S16x2x16x16x2.size a := fun v2 v3 v1255 v1304 k0_hw265 => k0_hw265

def k0_chk266 (v2 : IVec S16 32) (v3 : IVec S16 32) (v1255 : IVec S16 32) (v1308 : IVec S16 32) : Prop :=
  (∀ a x, ((![v1255, v3, v1308, v2, v3] : Fin 5 → IVec S16 32) a x).toNat < S16x2x16x16x2.size a)
theorem k0_idx294_inb : ∀ (v2 : IVec S16 32) (v3 : IVec S16 32) (v1255 : IVec S16 32) (v1308 : IVec S16 32) (k0_hw266 : k0_chk266 v2 v3 v1255 v1308), ∀ a x, ((![v1255, v3, v1308, v2, v3] : Fin 5 → IVec S16 32) a x).toNat < S16x2x16x16x2.size a := fun v2 v3 v1255 v1308 k0_hw266 => k0_hw266

def k0_chk267 (v2 : IVec S16 32) (v3 : IVec S16 32) (v1255 : IVec S16 32) (v1312 : IVec S16 32) : Prop :=
  (∀ a x, ((![v1255, v3, v1312, v2, v3] : Fin 5 → IVec S16 32) a x).toNat < S16x2x16x16x2.size a)
theorem k0_idx295_inb : ∀ (v2 : IVec S16 32) (v3 : IVec S16 32) (v1255 : IVec S16 32) (v1312 : IVec S16 32) (k0_hw267 : k0_chk267 v2 v3 v1255 v1312), ∀ a x, ((![v1255, v3, v1312, v2, v3] : Fin 5 → IVec S16 32) a x).toNat < S16x2x16x16x2.size a := fun v2 v3 v1255 v1312 k0_hw267 => k0_hw267

def k0_chk268 (v2 : IVec S16 32) (v3 : IVec S16 32) (v1255 : IVec S16 32) (v1316 : IVec S16 32) : Prop :=
  (∀ a x, ((![v1255, v3, v1316, v2, v3] : Fin 5 → IVec S16 32) a x).toNat < S16x2x16x16x2.size a)
theorem k0_idx296_inb : ∀ (v2 : IVec S16 32) (v3 : IVec S16 32) (v1255 : IVec S16 32) (v1316 : IVec S16 32) (k0_hw268 : k0_chk268 v2 v3 v1255 v1316), ∀ a x, ((![v1255, v3, v1316, v2, v3] : Fin 5 → IVec S16 32) a x).toNat < S16x2x16x16x2.size a := fun v2 v3 v1255 v1316 k0_hw268 => k0_hw268

def k0_chk270 (v1255 : IVec S16 32) (v1324 : IVec S16 32) : Prop :=
  (∀ a x, ((![v1255, v1324] : Fin 2 → IVec S16 32) a x).toNat < S16x256.size a)
theorem k0_idx298_inb : ∀ (v1255 : IVec S16 32) (v1324 : IVec S16 32) (k0_hw270 : k0_chk270 v1255 v1324), ∀ a x, ((![v1255, v1324] : Fin 2 → IVec S16 32) a x).toNat < S16x256.size a := fun v1255 v1324 k0_hw270 => k0_hw270

def k0_chk269 (v2 : IVec S16 32) (v3 : IVec S16 32) (v4 : IVec S16 32) (v1255 : IVec S16 32) : Prop :=
  (∀ a x, ((![v1255, v4, v2, v1255, v4] : Fin 5 → IVec S16 32) a x).toNat < S16x2x16x16x2.size a) ∧
  (∀ a x, ((![v1255, v3, v2, v3] : Fin 4 → IVec S16 32) a x).toNat < S16x2x16x2.size a) ∧
  (∀ a x, ((![v1255, v4, v1255, v4] : Fin 4 → IVec S16 32) a x).toNat < S16x2x16x2.size a)
theorem k0_idx297_inb : ∀ (v2 : IVec S16 32) (v3 : IVec S16 32) (v4 : IVec S16 32) (v1255 : IVec S16 32) (k0_hw269 : k0_chk269 v2 v3 v4 v1255), ∀ a x, ((![v1255, v4, v2, v1255, v4] : Fin 5 → IVec S16 32) a x).toNat < S16x2x16x16x2.size a := fun v2 v3 v4 v1255 k0_hw269 => k0_hw269.1
theorem k0_idx299_inb : ∀ (v2 : IVec S16 32) (v3 : IVec S16 32) (v4 : IVec S16 32) (v1255 : IVec S16 32) (k0_hw269 : k0_chk269 v2 v3 v4 v1255), ∀ a x, ((![v1255, v3, v2, v3] : Fin 4 → IVec S16 32) a x).toNat < S16x2x16x2.size a := fun v2 v3 v4 v1255 k0_hw269 => k0_hw269.2.1
theorem k0_idx300_inb : ∀ (v2 : IVec S16 32) (v3 : IVec S16 32) (v4 : IVec S16 32) (v1255 : IVec S16 32) (k0_hw269 : k0_chk269 v2 v3 v4 v1255), ∀ a x, ((![v1255, v4, v1255, v4] : Fin 4 → IVec S16 32) a x).toNat < S16x2x16x2.size a := fun v2 v3 v4 v1255 k0_hw269 => k0_hw269.2.2
def k0_off17 (i : grid0.Coords) (k0_t1 : Fin k0_t1_loop.trips) : Fin 2 → Nat :=
  let c14_i32_879 : BitVec 32 := 14#32
  let v1333 : Index := Scalar.indexCast c14_i32_879
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_878 : BitVec 32 := 16#32
  let v1332 : BitVec 32 := Scalar.muli v34 c16_i32_878
  let v1334 : Index := Scalar.indexCast v1332
  ![14, v1334.toNat]

def k0_chk271 (v2 : IVec S16 32) (v3 : IVec S16 32) (v1341 : IVec S16 32) (v1342 : IVec S16 32) : Prop :=
  (∀ a x, ((![v1341, v3, v1342, v2, v3] : Fin 5 → IVec S16 32) a x).toNat < S16x2x16x16x2.size a)
theorem k0_idx301_inb : ∀ (v2 : IVec S16 32) (v3 : IVec S16 32) (v1341 : IVec S16 32) (v1342 : IVec S16 32) (k0_hw271 : k0_chk271 v2 v3 v1341 v1342), ∀ a x, ((![v1341, v3, v1342, v2, v3] : Fin 5 → IVec S16 32) a x).toNat < S16x2x16x16x2.size a := fun v2 v3 v1341 v1342 k0_hw271 => k0_hw271

def k0_chk272 (v2 : IVec S16 32) (v3 : IVec S16 32) (v1341 : IVec S16 32) (v1346 : IVec S16 32) : Prop :=
  (∀ a x, ((![v1341, v3, v1346, v2, v3] : Fin 5 → IVec S16 32) a x).toNat < S16x2x16x16x2.size a)
theorem k0_idx302_inb : ∀ (v2 : IVec S16 32) (v3 : IVec S16 32) (v1341 : IVec S16 32) (v1346 : IVec S16 32) (k0_hw272 : k0_chk272 v2 v3 v1341 v1346), ∀ a x, ((![v1341, v3, v1346, v2, v3] : Fin 5 → IVec S16 32) a x).toNat < S16x2x16x16x2.size a := fun v2 v3 v1341 v1346 k0_hw272 => k0_hw272

def k0_chk273 (v2 : IVec S16 32) (v3 : IVec S16 32) (v1341 : IVec S16 32) (v1350 : IVec S16 32) : Prop :=
  (∀ a x, ((![v1341, v3, v1350, v2, v3] : Fin 5 → IVec S16 32) a x).toNat < S16x2x16x16x2.size a)
theorem k0_idx303_inb : ∀ (v2 : IVec S16 32) (v3 : IVec S16 32) (v1341 : IVec S16 32) (v1350 : IVec S16 32) (k0_hw273 : k0_chk273 v2 v3 v1341 v1350), ∀ a x, ((![v1341, v3, v1350, v2, v3] : Fin 5 → IVec S16 32) a x).toNat < S16x2x16x16x2.size a := fun v2 v3 v1341 v1350 k0_hw273 => k0_hw273

def k0_chk274 (v2 : IVec S16 32) (v3 : IVec S16 32) (v1341 : IVec S16 32) (v1354 : IVec S16 32) : Prop :=
  (∀ a x, ((![v1341, v3, v1354, v2, v3] : Fin 5 → IVec S16 32) a x).toNat < S16x2x16x16x2.size a)
theorem k0_idx304_inb : ∀ (v2 : IVec S16 32) (v3 : IVec S16 32) (v1341 : IVec S16 32) (v1354 : IVec S16 32) (k0_hw274 : k0_chk274 v2 v3 v1341 v1354), ∀ a x, ((![v1341, v3, v1354, v2, v3] : Fin 5 → IVec S16 32) a x).toNat < S16x2x16x16x2.size a := fun v2 v3 v1341 v1354 k0_hw274 => k0_hw274

def k0_chk275 (v2 : IVec S16 32) (v3 : IVec S16 32) (v1341 : IVec S16 32) (v1358 : IVec S16 32) : Prop :=
  (∀ a x, ((![v1341, v3, v1358, v2, v3] : Fin 5 → IVec S16 32) a x).toNat < S16x2x16x16x2.size a)
theorem k0_idx305_inb : ∀ (v2 : IVec S16 32) (v3 : IVec S16 32) (v1341 : IVec S16 32) (v1358 : IVec S16 32) (k0_hw275 : k0_chk275 v2 v3 v1341 v1358), ∀ a x, ((![v1341, v3, v1358, v2, v3] : Fin 5 → IVec S16 32) a x).toNat < S16x2x16x16x2.size a := fun v2 v3 v1341 v1358 k0_hw275 => k0_hw275

def k0_chk276 (v2 : IVec S16 32) (v3 : IVec S16 32) (v1341 : IVec S16 32) (v1362 : IVec S16 32) : Prop :=
  (∀ a x, ((![v1341, v3, v1362, v2, v3] : Fin 5 → IVec S16 32) a x).toNat < S16x2x16x16x2.size a)
theorem k0_idx306_inb : ∀ (v2 : IVec S16 32) (v3 : IVec S16 32) (v1341 : IVec S16 32) (v1362 : IVec S16 32) (k0_hw276 : k0_chk276 v2 v3 v1341 v1362), ∀ a x, ((![v1341, v3, v1362, v2, v3] : Fin 5 → IVec S16 32) a x).toNat < S16x2x16x16x2.size a := fun v2 v3 v1341 v1362 k0_hw276 => k0_hw276

def k0_chk277 (v2 : IVec S16 32) (v3 : IVec S16 32) (v1341 : IVec S16 32) (v1366 : IVec S16 32) : Prop :=
  (∀ a x, ((![v1341, v3, v1366, v2, v3] : Fin 5 → IVec S16 32) a x).toNat < S16x2x16x16x2.size a)
theorem k0_idx307_inb : ∀ (v2 : IVec S16 32) (v3 : IVec S16 32) (v1341 : IVec S16 32) (v1366 : IVec S16 32) (k0_hw277 : k0_chk277 v2 v3 v1341 v1366), ∀ a x, ((![v1341, v3, v1366, v2, v3] : Fin 5 → IVec S16 32) a x).toNat < S16x2x16x16x2.size a := fun v2 v3 v1341 v1366 k0_hw277 => k0_hw277

def k0_chk278 (v2 : IVec S16 32) (v3 : IVec S16 32) (v1341 : IVec S16 32) (v1370 : IVec S16 32) : Prop :=
  (∀ a x, ((![v1341, v3, v1370, v2, v3] : Fin 5 → IVec S16 32) a x).toNat < S16x2x16x16x2.size a)
theorem k0_idx308_inb : ∀ (v2 : IVec S16 32) (v3 : IVec S16 32) (v1341 : IVec S16 32) (v1370 : IVec S16 32) (k0_hw278 : k0_chk278 v2 v3 v1341 v1370), ∀ a x, ((![v1341, v3, v1370, v2, v3] : Fin 5 → IVec S16 32) a x).toNat < S16x2x16x16x2.size a := fun v2 v3 v1341 v1370 k0_hw278 => k0_hw278

def k0_chk279 (v2 : IVec S16 32) (v3 : IVec S16 32) (v1341 : IVec S16 32) (v1374 : IVec S16 32) : Prop :=
  (∀ a x, ((![v1341, v3, v1374, v2, v3] : Fin 5 → IVec S16 32) a x).toNat < S16x2x16x16x2.size a)
theorem k0_idx309_inb : ∀ (v2 : IVec S16 32) (v3 : IVec S16 32) (v1341 : IVec S16 32) (v1374 : IVec S16 32) (k0_hw279 : k0_chk279 v2 v3 v1341 v1374), ∀ a x, ((![v1341, v3, v1374, v2, v3] : Fin 5 → IVec S16 32) a x).toNat < S16x2x16x16x2.size a := fun v2 v3 v1341 v1374 k0_hw279 => k0_hw279

def k0_chk280 (v2 : IVec S16 32) (v3 : IVec S16 32) (v1341 : IVec S16 32) (v1378 : IVec S16 32) : Prop :=
  (∀ a x, ((![v1341, v3, v1378, v2, v3] : Fin 5 → IVec S16 32) a x).toNat < S16x2x16x16x2.size a)
theorem k0_idx310_inb : ∀ (v2 : IVec S16 32) (v3 : IVec S16 32) (v1341 : IVec S16 32) (v1378 : IVec S16 32) (k0_hw280 : k0_chk280 v2 v3 v1341 v1378), ∀ a x, ((![v1341, v3, v1378, v2, v3] : Fin 5 → IVec S16 32) a x).toNat < S16x2x16x16x2.size a := fun v2 v3 v1341 v1378 k0_hw280 => k0_hw280

def k0_chk281 (v2 : IVec S16 32) (v3 : IVec S16 32) (v1341 : IVec S16 32) (v1382 : IVec S16 32) : Prop :=
  (∀ a x, ((![v1341, v3, v1382, v2, v3] : Fin 5 → IVec S16 32) a x).toNat < S16x2x16x16x2.size a)
theorem k0_idx311_inb : ∀ (v2 : IVec S16 32) (v3 : IVec S16 32) (v1341 : IVec S16 32) (v1382 : IVec S16 32) (k0_hw281 : k0_chk281 v2 v3 v1341 v1382), ∀ a x, ((![v1341, v3, v1382, v2, v3] : Fin 5 → IVec S16 32) a x).toNat < S16x2x16x16x2.size a := fun v2 v3 v1341 v1382 k0_hw281 => k0_hw281

def k0_chk282 (v2 : IVec S16 32) (v3 : IVec S16 32) (v1341 : IVec S16 32) (v1386 : IVec S16 32) : Prop :=
  (∀ a x, ((![v1341, v3, v1386, v2, v3] : Fin 5 → IVec S16 32) a x).toNat < S16x2x16x16x2.size a)
theorem k0_idx312_inb : ∀ (v2 : IVec S16 32) (v3 : IVec S16 32) (v1341 : IVec S16 32) (v1386 : IVec S16 32) (k0_hw282 : k0_chk282 v2 v3 v1341 v1386), ∀ a x, ((![v1341, v3, v1386, v2, v3] : Fin 5 → IVec S16 32) a x).toNat < S16x2x16x16x2.size a := fun v2 v3 v1341 v1386 k0_hw282 => k0_hw282

def k0_chk283 (v2 : IVec S16 32) (v3 : IVec S16 32) (v1341 : IVec S16 32) (v1390 : IVec S16 32) : Prop :=
  (∀ a x, ((![v1341, v3, v1390, v2, v3] : Fin 5 → IVec S16 32) a x).toNat < S16x2x16x16x2.size a)
theorem k0_idx313_inb : ∀ (v2 : IVec S16 32) (v3 : IVec S16 32) (v1341 : IVec S16 32) (v1390 : IVec S16 32) (k0_hw283 : k0_chk283 v2 v3 v1341 v1390), ∀ a x, ((![v1341, v3, v1390, v2, v3] : Fin 5 → IVec S16 32) a x).toNat < S16x2x16x16x2.size a := fun v2 v3 v1341 v1390 k0_hw283 => k0_hw283

def k0_chk284 (v2 : IVec S16 32) (v3 : IVec S16 32) (v1341 : IVec S16 32) (v1394 : IVec S16 32) : Prop :=
  (∀ a x, ((![v1341, v3, v1394, v2, v3] : Fin 5 → IVec S16 32) a x).toNat < S16x2x16x16x2.size a)
theorem k0_idx314_inb : ∀ (v2 : IVec S16 32) (v3 : IVec S16 32) (v1341 : IVec S16 32) (v1394 : IVec S16 32) (k0_hw284 : k0_chk284 v2 v3 v1341 v1394), ∀ a x, ((![v1341, v3, v1394, v2, v3] : Fin 5 → IVec S16 32) a x).toNat < S16x2x16x16x2.size a := fun v2 v3 v1341 v1394 k0_hw284 => k0_hw284

def k0_chk285 (v2 : IVec S16 32) (v3 : IVec S16 32) (v1341 : IVec S16 32) (v1398 : IVec S16 32) : Prop :=
  (∀ a x, ((![v1341, v3, v1398, v2, v3] : Fin 5 → IVec S16 32) a x).toNat < S16x2x16x16x2.size a)
theorem k0_idx315_inb : ∀ (v2 : IVec S16 32) (v3 : IVec S16 32) (v1341 : IVec S16 32) (v1398 : IVec S16 32) (k0_hw285 : k0_chk285 v2 v3 v1341 v1398), ∀ a x, ((![v1341, v3, v1398, v2, v3] : Fin 5 → IVec S16 32) a x).toNat < S16x2x16x16x2.size a := fun v2 v3 v1341 v1398 k0_hw285 => k0_hw285

def k0_chk286 (v2 : IVec S16 32) (v3 : IVec S16 32) (v1341 : IVec S16 32) (v1402 : IVec S16 32) : Prop :=
  (∀ a x, ((![v1341, v3, v1402, v2, v3] : Fin 5 → IVec S16 32) a x).toNat < S16x2x16x16x2.size a)
theorem k0_idx316_inb : ∀ (v2 : IVec S16 32) (v3 : IVec S16 32) (v1341 : IVec S16 32) (v1402 : IVec S16 32) (k0_hw286 : k0_chk286 v2 v3 v1341 v1402), ∀ a x, ((![v1341, v3, v1402, v2, v3] : Fin 5 → IVec S16 32) a x).toNat < S16x2x16x16x2.size a := fun v2 v3 v1341 v1402 k0_hw286 => k0_hw286

def k0_chk288 (v1341 : IVec S16 32) (v1410 : IVec S16 32) : Prop :=
  (∀ a x, ((![v1341, v1410] : Fin 2 → IVec S16 32) a x).toNat < S16x256.size a)
theorem k0_idx318_inb : ∀ (v1341 : IVec S16 32) (v1410 : IVec S16 32) (k0_hw288 : k0_chk288 v1341 v1410), ∀ a x, ((![v1341, v1410] : Fin 2 → IVec S16 32) a x).toNat < S16x256.size a := fun v1341 v1410 k0_hw288 => k0_hw288

def k0_chk287 (v2 : IVec S16 32) (v3 : IVec S16 32) (v4 : IVec S16 32) (v1341 : IVec S16 32) : Prop :=
  (∀ a x, ((![v1341, v4, v2, v1341, v4] : Fin 5 → IVec S16 32) a x).toNat < S16x2x16x16x2.size a) ∧
  (∀ a x, ((![v1341, v3, v2, v3] : Fin 4 → IVec S16 32) a x).toNat < S16x2x16x2.size a) ∧
  (∀ a x, ((![v1341, v4, v1341, v4] : Fin 4 → IVec S16 32) a x).toNat < S16x2x16x2.size a)
theorem k0_idx317_inb : ∀ (v2 : IVec S16 32) (v3 : IVec S16 32) (v4 : IVec S16 32) (v1341 : IVec S16 32) (k0_hw287 : k0_chk287 v2 v3 v4 v1341), ∀ a x, ((![v1341, v4, v2, v1341, v4] : Fin 5 → IVec S16 32) a x).toNat < S16x2x16x16x2.size a := fun v2 v3 v4 v1341 k0_hw287 => k0_hw287.1
theorem k0_idx319_inb : ∀ (v2 : IVec S16 32) (v3 : IVec S16 32) (v4 : IVec S16 32) (v1341 : IVec S16 32) (k0_hw287 : k0_chk287 v2 v3 v4 v1341), ∀ a x, ((![v1341, v3, v2, v3] : Fin 4 → IVec S16 32) a x).toNat < S16x2x16x2.size a := fun v2 v3 v4 v1341 k0_hw287 => k0_hw287.2.1
theorem k0_idx320_inb : ∀ (v2 : IVec S16 32) (v3 : IVec S16 32) (v4 : IVec S16 32) (v1341 : IVec S16 32) (k0_hw287 : k0_chk287 v2 v3 v4 v1341), ∀ a x, ((![v1341, v4, v1341, v4] : Fin 4 → IVec S16 32) a x).toNat < S16x2x16x2.size a := fun v2 v3 v4 v1341 k0_hw287 => k0_hw287.2.2
def k0_off18 (i : grid0.Coords) (k0_t1 : Fin k0_t1_loop.trips) : Fin 2 → Nat :=
  let c15_i32_936 : BitVec 32 := 15#32
  let v1419 : Index := Scalar.indexCast c15_i32_936
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_935 : BitVec 32 := 16#32
  let v1418 : BitVec 32 := Scalar.muli v34 c16_i32_935
  let v1420 : Index := Scalar.indexCast v1418
  ![15, v1420.toNat]
def k0_off19 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4 : BitVec 32 := 32#32
  let v6 : BitVec 32 := Scalar.muli v1 c32_i32_4
  let c0_i32_1 : BitVec 32 := 0#32
  let c1_i32_2 : BitVec 32 := 1#32
  let arg8 : BitVec 32 := Scf.iv c0_i32_1 c1_i32_2 k0_t1
  let v7 : BitVec 32 := Scalar.addi v6 arg8
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c16_i32 : BitVec 32 := 16#32
  let c0_i32_7 : BitVec 32 := 0#32
  let v14 : BitVec 1 := Scalar.cmpi .sgt c16_i32 c0_i32_7
  let v15 : BitVec 32 := Scalar.extui v14
  let c0_i32_8 : BitVec 32 := 0#32
  let v16 : BitVec 1 := Scalar.cmpi .slt c16_i32 c0_i32_8
  let v17 : BitVec 32 := Scalar.extui v16
  let v18 : BitVec 32 := Scalar.subi v15 v17
  let v19 : BitVec 1 := Scalar.cmpi .ne v13 v18
  let v20 : BitVec 32 := Scalar.remsi v7 c16_i32
  let c0_i32_9 : BitVec 32 := 0#32
  let v21 : BitVec 1 := Scalar.cmpi .ne v20 c0_i32_9
  let v22 : BitVec 1 := Scalar.andi v19 v21
  let v8 : BitVec 32 := Scalar.divsi v7 c16_i32
  let c1_i32_10 : BitVec 32 := 1#32
  let v23 : BitVec 32 := Scalar.subi v8 c1_i32_10
  let v24 : BitVec 32 := Scalar.select v22 v23 v8
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c16_i32_939 : BitVec 32 := 16#32
  let v1427 : BitVec 32 := Scalar.muli v34 c16_i32_939
  let c0_i32_940_r0 : BitVec 32 := 0#32
  ![v24.toNat, v1427.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1024x1024 : Shape := ⟨3, ![64, 1024, 1024]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S1024x1024 : Shape := ⟨2, ![1024, 1024]⟩
abbrev S1x1024x1024 : Shape := ⟨3, ![1, 1024, 1024]⟩
abbrev S64x16x2x16x2x16x2x16x2 : Shape := ⟨9, ![64, 16, 2, 16, 2, 16, 2, 16, 2]⟩
abbrev S64x16x16x16x16 : Shape := ⟨5, ![64, 16, 16, 16, 16]⟩
abbrev S64x256x256 : Shape := ⟨3, ![64, 256, 256]⟩

abbrev nBuf : Space → Nat
  | .hbm => 74
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S1024, .i32⟩
  | .hbm, ⟨2, _⟩ => ⟨S1024x1, .i32⟩
  | .hbm, ⟨3, _⟩ => ⟨S1024, .i32⟩
  | .hbm, ⟨4, _⟩ => ⟨S1x1024, .i32⟩
  | .hbm, ⟨5, _⟩ => ⟨S_, .i32⟩
  | .hbm, ⟨6, _⟩ => ⟨S1024x1, .i32⟩
  | .hbm, ⟨7, _⟩ => ⟨S1024x1, .i32⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S_, .i32⟩
  | .hbm, ⟨12, _⟩ => ⟨S1x1024, .i32⟩
  | .hbm, ⟨13, _⟩ => ⟨S1x1024, .i32⟩
  | .hbm, ⟨14, _⟩ => ⟨S_, .i32⟩
  | .hbm, ⟨15, _⟩ => ⟨S1x1024, .i32⟩
  | .hbm, ⟨16, _⟩ => ⟨S1x1024, .i32⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S_, .i32⟩
  | .hbm, ⟨21, _⟩ => ⟨S1024x1, .i32⟩
  | .hbm, ⟨22, _⟩ => ⟨S1024x1, .i32⟩
  | .hbm, ⟨23, _⟩ => ⟨S_, .i32⟩
  | .hbm, ⟨24, _⟩ => ⟨S1x1024, .i32⟩
  | .hbm, ⟨25, _⟩ => ⟨S1x1024, .i32⟩
  | .hbm, ⟨26, _⟩ => ⟨S_, .i32⟩
  | .hbm, ⟨27, _⟩ => ⟨S1x1024, .i32⟩
  | .hbm, ⟨28, _⟩ => ⟨S1x1024, .i32⟩
  | .hbm, ⟨29, _⟩ => ⟨S_, .i32⟩
  | .hbm, ⟨30, _⟩ => ⟨S1024x1, .i32⟩
  | .hbm, ⟨31, _⟩ => ⟨S1024x1, .i1⟩
  | .hbm, ⟨32, _⟩ => ⟨S1024x1024, .i32⟩
  | .hbm, ⟨33, _⟩ => ⟨S1024x1024, .i32⟩
  | .hbm, ⟨34, _⟩ => ⟨S1024x1024, .i1⟩
  | .hbm, ⟨35, _⟩ => ⟨S1024x1024, .i1⟩
  | .hbm, ⟨36, _⟩ => ⟨S1024x1024, .i1⟩
  | .hbm, ⟨37, _⟩ => ⟨S_, .i32⟩
  | .hbm, ⟨38, _⟩ => ⟨S1024x1, .i32⟩
  | .hbm, ⟨39, _⟩ => ⟨S1024x1, .i1⟩
  | .hbm, ⟨40, _⟩ => ⟨S1024x1024, .i1⟩
  | .hbm, ⟨41, _⟩ => ⟨S1024x1024, .i1⟩
  | .hbm, ⟨42, _⟩ => ⟨S_, .i32⟩
  | .hbm, ⟨43, _⟩ => ⟨S1024x1, .i32⟩
  | .hbm, ⟨44, _⟩ => ⟨S1024x1, .i1⟩
  | .hbm, ⟨45, _⟩ => ⟨S1024x1024, .i32⟩
  | .hbm, ⟨46, _⟩ => ⟨S1024x1024, .i32⟩
  | .hbm, ⟨47, _⟩ => ⟨S1024x1024, .i1⟩
  | .hbm, ⟨48, _⟩ => ⟨S1024x1024, .i1⟩
  | .hbm, ⟨49, _⟩ => ⟨S1024x1024, .i1⟩
  | .hbm, ⟨50, _⟩ => ⟨S_, .i32⟩
  | .hbm, ⟨51, _⟩ => ⟨S1024x1, .i32⟩
  | .hbm, ⟨52, _⟩ => ⟨S1024x1, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i1⟩
  | .hbm, ⟨58, _⟩ => ⟨S1024x1024, .i32⟩
  | .hbm, ⟨59, _⟩ => ⟨S1024x1024, .i32⟩
  | .hbm, ⟨60, _⟩ => ⟨S1024x1024, .i1⟩
  | .hbm, ⟨61, _⟩ => ⟨S1024x1024, .i1⟩
  | .hbm, ⟨62, _⟩ => ⟨S1024x1024, .i1⟩
  | .hbm, ⟨63, _⟩ => ⟨S1024x1024, .i1⟩
  | .hbm, ⟨64, _⟩ => ⟨S1x1024x1024, .i1⟩
  | .hbm, ⟨65, _⟩ => ⟨S_, .f32⟩
  | .hbm, ⟨66, _⟩ => ⟨S_, .f32⟩
  | .hbm, ⟨67, _⟩ => ⟨S64x1024x1024, .i1⟩
  | .hbm, ⟨68, _⟩ => ⟨S64x1024x1024, .f32⟩
  | .hbm, ⟨69, _⟩ => ⟨S64x1024x1024, .f32⟩
  | .hbm, ⟨70, _⟩ => ⟨S64x16x2x16x2x16x2x16x2, .f32⟩
  | .hbm, ⟨71, _⟩ => ⟨S_, .f32⟩
  | .hbm, ⟨72, _⟩ => ⟨S64x16x16x16x16, .f32⟩
  | .hbm, ⟨73, _⟩ => ⟨S64x256x256, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_c_5 : Ref sig .tc := ⟨.hbm, 23, rfl⟩
abbrev main_v16 : Ref sig .tc := ⟨.hbm, 24, rfl⟩
abbrev main_v17 : Ref sig .tc := ⟨.hbm, 25, rfl⟩
abbrev main_c_6 : Ref sig .tc := ⟨.hbm, 26, rfl⟩
abbrev main_v18 : Ref sig .tc := ⟨.hbm, 27, rfl⟩
abbrev main_v19 : Ref sig .tc := ⟨.hbm, 28, rfl⟩
abbrev main_c_7 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_10 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.IdealBody.lean ====
/- The kernel's loop body restated as a program over its rows and lanes. -/
module

public import proofs.«01_k».proof.Proof.Gen.KernelIdeal
public import proofs.«01_k».proof.Proof.Gen.KernelIdeal.Skeleton

@[expose] public section

noncomputable section

namespace Cert.KernelIdeal.QPool

open Cert.KernelIdeal.Gen
open Idealize.ShloMosaic Idealize.SL.Sem

variable {F : FTy → Type} [FloatOps F]

/-- Two programs that request the same operation and go on alike are one program. -/
theorem op_congr.{v} {E : Type → Type v} {α β : Type} {e : E β} {k k' : β → Prog E α} (h : ∀ x, k x = k' x) :
    Prog.op e k = Prog.op e k' := congrArg (Prog.op e) (funext h)

/-- The sixteen lane numbers. -/
def lanesV : IVec S16 32 := iota .scVector S16 32 [0] iota_S16_d0_w32_scVector

/-- Sixteen copies of the word `n`. -/
abbrev rep (n : ℕ) : IVec S16 32 := broadcast S16 (BitVec.ofNat 32 n)

/-- The programs of the tile at grid point `i`. -/
abbrev TP (F : FTy → Type) [FloatOps F] (i : grid0.Coords) (α : Type) :=
  Prog (TpuEff nD τ sig (Elt F) Λ₀ (.scVector ((i 0).castLE hcore0) ((i 1).castLE hsub0))) α

/-- The index vectors of row `q`'s gather of lane block `r`: element `(q, 0, r, lane, 0)`. -/
abbrev gIdx (q r : ℕ) : Fin 5 → IVec S16 32 := ![rep q, rep 0, rep r, lanesV, rep 0]
/-- The index vectors of row `q`'s gather of the diagonal terms: element `(q, 1, lane, q, 1)`. -/
abbrev bIdx (q : ℕ) : Fin 5 → IVec S16 32 := ![rep q, rep 1, lanesV, rep q, rep 1]
/-- The index vectors of row `q`'s gather of the band: element `(q, 0, lane, 0)`. -/
abbrev cIdx (q : ℕ) : Fin 4 → IVec S16 32 := ![rep q, rep 0, lanesV, rep 0]
/-- The index vectors of row `q`'s gather of the corner: element `(q, 1, q, 1)`. -/
abbrev dIdx (q : ℕ) : Fin 4 → IVec S16 32 := ![rep q, rep 1, rep q, rep 1]
/-- The index vectors of row `q`'s scatter: element `(q, 16 lane + q)`. -/
abbrev sIdx (q : ℕ) : Fin 2 → IVec S16 32 := ![rep q, addi (muli lanesV (rep 16)) (rep q)]

/-- The check of a lane block's gather. -/
abbrev gChk (q r : ℕ) : Prop := ∀ a x, (gIdx q r a x).toNat < S16x2x16x16x2.size a
/-- The check of a row's other three gathers. -/
abbrev bChk (q : ℕ) : Prop :=
  (∀ a x, (bIdx q a x).toNat < S16x2x16x16x2.size a) ∧
  (∀ a x, (cIdx q a x).toNat < S16x2x16x2.size a) ∧
  (∀ a x, (dIdx q a x).toNat < S16x2x16x2.size a)
/-- The check of a row's scatter. -/
abbrev sChk (q : ℕ) : Prop := ∀ a x, (sIdx q a x).toNat < S16x256.size a

set_option synthInstance.maxSize 1000000 in
set_option synthInstance.maxHeartbeats 0 in
instance gChk.dec (q r : ℕ) : Decidable (gChk q r) := decidable_of_iff' _ (Iff.refl _)
set_option synthInstance.maxSize 1000000 in
set_option synthInstance.maxHeartbeats 0 in
instance bChk.dec (q : ℕ) : Decidable (bChk q) := decidable_of_iff' _ (Iff.refl _)
set_option synthInstance.maxSize 1000000 in
set_option synthInstance.maxHeartbeats 0 in
instance sChk.dec (q : ℕ) : Decidable (sChk q) := decidable_of_iff' _ (Iff.refl _)

/-- The sixteen columns of lane block `r` in row `q`. -/
theorem lane_inb {q r : ℕ} (hq : q < 16) (hr : r < 16) : ∀ a, (![q, 16 * r] : Fin 2 → ℕ) a + S1x16.size a ≤ S16x256.size a := by
  intro a; fin_cases a
  · show q + 1 ≤ 16; omega
  · show 16 * r + 16 ≤ 256; omega

/-- The sixteen columns of the band in row `q`. -/
theorem band_inb {q col : ℕ} (hq : q < 16) (hc : col + 16 ≤ 256) : ∀ a, (![q, col] : Fin 2 → ℕ) a + S1x16.size a ≤ S16x256.size a := by
  intro a; fin_cases a
  · show q + 1 ≤ 16; omega
  · exact hc

section
variable (i : grid0.Coords)
  (arg4 : Memref sig .scVector .vmem S16x2x16x16x2 .f32) (arg5 : Memref sig .scVector .vmem S16x2x16x2 .f32)
  (arg6 : Memref sig .scVector .vmem S16x256 .f32)

/-- Lane block `r` of row `q`: gather sixteen elements and store them as columns `16 r … 16 r + 15`. -/
def lane {α : Type} (q : ℕ) (hq : q < 16) (r : ℕ) (hr : r < 16) (k : TP F i α) : TP F i α :=
  .op (.assume (gChk q r) (gChk.dec q r)) fun h =>
  .op (.load arg4 (.whole S16x2x16x16x2) (View.loadsAt_whole (View.loads_vmem h_S16x2x16x16x2))) fun f =>
  .op (.load arg6 (Rect.unit (s := S16x256) ![q, 16 * r] S1x16.size (lane_inb hq hr)).toLoadRect (View.loadsAt_vmem h_S1x16)) fun _ =>
  .op (.store arg6 (Rect.unit (s := S16x256) ![q, 16 * r] S1x16.size (lane_inb hq hr))
    (shapeCast S1x16 (loadIdx f (gIdx q r) h.down) shapeCasts_S16_S1x16) Finset.univ (View.stores_vmem_bits_univ h_S1x16 rfl) (.inl rfl)) fun _ => k

/-- The first `n` lane blocks of row `q`. -/
def lanes {α : Type} (q : ℕ) (hq : q < 16) : (n : ℕ) → n ≤ 16 → TP F i α → TP F i α
  | 0, _, k => k
  | n + 1, h, k => lanes q hq n (Nat.le_of_succ_le h) (lane i arg4 arg6 q hq n h k)

/-- What a row adds to its band of columns: the gathered band, and the corner's value in lane `q`. -/
def cvec (q : ℕ) (f : Vec F S16x2x16x2 .f32) (hc : ∀ a x, (cIdx q a x).toNat < S16x2x16x2.size a)
    (g : Vec F S16x2x16x2 .f32) (hd : ∀ a x, (dIdx q a x).toNat < S16x2x16x2.size a) : FVec F S16 .f32 :=
  addf (loadIdx f (cIdx q) hc)
    (select (cmpi .eq lanesV (rep q)) (loadIdx g (dIdx q) hd) (broadcast S16 (Scalar.ofBits .f32 0x00000000#32)))

/-- Row `q`. -/
def row {α : Type} (off : Fin 2 → ℕ) (hoff : ∀ a, off a + S1x16.size a ≤ S16x256.size a)
    (q : ℕ) (hq : q < 16) (k : TP F i α) : TP F i α :=
  .op (.assume (bChk q) (bChk.dec q)) fun hb =>
  lanes i arg4 arg6 q hq 16 le_rfl <|
  .op (.load arg4 (.whole S16x2x16x16x2) (View.loadsAt_whole (View.loads_vmem h_S16x2x16x16x2))) fun b =>
  .op (.assume (sChk q) (sChk.dec q)) fun hs =>
  .op (.load arg6 (.whole S16x256) (View.loadsAt_rect (View.stores_vmem_bits_univ h_S16x256 rfl : (arg6.access (.whole S16x256)).Stores Finset.univ).loads)) fun o =>
  .op (.store arg6 (.whole S16x256) (storeIdx o (sIdx q) (loadIdx b (bIdx q) hb.down.1) (fun _ => 1#1) true hs.down)
    Finset.univ (View.stores_vmem_bits_univ h_S16x256 rfl) (.inl rfl)) fun _ =>
  .op (.load arg5 (.whole S16x2x16x2) (View.loadsAt_whole (View.loads_vmem h_S16x2x16x2))) fun c =>
  .op (.load arg5 (.whole S16x2x16x2) (View.loadsAt_whole (View.loads_vmem h_S16x2x16x2))) fun d =>
  .op (.load arg6 (Rect.unit (s := S16x256) off S1x16.size hoff).toLoadRect (View.loadsAt_vmem h_S1x16)) fun w =>
  .op (.load arg6 (Rect.unit (s := S16x256) off S1x16.size hoff).toLoadRect (View.loadsAt_vmem h_S1x16)) fun _ =>
  .op (.store arg6 (Rect.unit (s := S16x256) off S1x16.size hoff)
    (shapeCast S1x16 (addf (shapeCast S16 w shapeCasts_S1x16_S16) (cvec q c hb.down.2.1 d hb.down.2.2)) shapeCasts_S16_S1x16)
    Finset.univ (View.stores_vmem_bits_univ h_S1x16 rfl) (.inl rfl)) fun _ => k

/-- The first `n` rows. `col` is the first column of the tile's band. -/
def rows {α : Type} (col : ℕ) (hcol : col + 16 ≤ 256) : (n : ℕ) → n ≤ 16 → TP F i α → TP F i α
  | 0, _, k => k
  | n + 1, h, k => rows col hcol n (Nat.le_of_succ_le h)
      (row i arg4 arg5 arg6 ![n, col] (band_inb h hcol) n h k)

end

section
variable (i : grid0.Coords) (t : Fin k0_t1_loop.trips)
  (arg2 : Memref sig .scVector .hbm S64x16x2x16x2x16x32x2 .f32) (arg3 : Memref sig .scVector .hbm S64x256x256 .f32)
  (arg4 : Memref sig .scVector .vmem S16x2x16x16x2 .f32) (harg4 : arg4.IsWhole)
  (arg5 : Memref sig .scVector .vmem S16x2x16x2 .f32) (harg5 : arg5.IsWhole)
  (arg6 : Memref sig .scVector .vmem S16x256 .f32) (harg6 : arg6.IsWhole)
  (arg7 arg8 : DmaSems sig S_)

/-- The source of the copy into the first scratch buffer. -/
abbrev srcAB : Memref sig .scVector .hbm S16x2x16x16x2 .f32 :=
  (arg2.slice (Rect.unit (s := S64x16x2x16x2x16x32x2) (k0_off1 i t) S1x1x1x16x2x16x16x2.size (k0_off1_inb i t)) (fun _ => rfl)).squeeze
    S16x2x16x16x2 squeezes_S1x1x1x16x2x16x16x2_S16x2x16x16x2
/-- The source of the copy into the second scratch buffer. -/
abbrev srcCD : Memref sig .scVector .hbm S16x2x16x2 .f32 :=
  (arg2.slice (Rect.unit (s := S64x16x2x16x2x16x32x2) (k0_off2 i t) S1x1x1x16x2x1x16x2.size (k0_off2_inb i t)) (fun _ => rfl)).squeeze
    S16x2x16x2 squeezes_S1x1x1x16x2x1x16x2_S16x2x16x2
/-- The rows of the result that the trip writes. -/
abbrev dstO : Memref sig .scVector .hbm S16x256 .f32 :=
  (arg3.slice (Rect.unit (s := S64x256x256) (k0_off19 i t) S1x16x256.size (k0_off19_inb i t)) (fun _ => rfl)).squeeze
    S16x256 squeezes_S1x16x256_S16x256

/-- One trip of the loop. -/
def trip : TP F i Unit :=
  .op (.enqueueDma (srcAB i t arg2) (.here arg4) (.dma arg7.sem) ((View.wordExact_bits rfl).reshape _ _) harg4.wordExact ⟨Or.inl rfl, trivial⟩) fun _ =>
  .op (.enqueueDma (srcCD i t arg2) (.here arg5) (.dma arg7.sem) ((View.wordExact_bits rfl).reshape _ _) harg5.wordExact ⟨Or.inl rfl, trivial⟩) fun _ =>
  .op (.waitDma2 arg7.sem (srcAB i t arg2) arg4 ((View.wordExact_bits rfl).reshape _ _) harg4.wordExact) fun _ =>
  .op (.waitDma2 arg7.sem (srcCD i t arg2) arg5 ((View.wordExact_bits rfl).reshape _ _) harg5.wordExact) fun _ =>
  rows i arg4 arg5 arg6 (k0_off3 i t 1) (k0_off3_inb i t 1) 16 le_rfl <|
  .op (.enqueueDma arg6 (.here (dstO i t arg3)) (.dma arg8.sem) harg6.wordExact ((View.wordExact_bits rfl).reshape _ _) ⟨Or.inl rfl, trivial⟩) fun _ =>
  .op (.waitDma2 arg8.sem arg6 (dstO i t arg3) harg6.wordExact ((View.wordExact_bits rfl).reshape _ _)) fun _ =>
  .ret ⟨⟩

set_option maxHeartbeats 4000000 in
set_option maxRecDepth 100000 in
/-- The printed loop body is one trip. -/
theorem body_eq_trip (harg2 : arg2.IsWhole) (harg3 : arg3.IsWhole) (v1 : BitVec 32) :
    k0_t1_body (F := F) i arg2 harg2 arg3 harg3 arg4 harg4 arg5 harg5 arg6 harg6 arg7 arg8 v1 lanesV t ⟨⟩
      = trip i t arg2 arg3 arg4 harg4 arg5 harg5 arg6 harg6 arg7 arg8 := by
  iterate 1190 refine op_congr fun _ => ?_
  rfl

end

end Cert.KernelIdeal.QPool
-- ==== Proof.IdealValue.lean ====
/- What the kernel's stores leave in the row scratch buffer, element by element. -/
module

public import proofs.«01_k».proof.Proof.IdealBody
public import Idealize.ShloMosaic.Lib.ValueIdxCore
public import Idealize.ShloMosaic.Lib.ValueLayout
public import Idealize.ShloMosaic.Lib.Pipeline.Value

@[expose] public section

noncomputable section

namespace Cert.KernelIdeal.QPool

open Cert.KernelIdeal.Gen
open Idealize.ShloMosaic Idealize.SL.Sem
open Idealize.ShloMosaic.ValueIdx

variable {F : FTy → Type} [FloatOps F]

/-- The lane block of a column: the column over 16. -/
def rc (j : S16x256.Idx) : Fin 16 := ⟨(j 1).val / 16, by have : (j 1).val < 256 := (j 1).isLt; omega⟩
/-- The lane of a column: the column modulo 16. -/
def wc (j : S16x256.Idx) : Fin 16 := ⟨(j 1).val % 16, Nat.mod_lt _ (by norm_num)⟩
/-- The row of a place of the scratch buffer. -/
def qc (j : S16x256.Idx) : Fin 16 := j 0

/-- What the gather of a lane block puts at a place. -/
def laneVal (a : Vec F S16x2x16x16x2 .f32) (j : S16x256.Idx) : F .f32 := a (ix5 (qc j) (0 : Fin 2) (rc j) (wc j) (0 : Fin 2))
/-- What the scatter adds at a place whose lane is its row. -/
def diagVal (a : Vec F S16x2x16x16x2 .f32) (j : S16x256.Idx) : F .f32 := a (ix5 (qc j) (1 : Fin 2) (rc j) (qc j) (1 : Fin 2))
/-- What the band adds at a place. -/
def bandVal (c : Vec F S16x2x16x2 .f32) (j : S16x256.Idx) : F .f32 :=
  FloatOps.addf (c (ix4 (qc j) (0 : Fin 2) (wc j) (0 : Fin 2)))
    (if wc j = qc j then c (ix4 (qc j) (1 : Fin 2) (qc j) (1 : Fin 2)) else FloatOps.ofBits .f32 0x00000000#32)
/-- A place after the scatter. -/
def scatVal (a : Vec F S16x2x16x16x2 .f32) (j : S16x256.Idx) : F .f32 :=
  if wc j = qc j then FloatOps.idxAddf (laneVal a j) (diagVal a j) else laneVal a j
/-- A place after its whole row is done, the band being lane block `p`. -/
def cellVal (a : Vec F S16x2x16x16x2 .f32) (c : Vec F S16x2x16x2 .f32) (p : ℕ) (j : S16x256.Idx) : F .f32 :=
  if (rc j).val = p then FloatOps.addf (scatVal a j) (bandVal c j) else scatVal a j

/-- Lane blocks `< n` of row `q` gathered, everything else as in `o`. -/
def laneSt (a : Vec F S16x2x16x16x2 .f32) (q n : ℕ) (o : Vec F S16x256 .f32) : Vec F S16x256 .f32 :=
  fun j => if (qc j).val = q ∧ (rc j).val < n then laneVal a j else o j
/-- Rows `< n` done, everything else as in `o`. -/
def rowSt (a : Vec F S16x2x16x16x2 .f32) (c : Vec F S16x2x16x2 .f32) (p n : ℕ) (o : Vec F S16x256 .f32) : Vec F S16x256 .f32 :=
  fun j => if (qc j).val < n then cellVal a c p j else o j

/-! ## The index vectors -/

/-- The lane vector at lane `x`. -/
theorem lanesV_apply (x : S16.Idx) : lanesV x = BitVec.ofNat 32 (x 0).val := iota_single_apply .scVector S16 32 0 _ x

/-- A small number's word reads back as the number. -/
theorem toNat_small {n : ℕ} (h : n < 256) : (BitVec.ofNat 32 n).toNat = n := by
  rw [BitVec.toNat_ofNat]; omega

/-- The lane vector's words are the lane numbers. -/
theorem lanesV_toNat (x : S16.Idx) : (lanesV x).toNat = (x 0).val := by
  have h : (x 0).val < 16 := (x 0).isLt
  rw [lanesV_apply, toNat_small (by omega)]

/-- The scatter's column words. -/
theorem sCol_toNat {q : ℕ} (hq : q < 16) (x : S16.Idx) : (addi (muli lanesV (rep 16)) (rep q) x).toNat = 16 * (x 0).val + q := by
  have h : (x 0).val < 16 := (x 0).isLt
  show (lanesV x * BitVec.ofNat 32 16 + BitVec.ofNat 32 q).toNat = _
  rw [BitVec.toNat_add, BitVec.toNat_mul, lanesV_toNat, toNat_small (by omega), toNat_small (by omega)]
  omega

/-- The check of a lane block's gather holds. -/
theorem gChk_ok {q r : ℕ} (hq : q < 16) (hr : r < 16) : gChk q r := by
  intro a x
  have hx : (x 0).val < 16 := (x 0).isLt
  match a with
  | ⟨0, _⟩ => show (BitVec.ofNat 32 q).toNat < 16; rw [toNat_small] <;> omega
  | ⟨1, _⟩ => show (BitVec.ofNat 32 0).toNat < 2; rw [toNat_small] <;> omega
  | ⟨2, _⟩ => show (BitVec.ofNat 32 r).toNat < 16; rw [toNat_small] <;> omega
  | ⟨3, _⟩ => show (lanesV x).toNat < 16; rw [lanesV_toNat]; omega
  | ⟨4, _⟩ => show (BitVec.ofNat 32 0).toNat < 2; rw [toNat_small] <;> omega

/-- The check of a row's other gathers holds. -/
theorem bChk_ok {q : ℕ} (hq : q < 16) : bChk q := by
  refine ⟨fun a x => ?_, fun a x => ?_, fun a x => ?_⟩
  · have hx : (x 0).val < 16 := (x 0).isLt
    match a with
    | ⟨0, _⟩ => show (BitVec.ofNat 32 q).toNat < 16; rw [toNat_small] <;> omega
    | ⟨1, _⟩ => show (BitVec.ofNat 32 1).toNat < 2; rw [toNat_small] <;> omega
    | ⟨2, _⟩ => show (lanesV x).toNat < 16; rw [lanesV_toNat]; omega
    | ⟨3, _⟩ => show (BitVec.ofNat 32 q).toNat < 16; rw [toNat_small] <;> omega
    | ⟨4, _⟩ => show (BitVec.ofNat 32 1).toNat < 2; rw [toNat_small] <;> omega
  · have hx : (x 0).val < 16 := (x 0).isLt
    match a with
    | ⟨0, _⟩ => show (BitVec.ofNat 32 q).toNat < 16; rw [toNat_small] <;> omega
    | ⟨1, _⟩ => show (BitVec.ofNat 32 0).toNat < 2; rw [toNat_small] <;> omega
    | ⟨2, _⟩ => show (lanesV x).toNat < 16; rw [lanesV_toNat]; omega
    | ⟨3, _⟩ => show (BitVec.ofNat 32 0).toNat < 2; rw [toNat_small] <;> omega
  · match a with
    | ⟨0, _⟩ => show (BitVec.ofNat 32 q).toNat < 16; rw [toNat_small] <;> omega
    | ⟨1, _⟩ => show (BitVec.ofNat 32 1).toNat < 2; rw [toNat_small] <;> omega
    | ⟨2, _⟩ => show (BitVec.ofNat 32 q).toNat < 16; rw [toNat_small] <;> omega
    | ⟨3, _⟩ => show (BitVec.ofNat 32 1).toNat < 2; rw [toNat_small] <;> omega

/-- The check of a row's scatter holds. -/
theorem sChk_ok {q : ℕ} (hq : q < 16) : sChk q := by
  intro a x
  have hx : (x 0).val < 16 := (x 0).isLt
  match a with
  | ⟨0, _⟩ => show (BitVec.ofNat 32 q).toNat < 16; rw [toNat_small] <;> omega
  | ⟨1, _⟩ => show (addi (muli lanesV (rep 16)) (rep q) x).toNat < 256; rw [sCol_toNat hq]; omega

/-! ## The gathers -/

/-- The gather of a lane block at a lane. -/
theorem gLoad (a : Vec F S16x2x16x16x2 .f32) (q r l : Fin 16) (h : gChk q.val r.val) :
    loadIdx a (gIdx q.val r.val) h (ix1 l) = a (ix5 q (0 : Fin 2) r l (0 : Fin 2)) := by
  refine congrArg a (funext fun x => Fin.ext ?_)
  match x with
  | ⟨0, _⟩ => show (BitVec.ofNat 32 q.val).toNat = q.val; rw [toNat_small]; omega
  | ⟨1, _⟩ => rfl
  | ⟨2, _⟩ => show (BitVec.ofNat 32 r.val).toNat = r.val; rw [toNat_small]; omega
  | ⟨3, _⟩ => show (lanesV (ix1 l)).toNat = l.val; exact lanesV_toNat _
  | ⟨4, _⟩ => rfl

/-- The gather of the diagonal terms at a lane. -/
theorem bLoad (a : Vec F S16x2x16x16x2 .f32) (q l : Fin 16) (h : ∀ a x, (bIdx q.val a x).toNat < S16x2x16x16x2.size a) :
    loadIdx a (bIdx q.val) h (ix1 l) = a (ix5 q (1 : Fin 2) l q (1 : Fin 2)) := by
  refine congrArg a (funext fun x => Fin.ext ?_)
  match x with
  | ⟨0, _⟩ => show (BitVec.ofNat 32 q.val).toNat = q.val; rw [toNat_small]; omega
  | ⟨1, _⟩ => rfl
  | ⟨2, _⟩ => show (lanesV (ix1 l)).toNat = l.val; exact lanesV_toNat _
  | ⟨3, _⟩ => show (BitVec.ofNat 32 q.val).toNat = q.val; rw [toNat_small]; omega
  | ⟨4, _⟩ => rfl

/-- What the band adds at a lane. -/
theorem cvec_apply (c : Vec F S16x2x16x2 .f32) (q l : Fin 16) (hc) (hd) :
    cvec q.val c hc c hd (ix1 l) = FloatOps.addf (c (ix4 q (0 : Fin 2) l (0 : Fin 2)))
      (if l = q then c (ix4 q (1 : Fin 2) q (1 : Fin 2)) else FloatOps.ofBits .f32 0x00000000#32) := by
  have e1 : loadIdx c (cIdx q.val) hc (ix1 l) = c (ix4 q (0 : Fin 2) l (0 : Fin 2)) := by
    refine congrArg c (funext fun x => Fin.ext ?_)
    match x with
    | ⟨0, _⟩ => show (BitVec.ofNat 32 q.val).toNat = q.val; rw [toNat_small]; omega
    | ⟨1, _⟩ => rfl
    | ⟨2, _⟩ => show (lanesV (ix1 l)).toNat = l.val; exact lanesV_toNat _
    | ⟨3, _⟩ => rfl
  have e2 : loadIdx c (dIdx q.val) hd (ix1 l) = c (ix4 q (1 : Fin 2) q (1 : Fin 2)) := by
    refine congrArg c (funext fun x => Fin.ext ?_)
    match x with
    | ⟨0, _⟩ => show (BitVec.ofNat 32 q.val).toNat = q.val; rw [toNat_small]; omega
    | ⟨1, _⟩ => rfl
    | ⟨2, _⟩ => show (BitVec.ofNat 32 q.val).toNat = q.val; rw [toNat_small]; omega
    | ⟨3, _⟩ => rfl
  have e3 : cmpi .eq lanesV (rep q.val) (ix1 l) = if l = q then 1#1 else 0#1 := by
    rw [show cmpi .eq lanesV (rep q.val) (ix1 l) = BitVec.ofBool (lanesV (ix1 l) == BitVec.ofNat 32 q.val) from rfl, lanesV_apply]
    by_cases h : l = q
    · subst h; simp
    · rw [if_neg h]
      have : ¬ BitVec.ofNat 32 ((ix1 l : S16.Idx) 0).val = BitVec.ofNat 32 q.val := by
        intro e
        have e' := congrArg BitVec.toNat e
        rw [toNat_small (by have := l.isLt; show l.val < 256; omega), toNat_small (by omega)] at e'
        exact h (Fin.ext e')
      rw [beq_eq_false_iff_ne.mpr this]; rfl
  show FloatOps.addf (loadIdx c (cIdx q.val) hc (ix1 l)) (if cmpi .eq lanesV (rep q.val) (ix1 l) = 1 then loadIdx c (dIdx q.val) hd (ix1 l) else FloatOps.ofBits .f32 0x00000000#32) = _
  rw [e1, e2, e3]
  by_cases h : l = q
  · rw [if_pos h, if_pos h]; rfl
  · rw [if_neg h, if_neg h]; rfl

/-! ## The stores -/

/-- A store of sixteen columns of one row: lane block `r` of row `q` holds the stored vector, everything else is kept. -/
theorem write_block (o : Vec F S16x256 .f32) (w : Vec F S16 .f32) (q r : ℕ) (off : Fin 2 → ℕ) (hoff) (e0 : off 0 = q) (e1 : off 1 = 16 * r) :
    ((Memref.whole cc0_scratch2).access (Rect.unit (s := S16x256) off S1x16.size hoff)).write (Elt F) o
      (shapeCast S1x16 w shapeCasts_S16_S1x16) Finset.univ
      = (fun j => if (qc j).val = q ∧ (rc j).val = r then w (ix1 (wc j)) else o j : Vec F S16x256 .f32) := by
  refine (View.write_whole_slice_unit cc0_scratch2 off S1x16.size hoff o _).trans ?_
  funext j
  have h1 : (j 1).val < 256 := (j 1).isLt
  unfold updateSlice
  split
  · next hin =>
    have h0 : off 0 ≤ (j 0).val ∧ (j 0).val < off 0 + 1 := hin 0
    have h2 : off 1 ≤ (j 1).val ∧ (j 1).val < off 1 + 16 := hin 1
    rw [if_pos ⟨by show (j 0).val = q; omega, by show (j 1).val / 16 = r; omega⟩]
    refine (shapeCast_addUnit_apply (n := 1) ![16] w _ _).trans (congrArg w (funext fun a => Fin.ext ?_))
    match a with
    | ⟨0, _⟩ => show (j 1).val - off 1 = (j 1).val % 16; omega
  · next hout =>
    rw [if_neg]
    rintro ⟨hq, hr⟩
    have hq' : (j 0).val = q := hq
    have hr' : (j 1).val / 16 = r := hr
    refine hout fun a => ?_
    match a with
    | ⟨0, _⟩ => show off 0 ≤ (j 0).val ∧ (j 0).val < off 0 + 1; omega
    | ⟨1, _⟩ => show off 1 ≤ (j 1).val ∧ (j 1).val < off 1 + 16; omega

/-- A load of sixteen columns of one row, as a vector. -/
theorem read_block (o : Vec F S16x256 .f32) (q r : ℕ) (off : Fin 2 → ℕ) (hoff) (e0 : off 0 = q) (e1 : off 1 = 16 * r)
    (j : S16x256.Idx) (hq : (qc j).val = q) (hr : (rc j).val = r) :
    shapeCast S16 ((Memref.whole cc0_scratch2).view.readAt (Elt F) (Rect.unit (s := S16x256) off S1x16.size hoff).toLoadRect o) shapeCasts_S1x16_S16 (ix1 (wc j)) = o j := by
  refine (shapeCast_dropUnit_apply (n := 1) ![16] _ _ _).trans ?_
  refine congrArg o (funext fun a => Fin.ext ?_)
  have hq' : (j 0).val = q := hq
  have hr' : (j 1).val / 16 = r := hr
  match a with
  | ⟨0, _⟩ => show off 0 + 1 * 0 = (j 0).val; omega
  | ⟨1, _⟩ => show off 1 + 1 * ((j 1).val % 16) = (j 1).val; omega

/-- One more lane block gathered. -/
theorem laneSt_succ (a : Vec F S16x2x16x16x2 .f32) (o : Vec F S16x256 .f32) (q r : ℕ) (hq : q < 16) (hr : r < 16) (h : gChk q r) :
    ((Memref.whole cc0_scratch2).access (Rect.unit (s := S16x256) ![q, 16 * r] S1x16.size (lane_inb hq hr))).write (Elt F) (laneSt a q r o)
      (shapeCast S1x16 (loadIdx a (gIdx q r) h) shapeCasts_S16_S1x16) Finset.univ = laneSt a q (r + 1) o := by
  refine (write_block _ _ q r _ _ rfl rfl).trans (funext fun j => ?_)
  by_cases c : (qc j).val = q ∧ (rc j).val = r
  · rw [if_pos c, laneSt, if_pos ⟨c.1, by omega⟩]
    have e : ∀ q r (_ : (qc j).val = q) (_ : (rc j).val = r) (h : gChk q r), loadIdx a (gIdx q r) h (ix1 (wc j)) = laneVal a j := by
      rintro _ _ rfl rfl h
      exact gLoad a (qc j) (rc j) (wc j) h
    exact e q r c.1 c.2 h
  · rw [if_neg c, laneSt, laneSt]
    by_cases c' : (qc j).val = q ∧ (rc j).val < r
    · rw [if_pos c', if_pos ⟨c'.1, by omega⟩]
    · rw [if_neg c', if_neg]
      rintro ⟨h1, h2⟩
      exact c' ⟨h1, by have : (rc j).val ≠ r := fun e => c ⟨h1, e⟩
                       omega⟩

/-- The scatter with add: the places of row `q` whose lane is `q` get their addend, everything else is kept. -/
theorem store_scatter (o : Vec F S16x256 .f32) (v : Vec F S16 .f32) (q : Fin 16) (h : sChk q.val) :
    storeIdx o (sIdx q.val) v (fun _ => 1#1) true h
      = (fun j => if qc j = q ∧ wc j = q then FloatOps.idxAddf (o j) (v (ix1 (rc j))) else o j : Vec F S16x256 .f32) := by
  let tgt (k : Fin 16) : S16x256.Idx := idxAt (s := S16x256) (t := S16) (sIdx q.val) h (Shape.ofLane (d := ![16]) k)
  have key : ∀ l : List (Fin 16), l.Nodup → ∀ g : Vec F S16x256 .f32, l.foldl (fun (g : Vec F S16x256 .f32) (k : Fin 16) =>
      (fun j => if (∀ a, (j a).val = (tgt k a).val)
        then FloatOps.idxAddf (g (tgt k)) (v (Shape.ofLane (d := ![16]) k)) else g j : Vec F S16x256 .f32)) g
      = (fun j => if qc j = q ∧ wc j = q ∧ rc j ∈ l then FloatOps.idxAddf (g j) (v (ix1 (rc j))) else g j : Vec F S16x256 .f32) := by
    intro l
    induction l with
    | nil => intro _ g; funext j; rw [if_neg (by simp)]; rfl
    | cons k l ih =>
      intro hn g
      rw [List.foldl_cons, ih (List.nodup_cons.mp hn).2]
      have hk := (List.nodup_cons.mp hn).1
      funext j
      have h1 : (j 1).val < 256 := (j 1).isLt
      have hlane : (Shape.ofLane (d := ![16]) k : S16.Idx) = ix1 k := funext fun a => match a with | ⟨0, _⟩ => rfl
      have hv0 : (tgt k 0).val = q.val := by
        show (BitVec.ofNat 32 q.val).toNat = _; rw [toNat_small]; omega
      have hv1 : (tgt k 1).val = 16 * k.val + q.val := by
        show (addi (muli lanesV (rep 16)) (rep q.val) (Shape.ofLane (d := ![16]) k)).toNat = _
        rw [sCol_toNat q.isLt]; rfl
      have hit : (∀ a, (j a).val = (tgt k a).val) ↔ qc j = q ∧ wc j = q ∧ rc j = k := by
        constructor
        · intro e
          have a0 : (j 0).val = _ := (e 0).trans hv0
          have a1 : (j 1).val = _ := (e 1).trans hv1
          have := q.isLt
          refine ⟨Fin.ext a0, Fin.ext ?_, Fin.ext ?_⟩
          · show (j 1).val % 16 = q.val; omega
          · show (j 1).val / 16 = k.val; omega
        · rintro ⟨b0, b1, b2⟩ a
          have a0 : (j 0).val = q.val := congrArg Fin.val b0
          have a1 : (j 1).val % 16 = q.val := congrArg Fin.val b1
          have a2 : (j 1).val / 16 = k.val := congrArg Fin.val b2
          match a with
          | ⟨0, _⟩ => exact a0.trans hv0.symm
          | ⟨1, _⟩ => refine Eq.trans ?_ hv1.symm; show (j 1).val = _; omega
      by_cases c : qc j = q ∧ wc j = q ∧ rc j = k
      · have hj : tgt k = j := (funext fun a => Fin.ext (hit.mpr c a)).symm
        rw [if_neg (by rintro ⟨_, _, h3⟩; exact hk (c.2.2 ▸ h3)), if_pos (hit.mpr c), if_pos ⟨c.1, c.2.1, by rw [c.2.2]; exact List.mem_cons_self⟩, hj, hlane, c.2.2]
      · have c' : ¬ ∀ a, (j a).val = (tgt k a).val := fun e => c (hit.mp e)
        rw [if_neg c']
        by_cases d : qc j = q ∧ wc j = q ∧ rc j ∈ l
        · rw [if_pos d, if_pos ⟨d.1, d.2.1, List.mem_cons_of_mem _ d.2.2⟩]
        · rw [if_neg d, if_neg]
          rintro ⟨d1, d2, d3⟩
          rcases List.mem_cons.mp d3 with e | e
          · exact c ⟨d1, d2, e⟩
          · exact d ⟨d1, d2, e⟩
  refine Eq.trans ?_ ((key (List.finRange 16) (List.nodup_finRange 16) o).trans (funext fun j => ?_))
  · unfold storeIdx
    refine congrArg (fun f => List.foldl f o (List.finRange 16)) (funext fun g => funext fun k => ?_)
    refine (if_pos rfl).trans (funext fun j => ?_)
    simp only [if_true, Elt.idxAdd_f32]
    congr
  · by_cases c : qc j = q ∧ wc j = q
    · rw [if_pos c, if_pos ⟨c.1, c.2, List.mem_finRange _⟩]
    · rw [if_neg c, if_neg fun e => c ⟨e.1, e.2.1⟩]

/-- A row's gathers, scatter and band put together: one more row done. -/
theorem rowSt_succ (a : Vec F S16x2x16x16x2 .f32) (c : Vec F S16x2x16x2 .f32) (o : Vec F S16x256 .f32) (p : ℕ) (q : ℕ) (hq : q < 16)
    (off : Fin 2 → ℕ) (hoff) (e0 : off 0 = q) (e1 : off 1 = 16 * p) (hb : bChk q) (hs : sChk q) :
    let s : Vec F S16x256 .f32 := storeIdx (laneSt a q 16 (rowSt a c p q o)) (sIdx q) (loadIdx a (bIdx q) hb.1) (fun _ => 1#1) true hs
    ((Memref.whole cc0_scratch2).access (Rect.unit (s := S16x256) off S1x16.size hoff)).write (Elt F) s
      (shapeCast S1x16 (addf (shapeCast S16 ((Memref.whole cc0_scratch2).view.readAt (Elt F) (Rect.unit (s := S16x256) off S1x16.size hoff).toLoadRect s)
        shapeCasts_S1x16_S16) (cvec q c hb.2.1 c hb.2.2)) shapeCasts_S16_S1x16) Finset.univ = rowSt a c p (q + 1) o := by
  intro s
  have hsv : ∀ j, s j = if (qc j).val = q then scatVal a j else rowSt a c p q o j := by
    intro j
    refine (congrFun (store_scatter _ _ ⟨q, hq⟩ hs) j).trans ?_
    by_cases h : (qc j).val = q
    · have h' : qc j = ⟨q, hq⟩ := Fin.ext h
      have hl : laneSt a q 16 (rowSt a c p q o) j = laneVal a j := if_pos ⟨h, (rc j).isLt⟩
      rw [if_pos h, hl, scatVal]
      by_cases hw : wc j = qc j
      · rw [if_pos ⟨h', hw.trans h'⟩, if_pos hw]
        have hbl := bLoad a ⟨q, hq⟩ (rc j) hb.1
        refine congrArg (FloatOps.idxAddf (laneVal a j)) (hbl.trans ?_)
        rw [diagVal, h']
      · rw [if_neg (fun e => hw (e.2.trans h'.symm)), if_neg hw]
    · rw [if_neg h, if_neg (fun e => h (congrArg Fin.val e.1)), laneSt, if_neg fun e => h e.1]
  refine (write_block s _ q p off hoff e0 e1).trans (funext fun j => ?_)
  by_cases h : (qc j).val = q
  · have h' : qc j = ⟨q, hq⟩ := Fin.ext h
    rw [rowSt, if_pos (show (qc j).val < q + 1 by omega), cellVal]
    by_cases hr : (rc j).val = p
    · rw [if_pos ⟨h, hr⟩, if_pos hr]
      show FloatOps.addf (shapeCast S16 _ _ (ix1 (wc j))) (cvec q c _ c _ (ix1 (wc j))) = _
      rw [read_block s q p off hoff e0 e1 j h hr, hsv j, if_pos h]
      have hcv := cvec_apply c ⟨q, hq⟩ (wc j) hb.2.1 hb.2.2
      refine congrArg (FloatOps.addf (scatVal a j)) (hcv.trans ?_)
      rw [bandVal, h']
    · rw [if_neg (fun e => hr e.2), if_neg hr, hsv j, if_pos h]
  · rw [if_neg (fun e => h e.1), hsv j, if_neg h, rowSt, rowSt]
    by_cases h2 : (qc j).val < q
    · rw [if_pos h2, if_pos (by omega)]
    · rw [if_neg h2, if_neg (by omega)]

/-- With no lane block gathered nothing has changed. -/
theorem laneSt_zero (a : Vec F S16x2x16x16x2 .f32) (q : ℕ) (o : Vec F S16x256 .f32) : laneSt a q 0 o = o :=
  funext fun _ => if_neg fun e => Nat.not_lt_zero _ e.2

/-- With no row done nothing has changed. -/
theorem rowSt_zero (a : Vec F S16x2x16x16x2 .f32) (c : Vec F S16x2x16x2 .f32) (p : ℕ) (o : Vec F S16x256 .f32) : rowSt a c p 0 o = o :=
  funext fun _ => if_neg (Nat.not_lt_zero _)

/-- With all sixteen rows done the buffer is the result's block. -/
theorem rowSt_all (a : Vec F S16x2x16x16x2 .f32) (c : Vec F S16x2x16x2 .f32) (p : ℕ) (o : Vec F S16x256 .f32) : rowSt a c p 16 o = cellVal a c p :=
  funext fun j => if_pos (qc j).isLt

end Cert.KernelIdeal.QPool
-- ==== Proof.IdealRows.lean ====
/- The rows of one trip, run: what they leave in the row scratch buffer. -/
module

public import proofs.«01_k».proof.Defs
public import proofs.«01_k».proof.Proof.IdealValue
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.QPool

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The program's labels with the launch's. -/
abbrev ΛP : Labels := Pipeline.Sig Λ₀ (Fin 0) fun p => (pcfgs (F := F) p).Adm
/-- The SparseCore call's configuration. -/
abbrev K : SparseCore.Cfg τ sig (ΛP (F := F)) 1 := sc (F := F)
/-- The program's bodies. -/
abbrev D [FloatOps F] : Defs nD τ sig (Elt F) (ΛP (F := F)) := Pipeline.defs pcfgs defs₀
/-- No loop needs a variant. -/
abbrev 𝒱₀ : Variants := Variants.none
/-- The same, under the launch. -/
abbrev 𝒱 : Variants := 𝒱₀.lift
/-- The launch's variant. -/
abbrev v₀ : 𝒱.V := Sum.inl none

/-- The launch's handshakes. -/
abbrev UH : Type := URounds (GSem nD τ sig) ℕ
/-- The handshakes beside the transfers' counters. -/
abbrev UU : Type := UH × Counters

local notation "𝕄" => MT nD τ sig (HIx 1) (Elt F) ℕ UU ℕ

/-- The handshakes' library, the left factor. -/
abbrev EH : Emb UH (MT nD τ sig (HIx 1) (Elt F) ℕ UU ℕ) := embL

variable [FloatOps F]

section
variable (d : Dev nD) (i : grid0.Coords)

/-- The tile's thread. -/
abbrev thr : Thread nD τ := V d ((i 0).castLE hcore0) ((i 1).castLE hsub0)

/-- The three scratch buffers of the tile, as its thread names them. -/
abbrev aLoc : Loc nD τ sig := (thr d i).loc cc0_scratch0
abbrev cLoc : Loc nD τ sig := (thr d i).loc cc0_scratch1
abbrev oLoc : Loc nD τ sig := (thr d i).loc cc0_scratch2

variable {α : Type} (Q : α → sProp (MT nD τ sig (HIx 1) (Elt F) ℕ UU ℕ))

/-- One lane block. -/
theorem lane_wp (a : Vec F S16x2x16x16x2 .f32) (o : Vec F S16x256 .f32) (q : ℕ) (hq : q < 16) (r : ℕ) (hr : r < 16) (k : TP F i α) :
    iprop((aLoc d i ↦{fullShare} a) ∗ (oLoc d i ↦{fullShare} laneSt a q r o)
        ∗ ((aLoc d i ↦{fullShare} a) -∗ (oLoc d i ↦{fullShare} laneSt a q (r + 1) o) -∗ wp frame (wpE (defs₀ (F := F)) 𝒱₀ (thr d i) none) Set.univ k Q))
      ⊢ wp frame (wpE (defs₀ (F := F)) 𝒱₀ (thr d i) none) Set.univ
          (lane i (Memref.whole cc0_scratch0) (Memref.whole cc0_scratch2) q hq r hr k) Q := by
  unfold lane
  rw [wp_assume_of _ _ _ _ (gChk_ok hq hr)]
  iintro ⟨Ha, Ho, Hk⟩
  iapply (wp_load_whole 𝒱₀ (thr d i) none Set.univ) $$ Ha; iintro Ha
  iapply (wp_load_rect 𝒱₀ (thr d i) none Set.univ (m := Memref.whole cc0_scratch2) (S := Finset.univ) (Finset.subset_univ _)) $$ [Ho]
  · iexact Ho
  iintro Ho
  iapply (wp_store 𝒱₀ (thr d i) none Set.univ (m := Memref.whole cc0_scratch2) (S := Finset.univ) (Finset.subset_univ _)) $$ [Ho]
  · iexact Ho
  iintro Ho
  rw [laneSt_succ a o q r hq hr]
  iapply Hk $$ Ha Ho

/-- The first `n` lane blocks of a row. -/
theorem lanes_wp (a : Vec F S16x2x16x16x2 .f32) (o : Vec F S16x256 .f32) (q : ℕ) (hq : q < 16) (n : ℕ) (hn : n ≤ 16) : ∀ k : TP F i α,
    iprop((aLoc d i ↦{fullShare} a) ∗ (oLoc d i ↦{fullShare} o)
        ∗ ((aLoc d i ↦{fullShare} a) -∗ (oLoc d i ↦{fullShare} laneSt a q n o) -∗ wp frame (wpE (defs₀ (F := F)) 𝒱₀ (thr d i) none) Set.univ k Q))
      ⊢ wp frame (wpE (defs₀ (F := F)) 𝒱₀ (thr d i) none) Set.univ
          (lanes i (Memref.whole cc0_scratch0) (Memref.whole cc0_scratch2) q hq n hn k) Q := by
  induction n with
  | zero =>
    intro k
    unfold lanes
    rw [laneSt_zero]
    iintro ⟨Ha, Ho, Hk⟩
    iapply Hk $$ Ha Ho
  | succ n ih =>
    intro k
    unfold lanes
    iintro ⟨Ha, Ho, Hk⟩
    iapply (ih (Nat.le_of_succ_le hn) _) $$ [Ha Ho Hk]
    isplitl [Ha]; · iexact Ha
    isplitl [Ho]; · iexact Ho
    iintro Ha Ho
    iapply (lane_wp d i Q a o q hq n hn k) $$ [Ha Ho Hk]
    isplitl [Ha]; · iexact Ha
    isplitl [Ho]; · iexact Ho
    iexact Hk

/-- One row. -/
theorem row_wp (a : Vec F S16x2x16x16x2 .f32) (c : Vec F S16x2x16x2 .f32) (o : Vec F S16x256 .f32) (p : ℕ)
    (off : Fin 2 → ℕ) (hoff) (q : ℕ) (hq : q < 16) (e0 : off 0 = q) (e1 : off 1 = 16 * p) (k : TP F i α) :
    iprop((aLoc d i ↦{fullShare} a) ∗ (cLoc d i ↦{fullShare} c) ∗ (oLoc d i ↦{fullShare} rowSt a c p q o)
        ∗ ((aLoc d i ↦{fullShare} a) -∗ (cLoc d i ↦{fullShare} c) -∗ (oLoc d i ↦{fullShare} rowSt a c p (q + 1) o)
            -∗ wp frame (wpE (defs₀ (F := F)) 𝒱₀ (thr d i) none) Set.univ k Q))
      ⊢ wp frame (wpE (defs₀ (F := F)) 𝒱₀ (thr d i) none) Set.univ
          (row i (Memref.whole cc0_scratch0) (Memref.whole cc0_scratch1) (Memref.whole cc0_scratch2) off hoff q hq k) Q := by
  unfold row
  rw [wp_assume_of _ _ _ _ (bChk_ok hq)]
  iintro ⟨Ha, Hc, Ho, Hk⟩
  iapply (lanes_wp d i Q a (rowSt a c p q o) q hq 16 le_rfl _) $$ [Ha Hc Ho Hk]
  isplitl [Ha]; · iexact Ha
  isplitl [Ho]; · iexact Ho
  iintro Ha Ho
  iapply (wp_load_whole 𝒱₀ (thr d i) none Set.univ) $$ Ha; iintro Ha
  rw [wp_assume_of _ _ _ _ (sChk_ok hq)]
  iapply (wp_load_whole 𝒱₀ (thr d i) none Set.univ) $$ Ho; iintro Ho
  iapply (wp_store_whole 𝒱₀ (thr d i) none Set.univ) $$ Ho; iintro Ho
  iapply (wp_load_whole 𝒱₀ (thr d i) none Set.univ) $$ Hc; iintro Hc
  iapply (wp_load_whole 𝒱₀ (thr d i) none Set.univ) $$ Hc; iintro Hc
  iapply (wp_load 𝒱₀ (thr d i) none Set.univ (m := Memref.whole cc0_scratch2) (S := Finset.univ) (Finset.subset_univ _)) $$ [Ho]
  · iexact Ho
  iintro Ho
  iapply (wp_load 𝒱₀ (thr d i) none Set.univ (m := Memref.whole cc0_scratch2) (S := Finset.univ) (Finset.subset_univ _)) $$ [Ho]
  · iexact Ho
  iintro Ho
  iapply (wp_store 𝒱₀ (thr d i) none Set.univ (m := Memref.whole cc0_scratch2) (S := Finset.univ) (Finset.subset_univ _)) $$ [Ho]
  · iexact Ho
  iintro Ho
  rw [rowSt_succ a c o p q hq off hoff e0 e1 (bChk_ok hq) (sChk_ok hq)]
  iapply Hk $$ Ha Hc Ho

/-- The first `n` rows. -/
theorem rows_wp (a : Vec F S16x2x16x16x2 .f32) (c : Vec F S16x2x16x2 .f32) (o : Vec F S16x256 .f32) (p : ℕ)
    (col : ℕ) (hcol) (e : col = 16 * p) (n : ℕ) (hn : n ≤ 16) : ∀ k : TP F i α,
    iprop((aLoc d i ↦{fullShare} a) ∗ (cLoc d i ↦{fullShare} c) ∗ (oLoc d i ↦{fullShare} o)
        ∗ ((aLoc d i ↦{fullShare} a) -∗ (cLoc d i ↦{fullShare} c) -∗ (oLoc d i ↦{fullShare} rowSt a c p n o)
            -∗ wp frame (wpE (defs₀ (F := F)) 𝒱₀ (thr d i) none) Set.univ k Q))
      ⊢ wp frame (wpE (defs₀ (F := F)) 𝒱₀ (thr d i) none) Set.univ
          (rows i (Memref.whole cc0_scratch0) (Memref.whole cc0_scratch1) (Memref.whole cc0_scratch2) col hcol n hn k) Q := by
  induction n with
  | zero =>
    intro k
    unfold rows
    rw [rowSt_zero]
    iintro ⟨Ha, Hc, Ho, Hk⟩
    iapply Hk $$ Ha Hc Ho
  | succ n ih =>
    intro k
    unfold rows
    iintro ⟨Ha, Hc, Ho, Hk⟩
    iapply (ih (Nat.le_of_succ_le hn) _) $$ [Ha Hc Ho Hk]
    isplitl [Ha]; · iexact Ha
    isplitl [Hc]; · iexact Hc
    isplitl [Ho]; · iexact Ho
    iintro Ha Hc Ho
    iapply (row_wp d i Q a c o p _ _ n hn rfl e k) $$ [Ha Hc Ho Hk]
    isplitl [Ha]; · iexact Ha
    isplitl [Hc]; · iexact Hc
    isplitl [Ho]; · iexact Ho
    iexact Hk

end

end Cert.KernelIdeal.QPool
-- ==== Proof.IdealBlocks.lean ====
/- Which elements of the arrays a trip reads and writes. -/
module

public import proofs.«01_k».proof.Proof.IdealValue
public import Idealize.ShloMosaic.Lib.Writes

@[expose] public section

noncomputable section

namespace Cert.KernelIdeal.QPool

open Cert.KernelIdeal.Gen
open Idealize.ShloMosaic Idealize.SL.Sem
open Idealize.ShloMosaic.ValueIdx

variable {F : FTy → Type}

/-! ## The task of a trip -/

/-- The trip's task number as the program computes it. -/
def taskW (i : grid0.Coords) (t : Fin k0_t1_loop.trips) : BitVec 32 :=
  Scalar.addi (Scalar.muli (Scalar.addi (Scalar.muli (BitVec.ofNat 32 (i 1).val) 2#32) (BitVec.ofNat 32 (i 0).val)) 32#32) (Scf.iv 0#32 1#32 t)

/-- The program's floor division of a word by 16. -/
def divW (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt (16#32 : BitVec 32) 0#32)) (Scalar.extui (Scalar.cmpi .slt (16#32 : BitVec 32) 0#32))))
      (Scalar.cmpi .ne (Scalar.remsi x 16#32) 0#32))
    (Scalar.subi (Scalar.divsi x 16#32) 1#32) (Scalar.divsi x 16#32)

/-- The program's modulus for the remainder. -/
def modW : BitVec 32 := Scalar.select (Scalar.cmpi .eq (16#32 : BitVec 32) 0#32) 1#32 16#32

/-- The program's remainder of a word by 16. -/
def remW (x : BitVec 32) : BitVec 32 :=
  Scalar.select
    (Scalar.andi (Scalar.xori (Scalar.cmpi .slt (Scalar.remsi x modW) 0#32) (Scalar.cmpi .slt modW 0#32)) (Scalar.cmpi .ne (Scalar.remsi x modW) 0#32))
    (Scalar.addi (Scalar.remsi x modW) modW) (Scalar.remsi x modW)

/-- The floor division of a task number is the batch. -/
theorem divW_ofNat : ∀ n : Fin 1024, (divW (BitVec.ofNat 32 n.val)).toNat = n.val / 16 := by decide +kernel
/-- The remainder of a task number is the row block. -/
theorem remW_ofNat : ∀ n : Fin 1024, (remW (BitVec.ofNat 32 n.val)).toNat = n.val % 16 := by decide +kernel
/-- The remainder of a task number times 16. -/
theorem remW16_ofNat : ∀ n : Fin 1024, (Scalar.muli (remW (BitVec.ofNat 32 n.val)) 16#32).toNat = 16 * (n.val % 16) := by decide +kernel

/-- The tile's number. -/
def wid (i : grid0.Coords) : ℕ := 2 * (i 1).val + (i 0).val
/-- The trip's task number. -/
def task (i : grid0.Coords) (t : Fin k0_t1_loop.trips) : ℕ := 32 * wid i + t.val

/-- A tile's number is below 32. -/
theorem wid_lt (i : grid0.Coords) : wid i < 32 := by
  have h1 : (i 1).val < 16 := (i 1).isLt
  have h0 : (i 0).val < 2 := (i 0).isLt
  unfold wid; omega

/-- The loop runs 32 trips. -/
theorem trips_eq : k0_t1_loop.trips = 32 := by decide

/-- A trip's number is below 32. -/
theorem trip_lt (t : Fin k0_t1_loop.trips) : t.val < 32 := lt_of_lt_of_eq t.isLt trips_eq

/-- A task number is below 1024. -/
theorem task_lt (i : grid0.Coords) (t : Fin k0_t1_loop.trips) : task i t < 1024 := by
  have h := wid_lt i
  have ht : t.val < 32 := trip_lt t
  unfold task; omega

/-- The program's task word is the task number's. -/
theorem taskW_eq (i : grid0.Coords) (t : Fin k0_t1_loop.trips) : taskW i t = BitVec.ofNat 32 (task i t) := by
  have h := task_lt i t
  have h1 : (i 1).val < 16 := (i 1).isLt
  have h0 : (i 0).val < 2 := (i 0).isLt
  have ht : t.val < 32 := trip_lt t
  apply BitVec.eq_of_toNat_eq
  show ((BitVec.ofNat 32 (i 1).val * 2#32 + BitVec.ofNat 32 (i 0).val) * 32#32 + (0#32 + BitVec.ofNat 32 t.val * 1#32)).toNat = _
  simp only [BitVec.toNat_add, BitVec.toNat_mul, BitVec.toNat_ofNat]
  unfold task wid at *
  omega

/-- The trip's batch. -/
def bOf (i : grid0.Coords) (t : Fin k0_t1_loop.trips) : Fin 64 := ⟨task i t / 16, by have := task_lt i t; omega⟩
/-- The trip's row block. -/
def pOf (i : grid0.Coords) (t : Fin k0_t1_loop.trips) : Fin 16 := ⟨task i t % 16, Nat.mod_lt _ (by norm_num)⟩

/-- The batch as the program computes it. -/
theorem divW_task (i : grid0.Coords) (t : Fin k0_t1_loop.trips) : (divW (taskW i t)).toNat = (bOf i t).val := by
  rw [taskW_eq]; exact divW_ofNat ⟨task i t, task_lt i t⟩
/-- The row block as the program computes it. -/
theorem remW_task (i : grid0.Coords) (t : Fin k0_t1_loop.trips) : (remW (taskW i t)).toNat = (pOf i t).val := by
  rw [taskW_eq]; exact remW_ofNat ⟨task i t, task_lt i t⟩
/-- The row block's first row as the program computes it. -/
theorem remW16_task (i : grid0.Coords) (t : Fin k0_t1_loop.trips) : (Scalar.muli (remW (taskW i t)) 16#32).toNat = 16 * (pOf i t).val := by
  rw [taskW_eq]; exact remW16_ofNat ⟨task i t, task_lt i t⟩

/-- The first source block's offsets. -/
theorem off1_eq (i : grid0.Coords) (t : Fin k0_t1_loop.trips) : k0_off1 i t = ![(bOf i t).val, (pOf i t).val, 0, 0, 0, 0, 0, 0] := by
  rw [← divW_task, ← remW_task]; rfl
/-- The second source block's offsets. -/
theorem off2_eq (i : grid0.Coords) (t : Fin k0_t1_loop.trips) : k0_off2 i t = ![(bOf i t).val, (pOf i t).val, 1, 0, 0, (pOf i t).val, 16, 0] := by
  rw [← divW_task, ← remW_task]; rfl
/-- The band's first column. -/
theorem off3_one (i : grid0.Coords) (t : Fin k0_t1_loop.trips) : k0_off3 i t 1 = 16 * (pOf i t).val := by
  rw [← remW16_task]; rfl
/-- The written block's offsets. -/
theorem off19_eq (i : grid0.Coords) (t : Fin k0_t1_loop.trips) : k0_off19 i t = ![(bOf i t).val, 16 * (pOf i t).val, 0] := by
  rw [← divW_task, ← remW16_task]; rfl

/-! ## The blocks' contents -/

/-- The regrouped input's index `(b, p, u, q, v, r, w, e)`. -/
def ixR (b : Fin 64) (p : Fin 16) (u : Fin 2) (q : Fin 16) (v : Fin 2) (r : Fin 16) (w : Fin 32) (e : Fin 2) : S64x16x2x16x2x16x32x2.Idx :=
  fun a => match a with
    | ⟨0, _⟩ => b | ⟨1, _⟩ => p | ⟨2, _⟩ => u | ⟨3, _⟩ => q | ⟨4, _⟩ => v | ⟨5, _⟩ => r | ⟨6, _⟩ => w | ⟨7, _⟩ => e

/-- The first block of task `(b, p)`. -/
def abOf (X : Vec F S64x16x2x16x2x16x32x2 .f32) (b : Fin 64) (p : Fin 16) : Vec F S16x2x16x16x2 .f32 :=
  fun j => X (ixR b p (0 : Fin 2) (j 0) (j 1) (j 2) ⟨(j 3).val, by have : (j 3).val < 16 := (j 3).isLt; omega⟩ (j 4))
/-- The second block of task `(b, p)`. -/
def cdOf (X : Vec F S64x16x2x16x2x16x32x2 .f32) (b : Fin 64) (p : Fin 16) : Vec F S16x2x16x2 .f32 :=
  fun j => X (ixR b p (1 : Fin 2) (j 0) (j 1) p ⟨16 + (j 2).val, by have : (j 2).val < 16 := (j 2).isLt; omega⟩ (j 3))

/-- Row-major positions at rank 8. -/
theorem rowMajor_val_eight {d : Fin 8 → ℕ} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- What the first copy reads. -/
theorem read_AB (X : Vec F S64x16x2x16x2x16x32x2 .f32) (i : grid0.Coords) (t : Fin k0_t1_loop.trips) :
    (srcAB i t (Memref.whole main_v0_scv)).view.read (Elt F) X = abOf X (bOf i t) (pOf i t) := by
  funext j
  refine (congrFun (Memref.read_squeeze_slice (Val := Elt F) (Memref.whole main_v0_scv)
    (Rect.unit (s := S64x16x2x16x2x16x32x2) (k0_off1 i t) S1x1x1x16x2x16x16x2.size (k0_off1_inb i t)) (fun _ => rfl)
    squeezes_S1x1x1x16x2x16x16x2_S16x2x16x16x2 squeezes_S1x1x1x16x2x16x16x2_S16x2x16x16x2.numel_eq X) j).trans ?_
  let k : S1x1x1x16x2x16x16x2.Idx := fun a => match a with
    | ⟨0, _⟩ => (0 : Fin 1) | ⟨1, _⟩ => (0 : Fin 1) | ⟨2, _⟩ => (0 : Fin 1) | ⟨3, _⟩ => (j 0 : Fin 16) | ⟨4, _⟩ => (j 1 : Fin 2)
    | ⟨5, _⟩ => (j 2 : Fin 16) | ⟨6, _⟩ => (j 3 : Fin 16) | ⟨7, _⟩ => (j 4 : Fin 2)
  refine (shapeCast_apply _ _ j k ?_).trans ?_
  · refine (rowMajor_val_eight (d := ![1, 1, 1, 16, 2, 16, 16, 2]) k).trans (Eq.trans ?_ (Shape.rowMajor_val_five (d := ![16, 2, 16, 16, 2]) j).symm)
    show (((((((0 * 1 + 0) * 1 + 0) * 16 + (j 0).val) * 2 + (j 1).val) * 16 + (j 2).val) * 16 + (j 3).val) * 2 + (j 4).val)
      = ((((j 0).val * 2 + (j 1).val) * 16 + (j 2).val) * 16 + (j 3).val) * 2 + (j 4).val
    omega
  · refine congrArg X (funext fun a => Fin.ext ?_)
    show k0_off1 i t a + 1 * (k a).val = _
    rw [off1_eq]
    match a with
    | ⟨0, _⟩ => rfl
    | ⟨1, _⟩ => rfl
    | ⟨2, _⟩ => rfl
    | ⟨3, _⟩ => show 0 + 1 * (j 0).val = (j 0).val; omega
    | ⟨4, _⟩ => show 0 + 1 * (j 1).val = (j 1).val; omega
    | ⟨5, _⟩ => show 0 + 1 * (j 2).val = (j 2).val; omega
    | ⟨6, _⟩ => show 0 + 1 * (j 3).val = (j 3).val; omega
    | ⟨7, _⟩ => show 0 + 1 * (j 4).val = (j 4).val; omega

/-- What the second copy reads. -/
theorem read_CD (X : Vec F S64x16x2x16x2x16x32x2 .f32) (i : grid0.Coords) (t : Fin k0_t1_loop.trips) :
    (srcCD i t (Memref.whole main_v0_scv)).view.read (Elt F) X = cdOf X (bOf i t) (pOf i t) := by
  funext j
  refine (congrFun (Memref.read_squeeze_slice (Val := Elt F) (Memref.whole main_v0_scv)
    (Rect.unit (s := S64x16x2x16x2x16x32x2) (k0_off2 i t) S1x1x1x16x2x1x16x2.size (k0_off2_inb i t)) (fun _ => rfl)
    squeezes_S1x1x1x16x2x1x16x2_S16x2x16x2 squeezes_S1x1x1x16x2x1x16x2_S16x2x16x2.numel_eq X) j).trans ?_
  let k : S1x1x1x16x2x1x16x2.Idx := fun a => match a with
    | ⟨0, _⟩ => (0 : Fin 1) | ⟨1, _⟩ => (0 : Fin 1) | ⟨2, _⟩ => (0 : Fin 1) | ⟨3, _⟩ => (j 0 : Fin 16) | ⟨4, _⟩ => (j 1 : Fin 2)
    | ⟨5, _⟩ => (0 : Fin 1) | ⟨6, _⟩ => (j 2 : Fin 16) | ⟨7, _⟩ => (j 3 : Fin 2)
  refine (shapeCast_apply _ _ j k ?_).trans ?_
  · refine (rowMajor_val_eight (d := ![1, 1, 1, 16, 2, 1, 16, 2]) k).trans (Eq.trans ?_ (Shape.rowMajor_val_four (d := ![16, 2, 16, 2]) j).symm)
    show (((((((0 * 1 + 0) * 1 + 0) * 16 + (j 0).val) * 2 + (j 1).val) * 1 + 0) * 16 + (j 2).val) * 2 + (j 3).val)
      = (((j 0).val * 2 + (j 1).val) * 16 + (j 2).val) * 2 + (j 3).val
    omega
  · refine congrArg X (funext fun a => Fin.ext ?_)
    show k0_off2 i t a + 1 * (k a).val = _
    rw [off2_eq]
    match a with
    | ⟨0, _⟩ => rfl
    | ⟨1, _⟩ => rfl
    | ⟨2, _⟩ => rfl
    | ⟨3, _⟩ => show 0 + 1 * (j 0).val = (j 0).val; omega
    | ⟨4, _⟩ => show 0 + 1 * (j 1).val = (j 1).val; omega
    | ⟨5, _⟩ => rfl
    | ⟨6, _⟩ => show 16 + 1 * (j 2).val = 16 + (j 2).val; omega
    | ⟨7, _⟩ => show 0 + 1 * (j 3).val = (j 3).val; omega

/-- Row block of a place of the result. -/
def prc (J : S64x256x256.Idx) : Fin 16 := ⟨(J 1).val / 16, by have : (J 1).val < 256 := (J 1).isLt; omega⟩
/-- The place's index inside its row block. -/
def inb (J : S64x256x256.Idx) : S16x256.Idx := ix2 (⟨(J 1).val % 16, Nat.mod_lt _ (by norm_num)⟩ : Fin 16) (J 2 : Fin 256)
/-- The batch of a place. -/
def bc (J : S64x256x256.Idx) : Fin 64 := J 0

/-- What the copy out writes: the block's places get the scratch buffer's contents, everything else is kept. -/
theorem write_dst (f : Vec F S64x256x256 .f32) (w : Vec F S16x256 .f32) (i : grid0.Coords) (t : Fin k0_t1_loop.trips) :
    (dstO i t (Memref.whole main_v1_scv)).view.write (Elt F) f w Finset.univ
      = (fun J => if bc J = bOf i t ∧ prc J = pOf i t then w (inb J) else f J : Vec F S64x256x256 .f32) := by
  refine (View.write_reshape_univ ((View.whole main_v1_scv).slice (Rect.unit (s := S64x256x256) (k0_off19 i t) S1x16x256.size (k0_off19_inb i t)))
    (s' := S16x256) squeezes_S1x16x256_S16x256.numel_eq f w).trans ?_
  refine (View.write_whole_slice_unit main_v1_scv _ _ _ f _).trans (funext fun J => ?_)
  have h1 : (J 1).val < 256 := (J 1).isLt
  have h2 : (J 2).val < 256 := (J 2).isLt
  have e0 : k0_off19 i t 0 = (bOf i t).val := by rw [off19_eq]; rfl
  have e1 : k0_off19 i t 1 = 16 * (pOf i t).val := by rw [off19_eq]; rfl
  have e2 : k0_off19 i t 2 = 0 := by rw [off19_eq]; rfl
  unfold updateSlice
  split
  · next hin =>
    have g0 : k0_off19 i t 0 ≤ (J 0).val ∧ (J 0).val < k0_off19 i t 0 + 1 := hin 0
    have g1 : k0_off19 i t 1 ≤ (J 1).val ∧ (J 1).val < k0_off19 i t 1 + 16 := hin 1
    rw [if_pos ⟨Fin.ext (by show (J 0).val = _; omega), Fin.ext (by show (J 1).val / 16 = _; omega)⟩]
    refine congrArg w ((Equiv.symm_apply_eq _).mpr ?_)
    refine Eq.trans ?_ (Shape.reshapeEquiv_cons_one (d := ![16, 256]) _ (inb J)).symm
    funext a
    refine Fin.ext ?_
    match a with
    | ⟨0, _⟩ => show (J 0).val - k0_off19 i t 0 = 0; omega
    | ⟨1, _⟩ => show (J 1).val - k0_off19 i t 1 = (J 1).val % 16; omega
    | ⟨2, _⟩ => show (J 2).val - k0_off19 i t 2 = (J 2).val; omega
  · next hout =>
    rw [if_neg]
    rintro ⟨hb, hp⟩
    have hb' : (J 0).val = (bOf i t).val := congrArg Fin.val hb
    have hp' : (J 1).val / 16 = (pOf i t).val := congrArg Fin.val hp
    refine hout fun a => ?_
    match a with
    | ⟨0, _⟩ => show k0_off19 i t 0 ≤ (J 0).val ∧ (J 0).val < k0_off19 i t 0 + 1; omega
    | ⟨1, _⟩ => show k0_off19 i t 1 ≤ (J 1).val ∧ (J 1).val < k0_off19 i t 1 + 16; omega
    | ⟨2, _⟩ => show k0_off19 i t 2 ≤ (J 2).val ∧ (J 2).val < k0_off19 i t 2 + 256; omega

/-- The batches a tile writes. -/
def outSet (n : ℕ) : Finset S64x256x256.Idx := Finset.univ.filter fun J => (bc J).val / 2 = n

/-- The block a trip writes lies in its tile's batches. -/
theorem dst_subset (i : grid0.Coords) (t : Fin k0_t1_loop.trips) :
    (dstO i t (Memref.whole main_v1_scv)).view.set ⊆ outSet (wid i) := by
  intro J hJ
  obtain ⟨x, -, rfl⟩ := Finset.mem_map.mp hJ
  have e0 : k0_off19 i t 0 = (bOf i t).val := by rw [off19_eq]; rfl
  have hb : (bOf i t).val = (32 * wid i + t.val) / 16 := rfl
  have ht : t.val < 32 := trip_lt t
  refine Finset.mem_filter.mpr ⟨Finset.mem_univ _, ?_⟩
  have hx : ((Shape.reshapeEquiv squeezes_S1x16x256_S16x256.numel_eq x : S1x16x256.Idx) 0).val < 1 := Fin.isLt _
  show (k0_off19 i t 0 + 1 * ((Shape.reshapeEquiv squeezes_S1x16x256_S16x256.numel_eq x : S1x16x256.Idx) 0).val) / 2 = wid i
  omega

variable [FloatOps F]

/-- The kernel's result from the regrouped input. -/
def resR (X : Vec F S64x16x2x16x2x16x32x2 .f32) : Vec F S64x256x256 .f32 :=
  fun J => cellVal (abOf X (bc J) (prc J)) (cdOf X (bc J) (prc J)) (prc J).val (inb J)

/-- The tile's part of the result once its first `n` trips are done. -/
def outSt (X : Vec F S64x16x2x16x2x16x32x2 .f32) (n : ℕ) (f : Vec F S64x256x256 .f32) : Vec F S64x256x256 .f32 :=
  fun J => if ((bc J).val % 2) * 16 + (prc J).val < n then resR X J else f J

/-- No trip done. -/
theorem outSt_zero (X : Vec F S64x16x2x16x2x16x32x2 .f32) (f : Vec F S64x256x256 .f32) : outSt X 0 f = f :=
  funext fun _ => if_neg (Nat.not_lt_zero _)

/-- All 32 trips done. -/
theorem outSt_all (X : Vec F S64x16x2x16x2x16x32x2 .f32) (f : Vec F S64x256x256 .f32) : outSt X 32 f = resR X :=
  funext fun J => if_pos (by have := (prc J).isLt; omega)

/-- One more trip done, on the tile's batches. -/
theorem outSt_succ (X : Vec F S64x16x2x16x2x16x32x2 .f32) (f : Vec F S64x256x256 .f32) (i : grid0.Coords) (t : Fin k0_t1_loop.trips) :
    ∀ J ∈ outSet (wid i), (dstO i t (Memref.whole main_v1_scv)).view.write (Elt F) (outSt X t.val f)
        (cellVal (abOf X (bOf i t) (pOf i t)) (cdOf X (bOf i t) (pOf i t)) (pOf i t).val) Finset.univ J = outSt X (t.val + 1) f J := by
  intro J hJ
  have hJ' : (bc J).val / 2 = wid i := (Finset.mem_filter.mp hJ).2
  have hb : (bOf i t).val = (32 * wid i + t.val) / 16 := rfl
  have hp : (pOf i t).val = (32 * wid i + t.val) % 16 := rfl
  have hpl := (prc J).isLt
  have ht : t.val < 32 := trip_lt t
  refine (congrFun (write_dst _ _ i t) J).trans ?_
  show (if bc J = bOf i t ∧ prc J = pOf i t then _ else _) = _
  by_cases c : bc J = bOf i t ∧ prc J = pOf i t
  · have c0 := congrArg Fin.val c.1
    have c1 := congrArg Fin.val c.2
    rw [if_pos c, outSt, if_pos (by omega), resR, c.1, c.2]
  · rw [if_neg c, outSt, outSt]
    by_cases c2 : ((bc J).val % 2) * 16 + (prc J).val < t.val
    · rw [if_pos c2, if_pos (by omega)]
    · rw [if_neg c2, if_neg]
      intro c3
      exact c ⟨Fin.ext (by omega), Fin.ext (by omega)⟩

end Cert.KernelIdeal.QPool
-- ==== Proof.IdealTrip.lean ====
/- One trip of a tile's loop, run: two copies in, the rows, one copy out. -/
module

public import proofs.«01_k».proof.Proof.IdealRows
public import proofs.«01_k».proof.Proof.IdealBlocks
public import Idealize.ShloMosaic.Lib.MixedBatch

@[expose] public section

noncomputable section

namespace Cert.KernelIdeal.QPool

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- The counters the copies' ghost state lives in. -/
abbrev EC : UEmb Counters (MT nD τ sig (HIx 1) (Elt F) ℕ UU ℕ) := countersEmb (U := UU)

/-- The regrouped input and the result in the device's memory. -/
abbrev xLoc (d : Dev nD) : Loc nD τ sig := (SparseCore.T d).loc main_v0
abbrev rLoc (d : Dev nD) : Loc nD τ sig := (SparseCore.T d).loc main_v1

/-- The units of the copy into the first scratch buffer. -/
abbrev NA : ℕ := (Memref.whole cc0_scratch0).view.dmaCredit
/-- The units of the copy into the second scratch buffer. -/
abbrev NC : ℕ := (Memref.whole cc0_scratch1).view.dmaCredit
/-- The first copy moves something. -/
theorem NA_pos : 0 < NA := View.dmaCredit_pos _ (by decide)
/-- The second copy moves something. -/
theorem NC_pos : 0 < NC := View.dmaCredit_pos _ (by decide)

/-- The units of the two copies in, in issue order. -/
def amt : Fin 2 → ℕ := ![NA, NC]
/-- Both copies move something. -/
theorem amt_pos : ∀ t, 0 < amt t := fun t => match t with | 0 => NA_pos | 1 => NC_pos
/-- The first copy's units. -/
theorem sum_one : sumTo amt 1 = NA := (sumTo_succ amt (by norm_num)).trans (Nat.zero_add _)
/-- Both copies' units. -/
theorem sum_two : sumTo amt 2 = NA + NC := (sumTo_succ amt (k := 1) (by norm_num)).trans (congrArg₂ (· + ·) sum_one (show amt 1 = NC from rfl))

section
variable (d : Dev nD) (i : grid0.Coords) (X : Vec F S64x16x2x16x2x16x32x2 .f32) (f : Vec F S64x256x256 .f32)
  (q : PosShare TreeShare) (O : CellTallies nD τ sig (HIx 1)) (W : Waits sig (HIx 1))

/-- A conjunction over two. -/
theorem bigSep_two (Φ : Fin 2 → sProp 𝕄) : bigSep Finset.univ Φ = iprop(Φ 0 ∗ Φ 1) :=
  bigSep_univ_eq_bigSepL [0, 1] (by decide) (by decide) Φ

/-- What the two copies in deliver: each scratch buffer at its block, and the source back. -/
def deliver (t : Fin k0_t1_loop.trips) : Fin 2 → sProp 𝕄 := fun n => match n with
  | 0 => iprop((aLoc d i ↦{fullShare} abOf X (bOf i t) (pOf i t))
      ∗ (xLoc d ↦[(srcAB i t (Memref.whole main_v0_scv)).view.set]{q.left} X))
  | 1 => iprop((cLoc d i ↦{fullShare} cdOf X (bOf i t) (pOf i t))
      ∗ (xLoc d ↦[(srcCD i t (Memref.whole main_v0_scv)).view.set]{q.right} X))

instance deliver_storable (t : Fin k0_t1_loop.trips) (n : Fin 2) : BI.Storable (upEmb : UEmb _ 𝕄) (deliver d i X q t n) := by
  match n with
  | 0 => unfold deliver; infer_instance
  | 1 => unfold deliver; infer_instance

/-- Both deliveries together. -/
theorem deliver_both (t : Fin k0_t1_loop.trips) :
    bigSep Finset.univ (deliver d i X q t)
      = iprop(((aLoc d i ↦{fullShare} abOf X (bOf i t) (pOf i t)) ∗ (xLoc d ↦[(srcAB i t (Memref.whole main_v0_scv)).view.set]{q.left} X))
        ∗ ((cLoc d i ↦{fullShare} cdOf X (bOf i t) (pOf i t)) ∗ (xLoc d ↦[(srcCD i t (Memref.whole main_v0_scv)).view.set]{q.right} X))) :=
  bigSep_two (deliver d i X q t)

/-- A part of the source and the rest of it are the source. -/
theorem src_join (q' : PosShare TreeShare) (I : Finset (Idx (xLoc d))) :
    iprop((xLoc d ↦[I]{q'} X) ∗ (xLoc d ↦[Finset.univ \ I]{q'} X)) ⊢ (xLoc d ↦{q'} X : sProp 𝕄) :=
  (pointsTo_split_subset (Finset.subset_univ I)).2

/-- What the tile holds between trips, `n` of them done. -/
def held (n : ℕ) : sProp 𝕄 :=
  iprop((xLoc d ↦{q} X) ∗ (rLoc d ↦[outSet (wid i)]{fullShare} outSt X n f)
    ∗ (∃ a, aLoc d i ↦{fullShare} a) ∗ (∃ c, cLoc d i ↦{fullShare} c) ∗ (∃ o, oLoc d i ↦{fullShare} o)
    ∗ semVal (thr d i, .dma cc0_scratch3.sem) 0 ∗ semVal (thr d i, .dma cc0_scoped0.sem) 0
    ∗ MayWaits (thr d i) none O
    ∗ ∃ W', ⌜∀ p ∈ W', p ∈ W ∨ p.2 = none⌝ ∗ owes (thr d i) O W')

/-- A whole buffer is what its whole view covers. -/
theorem whole_pts (r : Ref sig .scVector) (g : Buf (Elt F) ((thr d i).loc r)) :
    ((Memref.whole r).view.loc (thr d i) ↦[(Memref.whole r).view.set]{fullShare} g : sProp 𝕄) = (thr d i).loc r ↦{fullShare} g := by
  simp only [Memref.view_whole, View.set_whole]

/-- One trip. -/
theorem trip_wp (t : Fin k0_t1_loop.trips) :
    held d i X f q O W t.val
      ⊢ wp frame (wpE (defs₀ (F := F)) 𝒱₀ (thr d i) none) Set.univ
          (trip i t (Memref.whole main_v0_scv) (Memref.whole main_v1_scv) (Memref.whole cc0_scratch0) (Memref.isWhole_whole _)
            (Memref.whole cc0_scratch1) (Memref.isWhole_whole _) (Memref.whole cc0_scratch2) (Memref.isWhole_whole _) cc0_scratch3 cc0_scoped0)
          (fun _ => held d i X f q O W (t.val + 1)) := by
  unfold held trip
  iintro ⟨Hx, Hr, ⟨%a, Ha⟩, ⟨%c, Hc⟩, ⟨%o, Ho⟩, Hs3, Hs8, #Hmw, ⟨%W', %hW', HO⟩⟩
  ihave Hx2 := (pointsTo_share (PosShare.mem_left_op_right q)).1 $$ Hx
  icases Hx2 with ⟨Hxl, Hxr⟩
  ihave Hxl2 := (pointsTo_split_subset (Finset.subset_univ (srcAB i t (Memref.whole main_v0_scv)).view.set)).1 $$ Hxl
  icases Hxl2 with ⟨Hxl, Hxl'⟩
  ihave Hxr2 := (pointsTo_split_subset (Finset.subset_univ (srcCD i t (Memref.whole main_v0_scv)).view.set)).1 $$ Hxr
  icases Hxr2 with ⟨Hxr, Hxr'⟩
  imod (mixedBatch_alloc' (EC (F := F)) (thr d i) none amt (deliver d i X q t) (sm := .dma cc0_scratch3.sem) (E := Set.univ)) $$ Hs3 with HB
  iapply (wp_dmaMixedBatch (EC (F := F)) 𝒱₀ (thr d i) none none amt (D := deliver d i X q t) (j := 0) (u := 0) (fs := X) (q := q.left)
    (Sd := Finset.univ) (fd := a) (Finset.subset_univ _) (by norm_num) rfl (Nat.zero_le _) ?hD0) $$ [Hxl Ha HB]
  case hD0 =>
    refine sep_mono (Entails.of_eq ?_) .rfl
    exact congrArg (fun g => (aLoc d i ↦{fullShare} g : sProp 𝕄)) ((View.write_whole_univ cc0_scratch0 a _).trans (read_AB X i t))
  · isplitl [Hxl]; · iexact Hxl
    isplitl [Ha]; · iexact Ha
    iexact HB
  iintro HB
  iapply (wp_dmaMixedBatch (EC (F := F)) 𝒱₀ (thr d i) none none amt (D := deliver d i X q t) (j := 1) (u := 0) (fs := X) (q := q.right)
    (Sd := Finset.univ) (fd := c) (Finset.subset_univ _) (by norm_num) rfl (Nat.zero_le _) ?hD1) $$ [Hxr Hc HB]
  case hD1 =>
    refine sep_mono (Entails.of_eq ?_) .rfl
    exact congrArg (fun g => (cLoc d i ↦{fullShare} g : sProp 𝕄)) ((View.write_whole_univ cc0_scratch1 c _).trans (read_CD X i t))
  · isplitl [Hxr]; · iexact Hxr
    isplitl [Hc]; · iexact Hc
    iexact HB
  iintro HB
  iapply (wp_waitMixedBatchO (EC (F := F)) 𝒱₀ (thr d i) none none (J := NA) rfl (A := amt) (D := deliver d i X q t) (j := 2) (u := 0)
    (by rw [sum_two]; omega) (O := O) (W := W')) $$ [HB HO]
  · isplitl [HB]; · iexact HB
    isplitl [HO]; · iexact HO
    iapply (MayWaits.elim (.dma cc0_scratch3.sem)); iexact Hmw
  iintro ⟨HB, HO⟩
  iapply (wp_waitMixedBatchAllO (EC (F := F)) 𝒱₀ (thr d i) none none (J := NC) rfl amt_pos (D := deliver d i X q t) (u := 0 + NA)
    (by rw [sum_two]; omega) (O := O)) $$ [HB HO]
  · isplitl [HB]; · iexact HB
    isplitl [HO]; · iexact HO
    iapply (MayWaits.elim (.dma cc0_scratch3.sem)); iexact Hmw
  iintro ⟨HD, Hs3, HO⟩
  ihave HD2 := (Entails.of_eq (deliver_both d i X q t)) $$ HD
  icases HD2 with ⟨⟨Ha, Hxl⟩, ⟨Hc, Hxr⟩⟩
  ihave Hxl := (src_join d X _ (srcAB i t (Memref.whole main_v0_scv)).view.set) $$ [Hxl Hxl']
  · isplitl [Hxl]; · iexact Hxl
    iexact Hxl'
  ihave Hxr := (src_join d X _ (srcCD i t (Memref.whole main_v0_scv)).view.set) $$ [Hxr Hxr']
  · isplitl [Hxr]; · iexact Hxr
    iexact Hxr'
  ihave Hx := (pointsTo_share (PosShare.mem_left_op_right q)).2 $$ [Hxl Hxr]
  · isplitl [Hxl]; · iexact Hxl
    iexact Hxr
  iapply (rows_wp d i _ (abOf X (bOf i t) (pOf i t)) (cdOf X (bOf i t) (pOf i t)) o (pOf i t).val _ _ (off3_one i t) 16 le_rfl _) $$ [Ha Hc Ho Hx Hr Hs3 Hs8 HO]
  isplitl [Ha]; · iexact Ha
  isplitl [Hc]; · iexact Hc
  isplitl [Ho]; · iexact Ho
  iintro Ha Hc Ho
  rw [rowSt_all]
  ihave Ho := (Entails.of_eq (whole_pts d i cc0_scratch2 _).symm) $$ Ho
  iapply (wp_dmaLocal (EC (F := F)) 𝒱₀ (thr d i) none (dst := dstO i t (Memref.whole main_v1_scv)) (fd := outSt X t.val f) (Sd := outSet (wid i)) none
    (dstO i t (Memref.whole main_v1_scv)).view.dmaCredit rfl (View.dmaCredit_pos _ (by decide)) (dst_subset i t)) $$ [Ho Hr Hs8]
  · isplitl [Ho]; · iexact Ho
    isplitl [Hr]; · iexact Hr
    iexact Hs8
  iintro Hfl
  iapply (wp_waitLocalO (EC (F := F)) 𝒱₀ (thr d i) none none rfl (O := O)) $$ [Hfl HO]
  · isplitl [Hfl]; · iexact Hfl
    isplitl [HO]; · iexact HO
    iapply (MayWaits.elim (.dma cc0_scoped0.sem)); iexact Hmw
  iintro ⟨⟨Hr, Ho⟩, Hs8, HO⟩
  ihave Ho := (Entails.of_eq (whole_pts d i cc0_scratch2 _)) $$ Ho
  ihave Hr := (Entails.of_eq (pointsTo_congr (outSt_succ X f i t))) $$ Hr
  rw [wp_ret]; imodintro
  isplitl [Hx]; · iexact Hx
  isplitl [Hr]; · iexact Hr
  isplitl [Ha]; · iexists _; iexact Ha
  isplitl [Hc]; · iexists _; iexact Hc
  isplitl [Ho]; · iexists _; iexact Ho
  isplitl [Hs3]; · iexact Hs3
  isplitl [Hs8]; · iexact Hs8
  isplitr; · iexact Hmw
  iexists _
  isplitr
  rotate_left
  · iexact HO
  ipureintro
  intro p hp
  rcases Finset.mem_insert.mp hp with rfl | hp
  · exact .inr rfl
  rcases Finset.mem_insert.mp hp with rfl | hp
  · exact .inr rfl
  rcases Finset.mem_insert.mp hp with rfl | hp
  · exact .inr rfl
  exact hW' p hp

end

end Cert.KernelIdeal.QPool
-- ==== Proof.IdealLaunch.lean ====
/- The launch: every tile's run, the split of the arrays among the tiles, @main, and the program's result. -/
module

public import proofs.«01_k».proof.Proof.IdealTrip
public import Idealize.ShloMosaic.Lib.ShareLeaves
public import proofs.«01_k».proof.Proof.Gen.KernelIdeal
public import proofs.«01_k».proof.Proof.Gen.KernelIdeal.Skeleton

@[expose] public section

noncomputable section

namespace Cert.KernelIdeal.QPool

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

omit [FloatOps F] in
/-- The launch's side conditions on the program's signals and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's run -/

section Tile
variable (d : Dev nD) (i : grid0.Coords) (X : Vec F S64x16x2x16x2x16x32x2 .f32) (f : Vec F S64x256x256 .f32)
  (q : PosShare TreeShare) (O : CellTallies nD τ sig (HIx 1)) (W : Waits sig (HIx 1))

omit [FloatOps F] in
/-- The tile's two semaphores among its own. -/
theorem ownSems0_V :
    (ownSems0 (thr d i) : sProp 𝕄)
      = iprop(semVal (thr d i, .dma cc0_scratch3.sem) 0 ∗ semVal (thr d i, .dma cc0_scoped0.sem) 0
          ∗ bigSep (((ownCells (thr d i)).erase (thr d i, .dma cc0_scratch3.sem)).erase (thr d i, .dma cc0_scoped0.sem)) fun g => semVal g 0) := by
  unfold SparseCore.Cfg.ownSems0
  rw [SparseCore.bigSep_erase' ((mem_ownCells (g := (thr d i, .dma cc0_scratch3.sem))).mpr ⟨rfl, by
      show (SemLoc.dma cc0_scratch3.sem : SemLoc sig).isScoped .scVector = true; decide⟩),
    SparseCore.bigSep_erase' (Finset.mem_erase.mpr ⟨fun e => absurd (Prod.mk.inj e).2 (by decide), (mem_ownCells (g := (thr d i, .dma cc0_scoped0.sem))).mpr ⟨rfl, by
      show (SemLoc.dma cc0_scoped0.sem : SemLoc sig).isScoped .scVector = true; decide⟩⟩)]

omit [FloatOps F] in
/-- The tile's three scratch buffers among its own. -/
theorem ownBufs_V :
    (ownBufs (thr d i) : sProp 𝕄)
      = iprop((∃ a, aLoc d i ↦{fullShare} a) ∗ (∃ c, cLoc d i ↦{fullShare} c) ∗ (∃ o, oLoc d i ↦{fullShare} o)
          ∗ bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2)
    (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := (thr d i).2) (b := (thr d i).2.devRef cc0_scratch2) rfl⟩⟩)]

/-- The loop's invariant. -/
def inv (n : Nat) (_ : Unit) : sProp 𝕄 := held d i X f q O W n

/-- One trip of the program's loop keeps what the tile holds. -/
theorem body_wp (k : Fin k0_t1_loop.trips) (v1 : BitVec 32) (v2 : IVec S16 32) (hv : v2 = lanesV) (u : PUnit)
    (n : ℕ) (hn : k.val = n) :
    held d i X f q O W n
      ⊢ wp frame (wpE (defs₀ (F := F)) 𝒱₀ (thr d i) none) Set.univ
          (k0_t1_body (F := F) i (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scoped0 v1 v2 k u)
          (fun _ => held d i X f q O W (n + 1)) := by
  subst hv hn; cases u; rw [body_eq_trip]; exact trip_wp d i X f q O W k

/-- A tile's run: its source share kept, its batches at the kernel's result. -/
theorem tile_body (hO : ∀ g, O g none = 0) :
    iprop(levAts (K (F := F)).L (K (F := F)).lev ∗ emp ∗ ((xLoc d ↦{q} X) ∗ (rLoc d ↦[outSet (wid i)]{fullShare} f))
        ∗ scopedBufs (thr d i) ∗ scopedSems0 (thr d i) ∗ owes (thr d i) O W : sProp 𝕄)
      ⊢ wp frame (wpE (defs₀ (F := F)) 𝒱₀ (thr d i) none) Set.univ
          (cc0__qpool_sc i (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scoped0)
          fun _ => iprop(((xLoc d ↦{q} X) ∗ (rLoc d ↦[outSet (wid i)]{fullShare} resR X)) ∗ scopedBufs (thr d i) ∗ scopedSems0 (thr d i)
            ∗ ∃ W', ⌜∀ p ∈ W', p ∈ W ∨ p.2 = none⌝ ∗ owes (thr d i) O W') := by
  simp only [cc0__qpool_sc_eq_skeleton]; unfold cc0__qpool_sc_skel
  rw [(K (F := F)).scopedBufs_V facts d _ _, SparseCore.Cfg.scopedSems0_V (Val := Elt F) d _ _, ownSems0_V d i, ownBufs_V d i]
  iintro ⟨#Hlv, -, ⟨Hx, Hr⟩, ⟨Ha, Hc, Ho, Hbufs⟩, ⟨Hs3, Hs8, Hsems⟩, HO⟩
  ihave #Hmw := ((K (F := F)).mayWaits_none (thr := thr d i) hO) $$ Hlv
  dsimp only
  sl_for (inv d i X f q O W) $$ [Hx Hr Ha Hc Ho Hs3 Hs8 HO]
  case region =>
    intro k u
    unfold inv
    unfold tile_body.sl.prog.body_1
    have hb := body_wp d i X f q O W k (Scalar.addi (Scalar.muli (BitVec.ofNat 32 (i 1).val) 2#32) (BitVec.ofNat 32 (i 0).val))
      (iota Kind.scVector S16 32 [0] iota_S16_d0_w32_scVector) (by unfold lanesV; rfl) u k.val (by unfold Scf.Loop.trips; rfl)
    refine hb.trans (Entails.of_eq ?_)
    congr!
  · unfold inv held
    isplitl [Hx]; · iexact Hx
    isplitl [Hr]; · rw [outSt_zero]; iexact Hr
    isplitl [Ha]; · iexact Ha
    isplitl [Hc]; · iexact Hc
    isplitl [Ho]; · iexact Ho
    isplitl [Hs3]; · iexact Hs3
    isplitl [Hs8]; · iexact Hs8
    isplitr; · iexact Hmw
    iexists W; isplitr
    · ipureintro; exact fun p hp => .inl hp
    · iexact HO
  iintro %u HI
  unfold inv held
  icases HI with ⟨Hx, Hr, Ha, Hc, Ho, Hs3, Hs8, -, HO⟩
  ihave Hr := (Entails.of_eq (congrArg (fun g => (rLoc d ↦[outSet (wid i)]{fullShare} g : sProp 𝕄))
    ((congrArg (fun n => outSt X n f) trips_eq).trans (outSt_all X f)))) $$ Hr
  sl_step
  isplitl [Hx Hr]
  · isplitl [Hx]; · iexact Hx
    iexact Hr
  isplitl [Ha Hc Ho Hbufs]
  · isplitl [Ha]; · iexact Ha
    isplitl [Hc]; · iexact Hc
    isplitl [Ho]; · iexact Ho
    iexact Hbufs
  isplitl [Hs3 Hs8 Hsems]
  · isplitl [Hs3]; · iexact Hs3
    isplitl [Hs8]; · iexact Hs8
    iexact Hsems
  iexact HO

end Tile

/-! ## What the handshakes carry -/

variable (m : (ℓ : Loc nD τ sig) → Buf (Elt F) ℓ) (ρ : Dev nD → PrngReg)

/-- The argument in the device's memory. -/
abbrev argLoc (d : Dev nD) : Loc nD τ sig := (SparseCore.T d).loc main_arg0

/-- The argument regrouped. -/
def regroup (x : Vec F S64x1024x1024 .f32) : Vec F S64x16x2x16x2x16x32x2 .f32 :=
  shapeCast S64x16x2x16x2x16x32x2 x shapeCasts_S64x1024x1024_S64x16x2x16x2x16x32x2
/-- The regrouped argument of a device. -/
def srcX (d : Dev nD) : Vec F S64x16x2x16x2x16x32x2 .f32 := regroup (m (argLoc d))

/-- The share of the source of tile `n`. -/
def shareOf (n : ℕ) : PosShare TreeShare := if h : n < 32 then ShareLeaves.leaf 5 fullShare ⟨n, h⟩ else fullShare

/-- Tile `n`'s part: its share of the source, its batches of the result at `f`. -/
def part (d : Dev nD) (n : ℕ) (f : Vec F S64x256x256 .f32) : sProp 𝕄 :=
  iprop((xLoc d ↦{shareOf n} srcX m d) ∗ (rLoc d ↦[outSet n]{fullShare} f))

instance part_storable (d : Dev nD) (n : ℕ) (f : Vec F S64x256x256 .f32) : BI.Storable (upEmb : UEmb _ 𝕄) (part m d n f) := by
  unfold part; infer_instance

/-- A SparseCore's tiles' parts. -/
def corePart (d : Dev nD) (c : ℕ) (f : Vec F S64x256x256 .f32) : sProp 𝕄 :=
  bigSep Finset.univ fun s : Fin 16 => part m d (2 * s.val + c) f

instance corePart_storable (d : Dev nD) (c : ℕ) (f : Vec F S64x256x256 .f32) : BI.Storable (upEmb : UEmb _ 𝕄) (corePart m d c f) := by
  unfold corePart; infer_instance

/-- The call hands each tile its part at the launch contents and takes it back at the result. -/
def P : (K (F := F)).Pay (nD := nD) (Val := Elt F) (Name := ℕ) (U := UU) where
  st := fun _ d c => corePart m d c.val (m (rLoc d))
  dn := fun _ d c => corePart m d c.val (resR (srcX m d))
  go := fun _ d c s => part m d (2 * s.val + c.val) (m (rLoc d))
  td := fun _ d c s => part m d (2 * s.val + c.val) (resR (srcX m d))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs. -/
theorem defs₀_vector (c : Fin τ.nSC) (s : Fin τ.nSub) :
    defs₀ (F := F) (.scVector c s) 0 ()
      = SparseCore.onTile hcore0 hsub0 (fun c s => cc0__qpool_sc (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scoped0) ⟨⟩ c s := rfl

omit [FloatOps F] in
/-- The tile's end, as the launch asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task is done. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (srcX m d) (m (rLoc d)) (shareOf (2 * i.val + c.val)) O W hO).trans
    (wp_mono frame _ _ fun _ => obl_post)

/-- A SparseCore's parts are its tiles' parts. -/
theorem vecSplit : (K (F := F)).VecSplit' (P m) 0 := by
  intro d c
  show corePart m d c.val (m (rLoc d)) ⊢ |={Set.univ}=> iprop(corePart m d c.val (m (rLoc d))
    ∗ (corePart m d c.val (resR (srcX m d)) -∗ corePart m d c.val (resR (srcX m d))))
  iintro H; imodintro
  isplitl [H]; · iexact H
  iintro H; iexact H

/-! ## The arrays, split among the tiles and joined -/

omit [FloatOps F] in
/-- Different tiles write different batches. -/
theorem outSet_disjoint : ∀ n ∈ (Finset.univ : Finset (Fin 32)), ∀ n' ∈ (Finset.univ : Finset (Fin 32)), n ≠ n' → Disjoint (outSet n.val) (outSet n'.val) := by
  intro n _ n' _ h
  refine Finset.disjoint_left.mpr fun J h1 h2 => h (Fin.ext ?_)
  exact (Finset.mem_filter.mp h1).2.symm.trans (Finset.mem_filter.mp h2).2

omit [FloatOps F] in
/-- The tiles' batches are all batches. -/
theorem outSet_cover : (Finset.univ : Finset (Fin 32)).biUnion (fun n => outSet n.val) = Finset.univ := by
  refine Finset.eq_univ_iff_forall.mpr fun J => Finset.mem_biUnion.mpr ?_
  have hb := (bc J).isLt
  exact ⟨⟨(bc J).val / 2, by omega⟩, Finset.mem_univ _, Finset.mem_filter.mpr ⟨Finset.mem_univ _, rfl⟩⟩

omit [FloatOps F] in
/-- A conjunction over the tiles, by their numbers, is one over SparseCores and subcores. -/
theorem bigSep_tiles (Φ : ℕ → sProp 𝕄) :
    (bigSep Finset.univ fun n : Fin 32 => Φ n.val)
      = bigSep Finset.univ fun c : Fin 2 => bigSep Finset.univ fun s : Fin 16 => Φ (2 * s.val + c.val) := by
  rw [bigSep_univ_equiv ((Equiv.prodComm (Fin 2) (Fin 16)).trans (finProdFinEquiv (m := 16) (n := 2))) (fun n : Fin 32 => Φ n.val), bigSep_univ_prod]
  refine bigSep_congr fun c _ => bigSep_congr fun s _ => congrArg Φ ?_
  show c.val + 2 * s.val = 2 * s.val + c.val
  exact Nat.add_comm _ _

/-- Both SparseCores' parts together are the two arrays whole. -/
theorem parts_eq (d : Dev nD) (f : Vec F S64x256x256 .f32) :
    (bigSep Finset.univ fun c : Fin 2 => corePart m d c.val f) = iprop((xLoc d ↦{fullShare} srcX m d) ∗ (rLoc d ↦{fullShare} f) : sProp 𝕄) := by
  unfold corePart
  rw [← bigSep_tiles (fun n => part m d n f)]
  unfold part
  refine (bigSep_sep Finset.univ (fun n : Fin 32 => (xLoc d ↦{shareOf n.val} srcX m d : sProp 𝕄))
    (fun n : Fin 32 => (rLoc d ↦[outSet n.val]{fullShare} f : sProp 𝕄))).trans ?_
  congr 1
  · refine Eq.trans ?_ (ShareLeaves.pointsTo_leaves (ℓ := xLoc d) Finset.univ (srcX m d) 5 fullShare).symm
    refine bigSep_congr fun n _ => ?_
    have h : shareOf n.val = ShareLeaves.leaf 5 fullShare n := dif_pos n.isLt
    rw [h]
  · rw [← pointsTo_biUnion Finset.univ (ℓ := rLoc d) (fun n : Fin 32 => outSet n.val) outSet_disjoint, outSet_cover]

/-! ## The launch's ghost state -/

/-- The handshakes' initial state; the counters start empty. -/
def u₀ : UU := (initOf (K (F := F)).hsCells (K (F := F)).hsToks, 1)

omit [FloatOps F] in
/-- A conjunction of nothing. -/
theorem bigSep_emp' {I : Type} (s : Finset I) : (bigSep s fun _ => iprop(emp)) = (iprop(emp) : sProp 𝕄) := bigSep_emp_const s

/-- The launch's ghost state gives the handshakes' and nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- The TensorCore's three arrays. -/
abbrev arg' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
/-- The regrouping operation. -/
abbrev opRe : HloOp τ sig (Elt F) :=
  StableHlo.reshape main_arg0 main_v0 (rfl : (.f32 : EltTy) = .f32) shapeCasts_S64x1024x1024_S64x16x2x16x2x16x32x2
/-- The TensorCore's arrays, all unscoped. -/
abbrev S3 : Finset (DevRef τ sig) := {arg', v0', v1'}

omit [FloatOps F] in
/-- The three arrays held. -/
theorem held_S3 (d : Dev nD) (W : Valuation τ sig (Elt F)) :
    (StableHlo.held (T d) S3 W : sProp 𝕄) = iprop((argLoc d ↦{fullShare} W arg') ∗ (xLoc d ↦{fullShare} W v0') ∗ rLoc d ↦{fullShare} W v1') := by
  unfold StableHlo.held S3
  rw [SparseCore.bigSep_insert' (by decide), SparseCore.bigSep_insert' (by decide), bigSep_singleton]

omit [FloatOps F] in
/-- The unscoped arrays are those three. -/
theorem unscopedBufs_eq (d : Dev nD) (W : (b : Ref sig .tc) → Buf (Elt F) ((d.tc : Thread nD τ).loc b)) :
    (unscopedBufs d W : sProp 𝕄) = iprop((argLoc d ↦{fullShare} W main_arg0) ∗ (xLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch contents. -/
def V0 (d : Dev nD) : Valuation τ sig (Elt F) := fun b => m (d, b)

omit [FloatOps F] in
/-- The arrays at the launch contents. -/
theorem unscoped_held (d : Dev nD) : (unscopedBufs d (fun b => m ((SparseCore.T d).loc b)) : sProp 𝕄) = StableHlo.held (T d) S3 (V0 m d) := by
  rw [unscopedBufs_eq, held_S3]; rfl

omit [FloatOps F] in
/-- After the regrouping. -/
theorem held_V1 (d : Dev nD) :
    (StableHlo.held (T d) S3 ((opRe (F := F)).result (V0 m d)) : sProp 𝕄)
      = iprop((argLoc d ↦{fullShare} m (argLoc d)) ∗ (xLoc d ↦{fullShare} srcX m d) ∗ rLoc d ↦{fullShare} m (rLoc d)) := by
  rw [held_S3, (opRe (F := F)).result_of_not_mem (V0 m d) (b := arg') (show arg' ∉ ({v0'} : Finset (DevRef τ sig)) by decide),
    (opRe (F := F)).result_of_not_mem (V0 m d) (b := v1') (show v1' ∉ ({v0'} : Finset (DevRef τ sig)) by decide),
    StableHlo.reshape_result]
  rfl

/-- What the call takes. -/
theorem st0_eq (d : Dev nD) : (bigSep Finset.univ fun c : Fin ((K (F := F)).nCore 0) => (P m).st 0 d c)
    = iprop((xLoc d ↦{fullShare} srcX m d) ∗ (rLoc d ↦{fullShare} m (rLoc d))) := parts_eq m d _
/-- What the call gives back. -/
theorem dn0_eq (d : Dev nD) : (bigSep Finset.univ fun c : Fin ((K (F := F)).nCore 0) => (P m).dn 0 d c)
    = iprop((xLoc d ↦{fullShare} srcX m d) ∗ (rLoc d ↦{fullShare} resR (srcX m d))) := parts_eq m d _

/-- The regrouping's arrays are among the three. -/
theorem hRe : (opRe (F := F)).bufs ⊆ S3 := show ({arg', v0'} : Finset (DevRef τ sig)) ⊆ S3 by decide

/-- What @main leaves: the argument at its launch contents, the result at the kernel's value. -/
abbrev FIN (d : Dev nD) : sProp 𝕄 := iprop((argLoc d ↦{fullShare} m (argLoc d)) ∗ (rLoc d ↦{fullShare} resR (srcX m d)))

/-- @main on device `d`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opRe) (S := S3) hRe (V := V0 m d)) $$ [Hb Hheld]
  · isplitl [Hb]; · iexact Hb
    iexact Hheld
  iintro ⟨Hb, Hheld⟩
  ihave Hh := (Entails.of_eq (held_V1 (F := F) m d)) $$ Hheld
  icases Hh with ⟨Harg, Hx, Hr⟩
  rw [wp_ret]; imodintro
  iapply ((K (F := F)).wp_run (D (F := F)) 𝒱 (EH := EH) (P := P m) κ d 0) $$ [Hst Hx Hr Hb Harg Hts]
  isplitr; · iexact Hctx
  isplitl [Hst]; · iexact Hst
  isplitl [Hx Hr]
  · rw [st0_eq]
    isplitl [Hx]; · iexact Hx
    iexact Hr
  iintro ⟨Hst, Hdn⟩
  ihave Hdn' := (Entails.of_eq (dn0_eq m d)) $$ Hdn
  icases Hdn' with ⟨-, Hr⟩
  imodintro
  isplitl [Hst]; · iexact Hst
  isplitr [Hb Hts]
  · isplitl [Harg]; · iexact Harg
    iexact Hr
  isplitl [Hb] <;> iassumption

/-- The final state's argument and result. -/
def fq (d : Dev nD) (s' : Phys nD τ sig (Elt F)) : Prop :=
  s'.mem.mem (argLoc d) = m (argLoc d) ∧ s'.mem.mem (rLoc d) = resR (srcX m d)

/-- What @main leaves is what the final state holds. -/
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := argLoc d) (I := Finset.univ) (q := fullShare) (f := m (argLoc d)))) $$ [HSI Hi]
  · isplitl [HSI] <;> iassumption
  icases H with ⟨%h1, HSI, -⟩
  ihave H := (SI_pointsTo_agree (st := s') (ℓ := rLoc d) (I := Finset.univ) (q := fullShare) (f := resR (srcX m d))) $$ [HSI Hx]
  · isplitl [HSI] <;> iassumption
  icases H with %h2
  ipureintro; exact ⟨funext fun i => h1 i (Finset.mem_univ i), funext fun i => h2 i (Finset.mem_univ i)⟩

/-- The final memory: the arguments as at the launch, the results the kernel's, every semaphore at zero. -/
def QC : PUnit × MemSt nD τ sig (Elt F) → Prop := fun r =>
  (∀ c : Dev nD, r.2.mem (argLoc c) = m (argLoc c) ∧ r.2.mem (rLoc c) = resR (srcX m c)) ∧ r.2.sem = fun _ => 0

/-- The whole program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.QPool
-- ==== Proof.Mask.lean ====
/- Which elements of the input the reference keeps. -/
module

public import proofs.«01_k».proof.Proof.Gen.ReferenceIdeal
public import Idealize.ShloMosaic.Lib.Pointwise.Reduce
public import Idealize.ShloMosaic.Lib.Pipeline.Value

@[expose] public section

noncomputable section

namespace Cert.ReferenceIdeal.QPool

open Cert.ReferenceIdeal Cert.ReferenceIdeal.Gen
open Idealize.ShloMosaic

/-! ## The mask as the program computes it -/

/-- The row numbers. -/
def rowsV : IVec S1024x1 32 := broadcastInDim S1024x1 ![0] bcast_S1024_S1024x1_0 (iotaInDim S1024 32 0)
/-- The column numbers. -/
def colsV : IVec S1x1024 32 := broadcastInDim S1x1024 ![1] bcast_S1024_S1x1024_1 (iotaInDim S1024 32 0)
/-- A word at every row. -/
def atRows (c : BitVec 32) : IVec S1024x1 32 := broadcastInDim S1024x1 ![] bcast_S_S1024x1 (constantI S_ 32 c)
/-- A word at every column. -/
def atCols (c : BitVec 32) : IVec S1x1024 32 := broadcastInDim S1x1024 ![] bcast_S_S1x1024 (constantI S_ 32 c)
/-- A value of each row, over the matrix. -/
def overRows {w : ℕ} (v : IVec S1024x1 w) : IVec S1024x1024 w := broadcastInDim S1024x1024 ![0, 1] bcast_S1024x1_S1024x1024_0_1 v
/-- A value of each column, over the matrix. -/
def overCols {w : ℕ} (v : IVec S1x1024 w) : IVec S1024x1024 w := broadcastInDim S1024x1024 ![0, 1] bcast_S1x1024_S1024x1024_0_1 v

/-- The two coordinates' parities agree. -/
def injectV (a : IVec S1024x1 32) (b : IVec S1x1024 32) : IVec S1024x1024 1 :=
  cmpi .eq (overRows (Host.remsi a (atRows 2#32))) (overCols (Host.remsi b (atCols 2#32)))
/-- The row's coordinate is even, or the two coordinates agree. -/
def matchV (a : IVec S1024x1 32) (b : IVec S1x1024 32) : IVec S1024x1024 1 :=
  ori (andi (overRows (cmpi .ne (Host.remsi a (atRows 2#32)) (atRows 0#32))) (cmpi .eq (overRows a) (overCols b)))
    (overRows (cmpi .eq (Host.remsi a (atRows 2#32)) (atRows 0#32)))

/-- The first coordinate of each row and column. -/
def iV : IVec S1024x1 32 := Host.divsi rowsV (atRows 32#32)
def mV : IVec S1x1024 32 := Host.divsi colsV (atCols 32#32)
/-- The second coordinate of each row and column. -/
def jV : IVec S1024x1 32 := Host.remsi rowsV (atRows 32#32)
def nV : IVec S1x1024 32 := Host.remsi colsV (atCols 32#32)

/-- The mask. -/
def maskV : IVec S1024x1024 1 := andi (andi (andi (injectV iV mV) (injectV jV nV)) (matchV iV mV)) (matchV jV nV)

/-! ## The mask as a statement about numbers -/

/-- The quotient of a row's or column's number. -/
theorem div32 : ∀ n : Fin 1024, IntOp.divsi .host (BitVec.ofNat 32 n.val) 32#32 = BitVec.ofNat 32 (n.val / 32) := by decide +kernel
/-- The remainder of a row's or column's number. -/
theorem rem32 : ∀ n : Fin 1024, IntOp.remsi .host (BitVec.ofNat 32 n.val) 32#32 = BitVec.ofNat 32 (n.val % 32) := by decide +kernel

/-- The parities' comparison, of two words. -/
def injectW (a b : BitVec 32) : BitVec 1 := IntOp.cmpi .eq (IntOp.remsi .host a 2#32) (IntOp.remsi .host b 2#32)
/-- The other comparison, of two words. -/
def matchW (a b : BitVec 32) : BitVec 1 :=
  (IntOp.cmpi .ne (IntOp.remsi .host a 2#32) 0#32 &&& IntOp.cmpi .eq a b) ||| IntOp.cmpi .eq (IntOp.remsi .host a 2#32) 0#32

/-- Coordinates of one axis are kept together: their parities agree, and odd ones agree altogether. -/
def Keep (a b : ℕ) : Prop := a % 2 = b % 2 ∧ (a % 2 = 0 ∨ a = b)

instance (a b : ℕ) : Decidable (Keep a b) := by unfold Keep; infer_instance

/-- The two comparisons of an axis, on its coordinates. -/
theorem keepW : ∀ a b : Fin 32, (injectW (BitVec.ofNat 32 a.val) (BitVec.ofNat 32 b.val) &&& matchW (BitVec.ofNat 32 a.val) (BitVec.ofNat 32 b.val))
    = if Keep a.val b.val then 1#1 else 0#1 := by decide +kernel

/-- The mask at a row and a column. -/
def KeepAt (x y : ℕ) : Prop := Keep (x / 32) (y / 32) ∧ Keep (x % 32) (y % 32)

instance (x y : ℕ) : Decidable (KeepAt x y) := by unfold KeepAt; infer_instance

/-- Bits' conjunctions in another order. -/
theorem and_order : ∀ a b c d : BitVec 1, ((a &&& b) &&& c) &&& d = (a &&& c) &&& (b &&& d) := by decide

/-- The mask's bit at a row and a column. -/
theorem maskV_apply (x y : Fin 1024) : maskV (ix2 x y) = if KeepAt x.val y.val then 1#1 else 0#1 := by
  have h : maskV (ix2 x y)
      = ((injectW (IntOp.divsi .host (BitVec.ofNat 32 x.val) 32#32) (IntOp.divsi .host (BitVec.ofNat 32 y.val) 32#32)
          &&& injectW (IntOp.remsi .host (BitVec.ofNat 32 x.val) 32#32) (IntOp.remsi .host (BitVec.ofNat 32 y.val) 32#32))
          &&& matchW (IntOp.divsi .host (BitVec.ofNat 32 x.val) 32#32) (IntOp.divsi .host (BitVec.ofNat 32 y.val) 32#32))
          &&& matchW (IntOp.remsi .host (BitVec.ofNat 32 x.val) 32#32) (IntOp.remsi .host (BitVec.ofNat 32 y.val) 32#32) := rfl
  rw [h, and_order, div32, div32, rem32, rem32,
    keepW ⟨x.val / 32, by omega⟩ ⟨y.val / 32, by omega⟩, keepW ⟨x.val % 32, by omega⟩ ⟨y.val % 32, by omega⟩]
  unfold KeepAt
  by_cases h1 : Keep (x.val / 32) (y.val / 32) <;> by_cases h2 : Keep (x.val % 32) (y.val % 32) <;> simp [h1, h2]

/-! ## The kept elements -/

/-- The input where the mask is set, zero elsewhere. -/
def keptV (a : Vec Ideal S64x1024x1024 .f32) : Vec Ideal S64x1024x1024 .f32 :=
  select (broadcastInDim S64x1024x1024 ![0, 1, 2] bcast_S1x1024x1024_S64x1024x1024_0_1_2
      (broadcastInDim S1x1024x1024 ![1, 2] bcast_S1024x1024_S1x1024x1024_1_2 maskV)) a
    (broadcastInDim S64x1024x1024 ![] bcast_S_S64x1024x1024 (id (constant (F := Ideal) S_ .f32 0x00000000#32 : Vec Ideal S_ .f32)))

/-- A kept element. -/
theorem keptV_apply (a : Vec Ideal S64x1024x1024 .f32) (b : Fin 64) (x y : Fin 1024) :
    keptV a (ix3 b x y) = if KeepAt x.val y.val then a (ix3 b x y) else (0 : EReal) := by
  have h : keptV a (ix3 b x y) = Scalar.select (maskV (ix2 x y)) (a (ix3 b x y)) (FloatOps.ofBits (F := Ideal) .f32 0x00000000#32) := by
    unfold keptV select
    refine congrArg (fun c => Scalar.select c (a (ix3 b x y)) (FloatOps.ofBits (F := Ideal) .f32 0x00000000#32)) ?_
    refine congrArg maskV (funext fun k => ?_)
    match k with
    | ⟨0, _⟩ => rfl
    | ⟨1, _⟩ => rfl
  rw [h, maskV_apply]
  unfold Scalar.select
  by_cases hk : KeepAt x.val y.val
  · simp [hk]
  · simp [hk, Ideal.ofBits_zero_f32]

end Cert.ReferenceIdeal.QPool
-- ==== Proof.Pool.lean ====
/- The reference's value: each place of the result as a sum of at most four elements of the input. -/
module

public import proofs.«01_k».proof.Proof.Mask
public import proofs.«01_k».proof.Proof.Gen.ReferenceIdeal.Run
public import Idealize.ShloMosaic.Lib.IdealHost

@[expose] public section

noncomputable section

namespace Cert.ReferenceIdeal.QPool

open Cert.ReferenceIdeal Cert.ReferenceIdeal.Gen
open Idealize.ShloMosaic

/-! ## Indices -/

/-- The row (or column) number of coordinates `2 p + u` and `2 q + v`. -/
def rowOf (p : Fin 16) (u : Fin 2) (q : Fin 16) (v : Fin 2) : Fin 1024 := ⟨((p.val * 2 + u.val) * 16 + q.val) * 2 + v.val, by omega⟩

/-- An index of the input with every coordinate split in two. -/
def ixS (b : Fin 64) (p : Fin 16) (u : Fin 2) (q : Fin 16) (v : Fin 2) (r : Fin 16) (e : Fin 2) (w : Fin 16) (f : Fin 2) :
    S64x16x2x16x2x16x2x16x2.Idx :=
  fun a => match a with
    | ⟨0, _⟩ => b | ⟨1, _⟩ => p | ⟨2, _⟩ => u | ⟨3, _⟩ => q | ⟨4, _⟩ => v | ⟨5, _⟩ => r | ⟨6, _⟩ => e | ⟨7, _⟩ => w | ⟨8, _⟩ => f

/-- Row-major positions at rank 9. -/
theorem rowMajor_val_nine {d : Fin 9 → ℕ} (i : (⟨9, d⟩ : Shape).Idx) :
    ((⟨9, d⟩ : Shape).rowMajor i).val
      = ((((((((i 0).val * d 1 + (i 1).val) * d 2 + (i 2).val) * d 3 + (i 3).val) * d 4 + (i 4).val) * d 5 + (i 5).val) * d 6 + (i 6).val) * d 7
          + (i 7).val) * d 8 + (i 8).val := by
  show (Shape.rowMajorPi d i).val = _
  rw [Shape.rowMajorPi_succ_val, Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- The split input at a split index. -/
theorem split_apply {α : Type} (x : S64x1024x1024.Idx → α) (b : Fin 64) (p : Fin 16) (u : Fin 2) (q : Fin 16) (v : Fin 2) (r : Fin 16) (e : Fin 2)
    (w : Fin 16) (f : Fin 2) :
    shapeCast S64x16x2x16x2x16x2x16x2 x shapeCasts_S64x1024x1024_S64x16x2x16x2x16x2x16x2 (ixS b p u q v r e w f)
      = x (ix3 b (rowOf p u q v) (rowOf r e w f)) := by
  refine shapeCast_apply _ _ _ _ ?_
  refine (Shape.rowMajor_val_three (d := ![64, 1024, 1024]) _).trans (Eq.trans ?_ (rowMajor_val_nine (d := ![64, 16, 2, 16, 2, 16, 2, 16, 2]) (ixS b p u q v r e w f)).symm)
  show (b.val * 1024 + (((p.val * 2 + u.val) * 16 + q.val) * 2 + v.val)) * 1024 + (((r.val * 2 + e.val) * 16 + w.val) * 2 + f.val)
    = (((((((b.val * 16 + p.val) * 2 + u.val) * 16 + q.val) * 2 + v.val) * 16 + r.val) * 2 + e.val) * 16 + w.val) * 2 + f.val
  omega

/-! ## The sum over a pooled block -/

/-- The split indices over one index of the pooled array. -/
def fiberAt (b : Fin 64) (p q r w : Fin 16) (k : (Fin 2 × Fin 2) × (Fin 2 × Fin 2)) : S64x16x2x16x2x16x2x16x2.Idx :=
  ixS b p k.1.1 q k.1.2 r k.2.1 w k.2.2

/-- The sum of a split array over a pooled block. -/
theorem pool_apply (X : Vec Ideal S64x16x2x16x2x16x2x16x2 .f32) (b : Fin 64) (p q r w : Fin 16) :
    Host.reduceAdd (F := Ideal) X (constant S_ .f32 0x00000000#32) reducesTo_S64x16x2x16x2x16x2x16x2_S64x16x16x16x16_d2_4_6_8 h_S_ (ix5 b p q r w)
      = (∑ k : (Fin 2 × Fin 2) × (Fin 2 × Fin 2), X (fiberAt b p q r w k) : EReal) := by
  have hz : (constant (F := Ideal) S_ .f32 0x00000000#32 : Vec Ideal S_ .f32) (Shape.Idx.first h_S_) = (0 : EReal) := Ideal.ofBits_zero_f32
  show (constant (F := Ideal) S_ .f32 0x00000000#32 : Vec Ideal S_ .f32) (Shape.Idx.first h_S_)
    + ∑ i ∈ Finset.univ.filter (fun i => reducesTo_S64x16x2x16x2x16x2x16x2_S64x16x16x16x16_d2_4_6_8.drop i = ix5 b p q r w), X i = _
  rw [hz, zero_add]
  refine Finset.sum_filter_eq_sum_of_fiber _ (fiberAt b p q r w) ?_ ?_ X
  · intro k k' h
    exact Prod.ext (Prod.ext (congrFun h 2) (congrFun h 4)) (Prod.ext (congrFun h 6) (congrFun h 8))
  · intro i
    constructor
    · intro h
      refine ⟨((i 2, i 4), (i 6, i 8)), funext fun a => Fin.ext ?_⟩
      match a with
      | ⟨0, _⟩ => exact (congrArg Fin.val (congrFun h 0)).symm
      | ⟨1, _⟩ => exact (congrArg Fin.val (congrFun h 1)).symm
      | ⟨2, _⟩ => rfl
      | ⟨3, _⟩ => exact (congrArg Fin.val (congrFun h 2)).symm
      | ⟨4, _⟩ => rfl
      | ⟨5, _⟩ => exact (congrArg Fin.val (congrFun h 3)).symm
      | ⟨6, _⟩ => rfl
      | ⟨7, _⟩ => exact (congrArg Fin.val (congrFun h 4)).symm
      | ⟨8, _⟩ => rfl
    · rintro ⟨k, rfl⟩
      funext a
      refine Fin.ext ?_
      match a with
      | ⟨0, _⟩ => rfl
      | ⟨1, _⟩ => rfl
      | ⟨2, _⟩ => rfl
      | ⟨3, _⟩ => rfl
      | ⟨4, _⟩ => rfl

/-- What is kept in a pooled block. -/
theorem keepAt_rowOf (p q r w : Fin 16) (u v e f : Fin 2) :
    KeepAt (rowOf p u q v).val (rowOf r e w f).val ↔ (u = e ∧ (u = 0 ∨ p = r)) ∧ (v = f ∧ (v = 0 ∨ q = w)) := by
  have h1 : (rowOf p u q v).val / 32 = 2 * p.val + u.val := by unfold rowOf; dsimp only; omega
  have h2 : (rowOf p u q v).val % 32 = 2 * q.val + v.val := by unfold rowOf; dsimp only; omega
  have h3 : (rowOf r e w f).val / 32 = 2 * r.val + e.val := by unfold rowOf; dsimp only; omega
  have h4 : (rowOf r e w f).val % 32 = 2 * w.val + f.val := by unfold rowOf; dsimp only; omega
  unfold KeepAt Keep
  rw [h1, h2, h3, h4]
  simp only [Fin.ext_iff, Fin.val_zero]
  omega

/-- The four elements that a place of the result gathers. -/
def pooled (a : Vec Ideal S64x1024x1024 .f32) (b : Fin 64) (p q r w : Fin 16) : EReal :=
  let at' (u v : Fin 2) : EReal := a (ix3 b (rowOf p u q v) (rowOf r u w v))
  at' 0 0 + (if q = w then at' 0 1 else 0) + (if p = r then at' 1 0 + (if q = w then at' 1 1 else 0) else 0)

/-- The kept elements' sum over a pooled block is those four's. -/
theorem kept_sum (a : Vec Ideal S64x1024x1024 .f32) (b : Fin 64) (p q r w : Fin 16) :
    (∑ k : (Fin 2 × Fin 2) × (Fin 2 × Fin 2), (shapeCast S64x16x2x16x2x16x2x16x2 (keptV a) shapeCasts_S64x1024x1024_S64x16x2x16x2x16x2x16x2
      (fiberAt b p q r w k) : EReal)) = pooled a b p q r w := by
  simp only [Fintype.sum_prod_type, Fin.sum_univ_two, fiberAt, split_apply, keptV_apply, keepAt_rowOf]
  unfold pooled
  by_cases hp : p = r <;> by_cases hq : q = w <;> simp [hp, hq, add_assoc]

/-- The reference's result as a function of the input. -/
def refV (a : Vec Ideal S64x1024x1024 .f32) : Vec Ideal S64x256x256 .f32 :=
  shapeCast S64x256x256 (Host.reduceAdd (F := Ideal) (shapeCast S64x16x2x16x2x16x2x16x2 (keptV a) shapeCasts_S64x1024x1024_S64x16x2x16x2x16x2x16x2)
    (constant S_ .f32 0x00000000#32) reducesTo_S64x16x2x16x2x16x2x16x2_S64x16x16x16x16_d2_4_6_8 h_S_) shapeCasts_S64x16x16x16x16_S64x256x256

/-- The program's result term is that function. -/
theorem res_eq (m : (ℓ : Loc nD τ sig) → Buf (Elt Ideal) ℓ) (c : Dev nD) :
    Value.res_out0 (F := Ideal) m c = refV (m ((c.tc : Thread nD τ).loc main_arg0)) := rfl

/-- The block, row and column coordinates of a place of the result. -/
def hi (n : Fin 256) : Fin 16 := ⟨n.val / 16, by omega⟩
def lo (n : Fin 256) : Fin 16 := ⟨n.val % 16, by omega⟩

/-- The reference's result at a place. -/
theorem refV_apply (a : Vec Ideal S64x1024x1024 .f32) (J : S64x256x256.Idx) :
    refV a J = pooled a (J 0) (hi (J 1)) (lo (J 1)) (hi (J 2)) (lo (J 2)) := by
  have h1 : (J 1).val < 256 := (J 1).isLt
  have h2 : (J 2).val < 256 := (J 2).isLt
  unfold refV
  refine (shapeCast_apply _ _ J (ix5 (J 0 : Fin 64) (hi (J 1)) (lo (J 1)) (hi (J 2)) (lo (J 2))) ?_).trans ?_
  · refine (Shape.rowMajor_val_five (d := ![64, 16, 16, 16, 16]) _).trans (Eq.trans ?_ (Shape.rowMajor_val_three (d := ![64, 256, 256]) J).symm)
    show ((((J 0).val * 16 + (J 1).val / 16) * 16 + (J 1).val % 16) * 16 + (J 2).val / 16) * 16 + (J 2).val % 16
      = ((J 0).val * 256 + (J 1).val) * 256 + (J 2).val
    omega
  · exact (pool_apply _ _ _ _ _ _).trans (kept_sum a _ _ _ _ _)

end Cert.ReferenceIdeal.QPool
-- ==== Proof.Equal.lean ====
/- The kernel's result and the reference's are the same array, over the extended reals. -/
module

public import proofs.«01_k».proof.Proof.IdealLaunch
public import proofs.«01_k».proof.Proof.Pool

@[expose] public section

noncomputable section

namespace Cert.KernelIdeal.QPool

open Cert.KernelIdeal Cert.KernelIdeal.Gen
open Idealize.ShloMosaic
open Cert.ReferenceIdeal.QPool (rowOf pooled hi lo refV refV_apply)

variable (a : Vec Ideal S64x1024x1024 .f32)

/-- The regrouped input at an index. -/
theorem regroup_apply (b : Fin 64) (p : Fin 16) (u : Fin 2) (q : Fin 16) (v : Fin 2) (r : Fin 16) (e : Fin 2) (w : Fin 16) (f : Fin 2) (W : Fin 32)
    (hW : W.val = 16 * e.val + w.val) :
    regroup (F := Ideal) a (ixR b p u q v r W f) = a (ix3 b (rowOf p u q v) (rowOf r e w f)) := by
  refine shapeCast_apply _ _ _ _ ?_
  refine (Shape.rowMajor_val_three (d := ![64, 1024, 1024]) _).trans (Eq.trans ?_ (rowMajor_val_eight (d := ![64, 16, 2, 16, 2, 16, 32, 2]) (ixR b p u q v r W f)).symm)
  show (b.val * 1024 + (((p.val * 2 + u.val) * 16 + q.val) * 2 + v.val)) * 1024 + (((r.val * 2 + e.val) * 16 + w.val) * 2 + f.val)
    = ((((((b.val * 16 + p.val) * 2 + u.val) * 16 + q.val) * 2 + v.val) * 16 + r.val) * 32 + W.val) * 2 + f.val
  omega

/-- The first block at an index. -/
theorem ab_apply (b : Fin 64) (p q : Fin 16) (v : Fin 2) (r w : Fin 16) (f : Fin 2) :
    abOf (regroup (F := Ideal) a) b p (ValueIdx.ix5 q v r w f) = a (ix3 b (rowOf p 0 q v) (rowOf r 0 w f)) :=
  regroup_apply a b p 0 q v r 0 w f _ (by show w.val = 16 * 0 + w.val; omega)

/-- The second block at an index. -/
theorem cd_apply (b : Fin 64) (p q : Fin 16) (v : Fin 2) (w : Fin 16) (f : Fin 2) :
    cdOf (regroup (F := Ideal) a) b p (ValueIdx.ix4 q v w f) = a (ix3 b (rowOf p 1 q v) (rowOf p 1 w f)) :=
  regroup_apply a b p 1 q v p 1 w f _ (by show 16 + w.val = 16 * 1 + w.val; omega)

/-- A place of the kernel's result gathers the same four elements as the reference's. -/
theorem cell_eq (b : Fin 64) (p : Fin 16) (j : S16x256.Idx) :
    cellVal (F := Ideal) (abOf (regroup (F := Ideal) a) b p) (cdOf (regroup (F := Ideal) a) b p) p.val j
      = pooled a b p (qc j) (rc j) (wc j) := by
  unfold cellVal scatVal bandVal laneVal diagVal pooled
  simp only [ab_apply, cd_apply, Ideal.idxAddf_def, Ideal.addf_def, Ideal.ofBits_def]
  generalize qc j = q, rc j = r, wc j = w
  by_cases hp : p = r
  · subst hp
    by_cases hq : q = w
    · subst hq; simp
    · have hq' : ¬ w = q := fun h => hq h.symm
      simp [hq, hq', Ideal.ofBits_zero_f32]
  · have hp' : ¬ r.val = p.val := fun h => hp (Fin.ext h.symm)
    by_cases hq : q = w
    · subst hq; simp [hp, hp']
    · have hq' : ¬ w = q := fun h => hq h.symm
      simp [hp, hp', hq, hq']

/-- The two results are equal. -/
theorem result_eq : (resR (regroup (F := Ideal) a) : Vec Ideal S64x256x256 .f32) = refV a := by
  funext J
  rw [refV_apply]
  exact cell_eq a (bc J) (prc J) (inb J)

end Cert.KernelIdeal.QPool
-- ==== Proof.lean ====
module

public import proofs.«01_k».proof.Defs
public import proofs.«01_k».proof.Proof.Launch
public import proofs.«01_k».proof.Proof.IdealLaunch
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's frame, over the bits. -/
theorem frame_kernel : Cert.quiescent_Kernel := fun m ρ _ =>
  (θ_run _ _ _).mono (fun _ h => ⟨fun c => (h.1 c).1, h.2⟩) (Cert.Kernel.QPool.run_main (F := Bits) m ρ)

/-- The idealization's frame. -/
theorem frame_ideal : Cert.quiescent_KernelIdeal := fun m ρ _ =>
  (θ_run _ _ _).mono (fun _ h => ⟨fun c => (h.1 c).1, h.2⟩) (Cert.KernelIdeal.QPool.run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and reference end with the same result when they start from the same argument. -/
theorem algebraic : Cert.algebraic_KernelIdeal_ReferenceIdeal := by
  intro m ρ m' ρ' _ hagree
  refine ⟨fun c => Cert.KernelIdeal.QPool.resR (Cert.KernelIdeal.QPool.srcX m c),
    (θ_run _ _ _).mono (fun _ h c => ⟨(h.1 c).2, (h.1 c).1⟩) (Cert.KernelIdeal.QPool.run_main (F := Ideal) m ρ),
    (θ_run Cert.ReferenceIdeal.defs _ _).mono (fun _ h c => ⟨(h c).1.trans ?_, (h c).2⟩) (Cert.ReferenceIdeal.Value.run (F := Ideal) m' ρ')⟩
  refine (Cert.ReferenceIdeal.QPool.res_eq m' c).trans ?_
  refine (congrArg Cert.ReferenceIdeal.QPool.refV (hagree c)).trans ?_
  exact (Cert.KernelIdeal.QPool.result_eq _).symm

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
